-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20)
      ∧ r.2.mem ((c.tc : Thread Cert.Kernel2.nD Cert.Kernel2.τ).loc Cert.Kernel2.main_arg21) = m ((c.tc : Thread Cert.Kernel2.nD Cert.Kernel2.τ).loc Cert.Kernel2.main_arg21))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.shift_out.By16TwiceStatement Cert.Kernel2Ideal.S8x1

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)
      ∧ m' ((c.tc : Thread Cert.Reference2Ideal.nD Cert.Reference2Ideal.τ).loc Cert.Reference2Ideal.main_arg21) = m ((c.tc : Thread Cert.Kernel2Ideal.nD Cert.Kernel2Ideal.τ).loc Cert.Kernel2Ideal.main_arg21)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
          ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v350) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20)
          ∧ r.2.mem ((c.tc : Thread Cert.Reference2Ideal.nD Cert.Reference2Ideal.τ).loc Cert.Reference2Ideal.main_arg21) = m' ((c.tc : Thread Cert.Reference2Ideal.nD Cert.Reference2Ideal.τ).loc Cert.Reference2Ideal.main_arg21))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)) (v4 : (c : Dev Cert.Kernel3Ideal.nD) → Buf (Elt Ideal) ((c.tc : Thread Cert.Kernel3Ideal.nD Cert.Kernel3Ideal.τ).loc Cert.Kernel3Ideal.main_v30_4)) (v5 : (c : Dev Cert.Kernel3Ideal.nD) → Buf (Elt Ideal) ((c.tc : Thread Cert.Kernel3Ideal.nD Cert.Kernel3Ideal.τ).loc Cert.Kernel3Ideal.main_v30_5)) (v6 : (c : Dev Cert.Kernel3Ideal.nD) → Buf (Elt Ideal) ((c.tc : Thread Cert.Kernel3Ideal.nD Cert.Kernel3Ideal.τ).loc Cert.Kernel3Ideal.main_v30_6)) (v7 : (c : Dev Cert.Kernel3Ideal.nD) → Buf (Elt Ideal) ((c.tc : Thread Cert.Kernel3Ideal.nD Cert.Kernel3Ideal.τ).loc Cert.Kernel3Ideal.main_v30_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_v30_4) = v4 c
          ∧ r.2.mem ((c.tc : Thread Cert.Kernel3Ideal.nD Cert.Kernel3Ideal.τ).loc Cert.Kernel3Ideal.main_v30_5) = v5 c
          ∧ r.2.mem ((c.tc : Thread Cert.Kernel3Ideal.nD Cert.Kernel3Ideal.τ).loc Cert.Kernel3Ideal.main_v30_6) = v6 c
          ∧ r.2.mem ((c.tc : Thread Cert.Kernel3Ideal.nD Cert.Kernel3Ideal.τ).loc Cert.Kernel3Ideal.main_v30_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_v85) = v2 c
          ∧ r.2.mem ((c.tc : Thread Cert.Reference3Ideal.nD Cert.Reference3Ideal.τ).loc Cert.Reference3Ideal.main_v93) = v3 c
          ∧ r.2.mem ((c.tc : Thread Cert.Reference3Ideal.nD Cert.Reference3Ideal.τ).loc Cert.Reference3Ideal.main_v97) = v4 c
          ∧ r.2.mem ((c.tc : Thread Cert.Reference3Ideal.nD Cert.Reference3Ideal.τ).loc Cert.Reference3Ideal.main_v99) = v5 c
          ∧ r.2.mem ((c.tc : Thread Cert.Reference3Ideal.nD Cert.Reference3Ideal.τ).loc Cert.Reference3Ideal.main_v101) = v6 c
          ∧ r.2.mem ((c.tc : Thread Cert.Reference3Ideal.nD Cert.Reference3Ideal.τ).loc Cert.Reference3Ideal.main_v109) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16384x512 : Shape := ⟨2, ![16384, 512]⟩
abbrev S4x512x4096 : Shape := ⟨3, ![4, 512, 4096]⟩
abbrev S2x64 : Shape := ⟨2, ![2, 64]⟩
abbrev S2x128 : Shape := ⟨2, ![2, 128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x512x4096 : S_.BroadcastsInDim S4x512x4096 (![] : Fin 0 → Fin S4x512x4096.rank)
  reducesTo_S4x512x4096_S_d0_1_2 : S4x512x4096.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_v31 : IVec S_ 1) (main_v34 : IVec S2x64 1) : IVec S_ 1 :=
  let main_c_11 : IVec S_ 1 := constantI S_ 1 1#1
  let main_v35 : IVec S_ 1 := (fun x v => Host.reduce IntOp.andi x v reducesTo_S2x64_S_d0_1 h_S_) main_v34 main_c_11
  let main_v36 : IVec S_ 1 := andi main_v31 main_v35
  main_v36

def fn_part1 {F : FTy → Type} [FloatOps F] (main_arg4 : FVec F S2x64 .f32) (main_arg5 : FVec F S2x64 .f32) (main_arg6 : FVec F S2x64 .f32) (main_v16 : IVec S_ 1) (main_v17 : FVec F S2x64 .f32) : IVec S_ 1 :=
  let main_cst_4 : FVec F S_ .f32 := constant S_ .f32 0x7F800000#32
  let main_v18 : FVec F S2x64 .f32 := broadcastInDim S2x64 ![] bcast_S_S2x64 main_cst_4
  let main_v19 : IVec S2x64 1 := cmpf .olt main_v17 main_v18
  let main_c_5 : IVec S_ 1 := constantI S_ 1 1#1
  let main_v20 : IVec S_ 1 := (fun x v => Host.reduce IntOp.andi x v reducesTo_S2x64_S_d0_1 h_S_) main_v19 main_c_5
  let main_v21 : IVec S_ 1 := andi main_v16 main_v20
  let main_v22 : FVec F S2x64 .f32 := Host.absf main_arg4
  let main_cst_6 : FVec F S_ .f32 := constant S_ .f32 0x7F800000#32
  let main_v23 : FVec F S2x64 .f32 := broadcastInDim S2x64 ![] bcast_S_S2x64 main_cst_6
  let main_v24 : IVec S2x64 1 := cmpf .olt main_v22 main_v23
  let main_c_7 : IVec S_ 1 := constantI S_ 1 1#1
  let main_v25 : IVec S_ 1 := (fun x v => Host.reduce IntOp.andi x v reducesTo_S2x64_S_d0_1 h_S_) main_v24 main_c_7
  let main_v26 : IVec S_ 1 := andi main_v21 main_v25
  let main_v27 : FVec F S2x64 .f32 := Host.absf main_arg5
  let main_cst_8 : FVec F S_ .f32 := constant S_ .f32 0x7F800000#32
  let main_v28 : FVec F S2x64 .f32 := broadcastInDim S2x64 ![] bcast_S_S2x64 main_cst_8
  let main_v29 : IVec S2x64 1 := cmpf .olt main_v27 main_v28
  let main_c_9 : IVec S_ 1 := constantI S_ 1 1#1
  let main_v30 : IVec S_ 1 := (fun x v => Host.reduce IntOp.andi x v reducesTo_S2x64_S_d0_1 h_S_) main_v29 main_c_9
  let main_v31 : IVec S_ 1 := andi main_v26 main_v30
  let main_v32 : FVec F S2x64 .f32 := Host.absf main_arg6
  let main_cst_10 : FVec F S_ .f32 := constant S_ .f32 0x7F800000#32
  let main_v33 : FVec F S2x64 .f32 := broadcastInDim S2x64 ![] bcast_S_S2x64 main_cst_10
  let main_v34 : IVec S2x64 1 := cmpf .olt main_v32 main_v33
  fn_part2 (F := F) main_v31 main_v34

def fn {F : FTy → Type} [FloatOps F] (main_arg0 : FVec F S16384x512 .bf16) (main_arg1 : FVec F S4x512x4096 .bf16) (main_arg2 : FVec F S16384x512 .bf16) (main_arg3 : FVec F S2x64 .f32) (main_arg4 : FVec F S2x64 .f32) (main_arg5 : FVec F S2x64 .f32) (main_arg6 : FVec F S2x64 .f32) (main_arg7 : FVec F S2x128 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S4x512x4096 .f32 := (extf .f32 · bitsLt_bf16_f32) main_arg1
  let main_v6 : FVec F S4x512x4096 .f32 := Host.absf main_v5
  let main_cst_0 : FVec F S_ .f32 := constant S_ .f32 0x7F800000#32
  let main_v7 : FVec F S4x512x4096 .f32 := broadcastInDim S4x512x4096 ![] bcast_S_S4x512x4096 main_cst_0
  let main_v8 : IVec S4x512x4096 1 := cmpf .olt main_v6 main_v7
  let main_c_1 : IVec S_ 1 := constantI S_ 1 1#1
  let main_v9 : IVec S_ 1 := (fun x v => Host.reduce IntOp.andi x v reducesTo_S4x512x4096_S_d0_1_2 h_S_) main_v8 main_c_1
  let main_v10 : IVec S_ 1 := andi main_v4 main_v9
  let main_v11 : FVec F S16384x512 .f32 := (extf .f32 · bitsLt_bf16_f32) main_arg2
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_c_3 : IVec S_ 1 := constantI S_ 1 1#1
  let main_v15 : IVec S_ 1 := (fun x v => Host.reduce IntOp.andi x v reducesTo_S16384x512_S_d0_1 h_S_) main_v14 main_c_3
  let main_v16 : IVec S_ 1 := andi main_v10 main_v15
  let main_v17 : FVec F S2x64 .f32 := Host.absf main_arg3
  fn_part1 (F := F) main_arg4 main_arg5 main_arg6 main_v16 main_v17
-- ==== Kernel.lean ====
abbrev S16384x512 : Shape := ⟨2, ![16384, 512]⟩
abbrev S4x512x4096 : Shape := ⟨3, ![4, 512, 4096]⟩
abbrev S2x64 : Shape := ⟨2, ![2, 64]⟩
abbrev S2x128 : Shape := ⟨2, ![2, 128]⟩
abbrev S2x1x128 : Shape := ⟨3, ![2, 1, 128]⟩
abbrev S2x1x64 : Shape := ⟨3, ![2, 1, 64]⟩
abbrev S2048x128 : Shape := ⟨2, ![2048, 128]⟩
abbrev S1x128x4096 : Shape := ⟨3, ![1, 128, 4096]⟩
abbrev S4096x128 : Shape := ⟨2, ![4096, 128]⟩
abbrev S1x1x64 : Shape := ⟨3, ![1, 1, 64]⟩
abbrev S1x1x128 : Shape := ⟨3, ![1, 1, 128]⟩
abbrev S4096x256 : Shape := ⟨2, ![4096, 256]⟩
abbrev S1x64 : Shape := ⟨2, ![1, 64]⟩
abbrev S1 : Shape := ⟨1, ![1]⟩
abbrev S1x1 : Shape := ⟨2, ![1, 1]⟩
abbrev S128x128 : Shape := ⟨2, ![128, 128]⟩
abbrev S256x128 : Shape := ⟨2, ![256, 128]⟩
abbrev S1x128x1024 : Shape := ⟨3, ![1, 128, 1024]⟩
abbrev S128x1024 : Shape := ⟨2, ![128, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x128 : Shape := ⟨2, ![1, 128]⟩
abbrev S128 : Shape := ⟨1, ![128]⟩
abbrev S128x1 : Shape := ⟨2, ![128, 1]⟩

abbrev nBuf : Space → Nat
  | .hbm => 14
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S4x512x4096, .bf16⟩
  | .hbm, ⟨2, _⟩ => ⟨S16384x512, .bf16⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S2x1x128, .f32⟩
  | .hbm, ⟨9, _⟩ => ⟨S2x1x64, .f32⟩
  | .hbm, ⟨10, _⟩ => ⟨S2x1x64, .f32⟩
  | .hbm, ⟨11, _⟩ => ⟨S2x1x64, .f32⟩
  | .hbm, ⟨12, _⟩ => ⟨S2x1x64, .f32⟩
  | .hbm, ⟨13, _⟩ => ⟨S16384x512, .bf16⟩
  | .local _ .vmem, ⟨0, _⟩ => ⟨S2048x128, .bf16⟩
  | .local _ .vmem, ⟨1, _⟩ => ⟨S2048x128, .bf16⟩
  | .local _ .vmem, ⟨2, _⟩ => ⟨S1x128x4096, .bf16⟩
  | .local _ .vmem, ⟨3, _⟩ => ⟨S1x128x4096, .bf16⟩
  | .local _ .vmem, ⟨4, _⟩ => ⟨S4096x128, .bf16⟩
  | .local _ .vmem, ⟨5, _⟩ => ⟨S4096x128, .bf16⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x128, .f32⟩
  | .local _ .vmem, ⟨11, _⟩ => ⟨S2048x128, .bf16⟩
  | .local _ .vmem, ⟨12, _⟩ => ⟨S2048x128, .bf16⟩
  | .local _ .vmem, ⟨13, _⟩ => ⟨S4096x256, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x512 : Shape := ⟨2, ![16384, 512]⟩
abbrev S4x512x4096 : Shape := ⟨3, ![4, 512, 4096]⟩
abbrev S2x64 : Shape := ⟨2, ![2, 64]⟩
abbrev S2x128 : Shape := ⟨2, ![2, 128]⟩
abbrev S4x4096x4x2x64 : Shape := ⟨5, ![4, 4096, 4, 2, 64]⟩
abbrev S4x4x2x4096x64 : Shape := ⟨5, ![4, 4, 2, 4096, 64]⟩
abbrev S4x4x2x64x4096 : Shape := ⟨5, ![4, 4, 2, 64, 4096]⟩
abbrev S4x4096x4x128 : Shape := ⟨4, ![4, 4096, 4, 128]⟩
abbrev S4x4x4096x128 : Shape := ⟨4, ![4, 4, 4096, 128]⟩
abbrev S1x64 : Shape := ⟨2, ![1, 64]⟩
abbrev S64 : Shape := ⟨1, ![64]⟩
abbrev S_ : Shape := ⟨0, ![]⟩
abbrev S4x4x2x4096x4096 : Shape := ⟨5, ![4, 4, 2, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4x512x4096, .bf16⟩
  | .hbm, ⟨2, _⟩ => ⟨S16384x512, .bf16⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S16384x512, .f32⟩
  | .hbm, ⟨9, _⟩ => ⟨S4x4096x4x2x64, .f32⟩
  | .hbm, ⟨10, _⟩ => ⟨S4x4x2x4096x64, .f32⟩
  | .hbm, ⟨11, _⟩ => ⟨S4x512x4096, .f32⟩
  | .hbm, ⟨12, _⟩ => ⟨S4x4x2x64x4096, .f32⟩
  | .hbm, ⟨13, _⟩ => ⟨S16384x512, .f32⟩
  | .hbm, ⟨14, _⟩ => ⟨S4x4096x4x128, .f32⟩
  | .hbm, ⟨15, _⟩ => ⟨S4x4x4096x128, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x4x2x4096x4096, .f32⟩
  | .hbm, ⟨36, _⟩ => ⟨S_, .f32⟩
  | .hbm, ⟨37, _⟩ => ⟨S_, .f32⟩
  | .hbm, ⟨38, _⟩ => ⟨S4x4x2x4096x4096, .f32⟩
  | .hbm, ⟨39, _⟩ => ⟨S4x4x2x4096x4096, .f32⟩
  | .hbm, ⟨40, _⟩ => ⟨S_, .f32⟩
  | .hbm, ⟨41, _⟩ => ⟨S4x4x2x4096, .f32⟩
  | .hbm, ⟨42, _⟩ => ⟨S_, .f32⟩
  | .hbm, ⟨43, _⟩ => ⟨S4x4x2x4096, .f32⟩
  | .hbm, ⟨44, _⟩ => ⟨S4x4x2x4096, .f32⟩
  | .hbm, ⟨45, _⟩ => ⟨S4x4x2x4096x1, .f32⟩
  | .hbm, ⟨46, _⟩ => ⟨S4x4x2x4096x4096, .f32⟩
  | .hbm, ⟨47, _⟩ => ⟨S4x4x2x4096x4096, .f32⟩
  | .hbm, ⟨48, _⟩ => ⟨S4x4x2x4096x4096, .f32⟩
  | .hbm, ⟨49, _⟩ => ⟨S_, .f32⟩
  | .hbm, ⟨50, _⟩ => ⟨S4x4x2x4096, .f32⟩
  | .hbm, ⟨51, _⟩ => ⟨S4x4x2x4096x1, .f32⟩
  | .hbm, ⟨52, _⟩ => ⟨S4x4x2x4096x4096, .f32⟩
  | .hbm, ⟨53, _⟩ => ⟨S4x4x2x4096x4096, .f32⟩
  | .hbm, ⟨54, _⟩ => ⟨S4x4x1x4096x4096, .f32⟩
  | .hbm, ⟨55, _⟩ => ⟨S4x4x4096x4096, .f32⟩
  | .hbm, ⟨56, _⟩ => ⟨S4x4x1x4096x4096, .f32⟩
  | .hbm, ⟨57, _⟩ => ⟨S4x4x4096x4096, .f32⟩
  | .hbm, ⟨58, _⟩ => ⟨S4x4x4096x4096, .f32⟩
  | .hbm, ⟨59, _⟩ => ⟨S4x4x4096x4096, .f32⟩
  | .hbm, ⟨60, _⟩ => ⟨S4x4x4096x4096, .f32⟩
  | .hbm, ⟨61, _⟩ => ⟨S4x4x4096x128, .f32⟩
  | .hbm, ⟨62, _⟩ => ⟨S4x4x4096x128, .f32⟩
  | .hbm, ⟨63, _⟩ => ⟨S_, .f32⟩
  | .hbm, ⟨64, _⟩ => ⟨S4x4x4096, .f32⟩
  | .hbm, ⟨65, _⟩ => ⟨S4x4x4096x1, .f32⟩
  | .hbm, ⟨66, _⟩ => ⟨S_, .f32⟩
  | .hbm, ⟨67, _⟩ => ⟨S4x4x4096x1, .f32⟩
  | .hbm, ⟨68, _⟩ => ⟨S4x4x4096x1, .f32⟩
  | .hbm, ⟨69, _⟩ => ⟨S_, .f32⟩
  | .hbm, ⟨70, _⟩ => ⟨S4x4x4096x1, .f32⟩
  | .hbm, ⟨71, _⟩ => ⟨S4x4x4096x1, .f32⟩
  | .hbm, ⟨72, _⟩ => ⟨S4x4x4096x1, .f32⟩
  | .hbm, ⟨73, _⟩ => ⟨S4x4x4096x128, .f32⟩
  | .hbm, ⟨74, _⟩ => ⟨S4x4x4096x128, .f32⟩
  | .hbm, ⟨75, _⟩ => ⟨S1x128, .f32⟩
  | .hbm, ⟨76, _⟩ => ⟨S128, .f32⟩
  | .hbm, ⟨77, _⟩ => ⟨S1x1x1x128, .f32⟩
  | .hbm, ⟨78, _⟩ => ⟨S4x4x4096x128, .f32⟩
  | .hbm, ⟨79, _⟩ => ⟨S4x4x4096x128, .f32⟩
  | .hbm, ⟨80, _⟩ => ⟨S_, .f32⟩
  | .hbm, ⟨81, _⟩ => ⟨S4x4x4096x128, .f32⟩
  | .hbm, ⟨82, _⟩ => ⟨S4x4x4096x128, .f32⟩
  | .hbm, ⟨83, _⟩ => ⟨S4x4096x4x128, .f32⟩
  | .hbm, ⟨84, _⟩ => ⟨S16384x512, .f32⟩
  | .hbm, ⟨85, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S16384x3072 : Shape := ⟨2, ![16384, 3072]⟩
abbrev S2x4x4096x256 : Shape := ⟨4, ![2, 4, 4096, 256]⟩
abbrev S2x31x1x512 : Shape := ⟨4, ![2, 31, 1, 512]⟩
abbrev S2x512 : Shape := ⟨2, ![2, 512]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S1024 : Shape := ⟨1, ![1024]⟩
abbrev S2x16384x256 : Shape := ⟨3, ![2, 16384, 256]⟩
abbrev S2x1x1024 : Shape := ⟨3, ![2, 1, 1024]⟩
abbrev S2x31x512 : Shape := ⟨3, ![2, 31, 512]⟩
abbrev S2x1x512 : Shape := ⟨3, ![2, 1, 512]⟩
abbrev S1x1024 : Shape := ⟨2, ![1, 1024]⟩
abbrev S4x4096x512 : Shape := ⟨3, ![4, 4096, 512]⟩
abbrev S256x1024 : Shape := ⟨2, ![256, 1024]⟩
abbrev S256x512 : Shape := ⟨2, ![256, 512]⟩
abbrev S256x3072 : Shape := ⟨2, ![256, 3072]⟩
abbrev S1x256x256 : Shape := ⟨3, ![1, 256, 256]⟩
abbrev S1x16x512 : Shape := ⟨3, ![1, 16, 512]⟩
abbrev S1x256x512 : Shape := ⟨3, ![1, 256, 512]⟩
abbrev S1x31x512 : Shape := ⟨3, ![1, 31, 512]⟩
abbrev S1x1x512 : Shape := ⟨3, ![1, 1, 512]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S288x512 : Shape := ⟨2, ![288, 512]⟩
abbrev S16x512 : Shape := ⟨2, ![16, 512]⟩
abbrev S72x256 : Shape := ⟨2, ![72, 256]⟩
abbrev S1x1x256 : Shape := ⟨3, ![1, 1, 256]⟩
abbrev S1x256 : Shape := ⟨2, ![1, 256]⟩
abbrev S64x256 : Shape := ⟨2, ![64, 256]⟩
abbrev S64x512 : Shape := ⟨2, ![64, 512]⟩
abbrev S1x512 : Shape := ⟨2, ![1, 512]⟩
abbrev S8x512 : Shape := ⟨2, ![8, 512]⟩
abbrev S8 : Shape := ⟨1, ![8]⟩
abbrev S8x1 : Shape := ⟨2, ![8, 1]⟩
abbrev S512x1024 : Shape := ⟨2, ![512, 1024]⟩
abbrev S1024x1024 : Shape := ⟨2, ![1024, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩
abbrev S1x1 : Shape := ⟨2, ![1, 1]⟩
abbrev S256x256 : Shape := ⟨2, ![256, 256]⟩

abbrev nBuf : Space → Nat
  | .hbm => 41
  | .vmem => 39
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .bf16⟩
  | .hbm, ⟨4, _⟩ => ⟨S16384x3072, .bf16⟩
  | .hbm, ⟨5, _⟩ => ⟨S2x4x4096x256, .f32⟩
  | .hbm, ⟨6, _⟩ => ⟨S2x31x1x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S2x512x1024, .f32⟩
  | .hbm, ⟨11, _⟩ => ⟨S2x512x1024, .f32⟩
  | .hbm, ⟨12, _⟩ => ⟨S2x512x1024, .f32⟩
  | .hbm, ⟨13, _⟩ => ⟨S2x1024x1024, .f32⟩
  | .hbm, ⟨14, _⟩ => ⟨S2x1024, .f32⟩
  | .hbm, ⟨15, _⟩ => ⟨S2x1024x2816, .f32⟩
  | .hbm, ⟨16, _⟩ => ⟨S2x1024x2816, .f32⟩
  | .hbm, ⟨17, _⟩ => ⟨S2x2816x1024, .f32⟩
  | .hbm, ⟨18, _⟩ => ⟨S2x1024, .f32⟩
  | .hbm, ⟨19, _⟩ => ⟨S2x256x1024, .f32⟩
  | .hbm, ⟨20, _⟩ => ⟨S2x1024x1024, .f32⟩
  | .hbm, ⟨21, _⟩ => ⟨S1024, .f32⟩
  | .hbm, ⟨22, _⟩ => ⟨S2x16384x256, .f32⟩
  | .hbm, ⟨23, _⟩ => ⟨S2x1x1024, .f32⟩
  | .hbm, ⟨24, _⟩ => ⟨S2x1x1024, .f32⟩
  | .hbm, ⟨25, _⟩ => ⟨S2x31x512, .f32⟩
  | .hbm, ⟨26, _⟩ => ⟨S2x1x512, .f32⟩
  | .hbm, ⟨27, _⟩ => ⟨S2x1x512, .f32⟩
  | .hbm, ⟨28, _⟩ => ⟨S2x1x512, .f32⟩
  | .hbm, ⟨29, _⟩ => ⟨S2x512x1024, .bf16⟩
  | .hbm, ⟨30, _⟩ => ⟨S2x512x1024, .bf16⟩
  | .hbm, ⟨31, _⟩ => ⟨S2x512x1024, .bf16⟩
  | .hbm, ⟨32, _⟩ => ⟨S2x1024x1024, .bf16⟩
  | .hbm, ⟨33, _⟩ => ⟨S2x1024x2816, .bf16⟩
  | .hbm, ⟨34, _⟩ => ⟨S2x1024x2816, .bf16⟩
  | .hbm, ⟨35, _⟩ => ⟨S2x2816x1024, .bf16⟩
  | .hbm, ⟨36, _⟩ => ⟨S2x1024x1024, .bf16⟩
  | .hbm, ⟨37, _⟩ => ⟨S2x256x1024, .bf16⟩
  | .hbm, ⟨38, _⟩ => ⟨S1x1024, .f32⟩
  | .hbm, ⟨39, _⟩ => ⟨S4x4096x512, .f32⟩
  | .hbm, ⟨40, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x3072, .bf16⟩
  | .local _ .vmem, ⟨7, _⟩ => ⟨S256x3072, .bf16⟩
  | .local _ .vmem, ⟨8, _⟩ => ⟨S1x256x256, .f32⟩
  | .local _ .vmem, ⟨9, _⟩ => ⟨S1x256x256, .f32⟩
  | .local _ .vmem, ⟨10, _⟩ => ⟨S1x16x512, .f32⟩
  | .local _ .vmem, ⟨11, _⟩ => ⟨S1x256x512, .f32⟩
  | .local _ .vmem, ⟨12, _⟩ => ⟨S1x16x512, .f32⟩
  | .local _ .vmem, ⟨13, _⟩ => ⟨S1x16x512, .f32⟩
  | .local _ .vmem, ⟨14, _⟩ => ⟨S1x16x512, .f32⟩
  | .local _ .vmem, ⟨15, _⟩ => ⟨S1x256x512, .f32⟩
  | .local _ .vmem, ⟨16, _⟩ => ⟨S1x256x512, .f32⟩
  | .local _ .vmem, ⟨17, _⟩ => ⟨S1x16x512, .f32⟩
  | .local _ .vmem, ⟨18, _⟩ => ⟨S1x16x512, .f32⟩
  | .local _ .vmem, ⟨19, _⟩ => ⟨S1x31x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x1024x1024, .bf16⟩
  | .local _ .vmem, ⟨27, _⟩ => ⟨S1x1x1024, .f32⟩
  | .local _ .vmem, ⟨28, _⟩ => ⟨S1x1024x2816, .bf16⟩
  | .local _ .vmem, ⟨29, _⟩ => ⟨S1x1024x2816, .bf16⟩
  | .local _ .vmem, ⟨30, _⟩ => ⟨S1x2816x1024, .bf16⟩
  | .local _ .vmem, ⟨31, _⟩ => ⟨S1x1x1024, .f32⟩
  | .local _ .vmem, ⟨32, _⟩ => ⟨S1x1024x1024, .bf16⟩
  | .local _ .vmem, ⟨33, _⟩ => ⟨S1x256x1024, .bf16⟩
  | .local _ .vmem, ⟨34, _⟩ => ⟨S1x1024, .f32⟩
  | .local _ .vmem, ⟨35, _⟩ => ⟨S256x1024, .f32⟩
  | .local _ .vmem, ⟨36, _⟩ => ⟨S256x1024, .f32⟩
  | .local _ .vmem, ⟨37, _⟩ => ⟨S288x512, .f32⟩
  | .local _ .vmem, ⟨38, _⟩ => ⟨S256x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg27_0 : Ref sig .tc := ⟨.vmem, 35, rfl⟩
abbrev cc0_stg27_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem27_0 : DmaSem sig := 35
abbrev cc0_sem27_1 : DmaSem sig := 36

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c_m1_i32 : BitVec 32 := 4294967295#32
  let c0_i32 : BitVec 32 := 0#32
  let v0 : BitVec 32 := Scalar.maxsi c_m1_i32 c0_i32
  let c0_i32_0 : BitVec 32 := 0#32
  let c0_i32_1 : BitVec 32 := 0#32
  let c0_i32_2 : BitVec 32 := 0#32
  ![c0_i32_0.toNat, v0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c16_i32 : BitVec 32 := 16#32
  let c255_i32 : BitVec 32 := 255#32
  let v0 : BitVec 32 := Scalar.minsi c16_i32 c255_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.addi arg0 c1_i32_5
  let c63_i32_6 : BitVec 32 := 63#32
  let v20 : BitVec 32 := Scalar.minsi v19 c63_i32_6
  let c16_i32_7 : BitVec 32 := 16#32
  let c0_i32_8 : BitVec 32 := 0#32
  let v21 : BitVec 1 := Scalar.cmpi .eq c16_i32_7 c0_i32_8
  let c1_i32_9 : BitVec 32 := 1#32
  let v22 : BitVec 32 := Scalar.select v21 c1_i32_9 c16_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c16_i32_13 : BitVec 32 := 16#32
  let v31 : BitVec 32 := Scalar.muli v30 c16_i32_13
  let c1_i32_14 : BitVec 32 := 1#32
  let v32 : BitVec 32 := Scalar.subi v31 c1_i32_14
  let c0_i32_15 : BitVec 32 := 0#32
  let v33 : BitVec 32 := Scalar.maxsi v32 c0_i32_15
  let c0_i32_16 : BitVec 32 := 0#32
  let c0_i32_17 : BitVec 32 := 0#32
  ![v18.toNat, v33.toNat, c0_i32_16.toNat]

def cc0_transform_9 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.addi arg0 c1_i32_5
  let c63_i32_6 : BitVec 32 := 63#32
  let v20 : BitVec 32 := Scalar.minsi v19 c63_i32_6
  let c16_i32_7 : BitVec 32 := 16#32
  let c0_i32_8 : BitVec 32 := 0#32
  let v21 : BitVec 1 := Scalar.cmpi .eq c16_i32_7 c0_i32_8
  let c1_i32_9 : BitVec 32 := 1#32
  let v22 : BitVec 32 := Scalar.select v21 c1_i32_9 c16_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, v30.toNat, c0_i32_13.toNat]

def cc0_transform_10 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.addi arg0 c1_i32_5
  let c63_i32_6 : BitVec 32 := 63#32
  let v20 : BitVec 32 := Scalar.minsi v19 c63_i32_6
  let c16_i32_7 : BitVec 32 := 16#32
  let c0_i32_8 : BitVec 32 := 0#32
  let v21 : BitVec 1 := Scalar.cmpi .eq c16_i32_7 c0_i32_8
  let c1_i32_9 : BitVec 32 := 1#32
  let v22 : BitVec 32 := Scalar.select v21 c1_i32_9 c16_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c1_i32_13 : BitVec 32 := 1#32
  let v31 : BitVec 32 := Scalar.addi v30 c1_i32_13
  let c16_i32_14 : BitVec 32 := 16#32
  let v32 : BitVec 32 := Scalar.muli v31 c16_i32_14
  let c255_i32 : BitVec 32 := 255#32
  let v33 : BitVec 32 := Scalar.minsi v32 c255_i32
  let c0_i32_15 : BitVec 32 := 0#32
  let c0_i32_16 : BitVec 32 := 0#32
  ![v18.toNat, v33.toNat, c0_i32_15.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_21 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_22 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_23 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_24 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_25 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x31x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024x2816 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024x2816 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2816x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x256x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Kernel2Ideal.lean ====
variable {F : FTy → Type} [FloatOps F]
-- ==== Reference2Ideal.lean ====
abbrev S16384x1024 : Shape := ⟨2, ![16384, 1024]⟩
abbrev S16384x512 : Shape := ⟨2, ![16384, 512]⟩
abbrev S16384x3072 : Shape := ⟨2, ![16384, 3072]⟩
abbrev S2x4x4096x256 : Shape := ⟨4, ![2, 4, 4096, 256]⟩
abbrev S2x31x1x512 : Shape := ⟨4, ![2, 31, 1, 512]⟩
abbrev S2x512 : Shape := ⟨2, ![2, 512]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S1024 : Shape := ⟨1, ![1024]⟩
abbrev S4x4096x512 : Shape := ⟨3, ![4, 4096, 512]⟩
abbrev S_ : Shape := ⟨0, ![]⟩
abbrev S4x4126x512 : Shape := ⟨3, ![4, 4126, 512]⟩
abbrev S1x1x1x512 : Shape := ⟨4, ![1, 1, 1, 512]⟩
abbrev S512 : Shape := ⟨1, ![512]⟩
abbrev S1x1x512 : Shape := ⟨3, ![1, 1, 512]⟩
abbrev S1x512 : Shape := ⟨2, ![1, 512]⟩
abbrev S16384 : Shape := ⟨1, ![16384]⟩
abbrev S16384x1 : Shape := ⟨2, ![16384, 1]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x1024 : Shape := ⟨3, ![1, 256, 1024]⟩
abbrev S256x1024 : Shape := ⟨2, ![256, 1024]⟩

abbrev nBuf : Space → Nat
  | .hbm => 408
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .f32⟩
  | 3 => ⟨S16384x512, .bf16⟩
  | 4 => ⟨S16384x3072, .bf16⟩
  | 5 => ⟨S2x4x4096x256, .f32⟩
  | 6 => ⟨S2x31x1x512, .f32⟩
  | 7 => ⟨S2x512, .f32⟩
  | 8 => ⟨S2x512, .f32⟩
  | 9 => ⟨S2x512, .f32⟩
  | 10 => ⟨S2x512x1024, .f32⟩
  | 11 => ⟨S2x512x1024, .f32⟩
  | 12 => ⟨S2x512x1024, .f32⟩
  | 13 => ⟨S2x1024x1024, .f32⟩
  | 14 => ⟨S2x1024, .f32⟩
  | 15 => ⟨S2x1024x2816, .f32⟩
  | 16 => ⟨S2x1024x2816, .f32⟩
  | 17 => ⟨S2x2816x1024, .f32⟩
  | 18 => ⟨S2x1024, .f32⟩
  | 19 => ⟨S2x256x1024, .f32⟩
  | 20 => ⟨S2x1024x1024, .f32⟩
  | 21 => ⟨S1024, .f32⟩
  | 22 => ⟨S4x4096x512, .f32⟩
  | 23 => ⟨S_, .i32⟩
  | 24 => ⟨S_, .f32⟩
  | 25 => ⟨S4x4126x512, .f32⟩
  | 26 => ⟨S4x4096x512, .f32⟩
  | 27 => ⟨S1x1x1x512, .f32⟩
  | 28 => ⟨S512, .f32⟩
  | 29 => ⟨S1x1x512, .f32⟩
  | 30 => ⟨S4x4096x512, .f32⟩
  | 31 => ⟨S4x4096x512, .f32⟩
  | 32 => ⟨S_, .f32⟩
  | 33 => ⟨S4x4096x512, .f32⟩
  | 34 => ⟨S4x4096x512, .f32⟩
  | 35 => ⟨S4x4096x512, .f32⟩
  | 36 => ⟨S1x1x1x512, .f32⟩
  | 37 => ⟨S512, .f32⟩
  | 38 => ⟨S1x1x512, .f32⟩
  | 39 => ⟨S4x4096x512, .f32⟩
  | 40 => ⟨S4x4096x512, .f32⟩
  | 41 => ⟨S4x4096x512, .f32⟩
  | 42 => ⟨S4x4096x512, .f32⟩
  | 43 => ⟨S1x1x1x512, .f32⟩
  | 44 => ⟨S512, .f32⟩
  | 45 => ⟨S1x1x512, .f32⟩
  | 46 => ⟨S4x4096x512, .f32⟩
  | 47 => ⟨S4x4096x512, .f32⟩
  | 48 => ⟨S4x4096x512, .f32⟩
  | 49 => ⟨S4x4096x512, .f32⟩
  | 50 => ⟨S1x1x1x512, .f32⟩
  | 51 => ⟨S512, .f32⟩
  | 52 => ⟨S1x1x512, .f32⟩
  | 53 => ⟨S4x4096x512, .f32⟩
  | 54 => ⟨S4x4096x512, .f32⟩
  | 55 => ⟨S4x4096x512, .f32⟩
  | 56 => ⟨S4x4096x512, .f32⟩
  | 57 => ⟨S1x1x1x512, .f32⟩
  | 58 => ⟨S512, .f32⟩
  | 59 => ⟨S1x1x512, .f32⟩
  | 60 => ⟨S4x4096x512, .f32⟩
  | 61 => ⟨S4x4096x512, .f32⟩
  | 62 => ⟨S4x4096x512, .f32⟩
  | 63 => ⟨S4x4096x512, .f32⟩
  | 64 => ⟨S1x1x1x512, .f32⟩
  | 65 => ⟨S512, .f32⟩
  | 66 => ⟨S1x1x512, .f32⟩
  | 67 => ⟨S4x4096x512, .f32⟩
  | 68 => ⟨S4x4096x512, .f32⟩
  | 69 => ⟨S4x4096x512, .f32⟩
  | 70 => ⟨S4x4096x512, .f32⟩
  | 71 => ⟨S1x1x1x512, .f32⟩
  | 72 => ⟨S512, .f32⟩
  | 73 => ⟨S1x1x512, .f32⟩
  | 74 => ⟨S4x4096x512, .f32⟩
  | 75 => ⟨S4x4096x512, .f32⟩
  | 76 => ⟨S4x4096x512, .f32⟩
  | 77 => ⟨S4x4096x512, .f32⟩
  | 78 => ⟨S1x1x1x512, .f32⟩
  | 79 => ⟨S512, .f32⟩
  | 80 => ⟨S1x1x512, .f32⟩
  | 81 => ⟨S4x4096x512, .f32⟩
  | 82 => ⟨S4x4096x512, .f32⟩
  | 83 => ⟨S4x4096x512, .f32⟩
  | 84 => ⟨S4x4096x512, .f32⟩
  | 85 => ⟨S1x1x1x512, .f32⟩
  | 86 => ⟨S512, .f32⟩
  | 87 => ⟨S1x1x512, .f32⟩
  | 88 => ⟨S4x4096x512, .f32⟩
  | 89 => ⟨S4x4096x512, .f32⟩
  | 90 => ⟨S4x4096x512, .f32⟩
  | 91 => ⟨S4x4096x512, .f32⟩
  | 92 => ⟨S1x1x1x512, .f32⟩
  | 93 => ⟨S512, .f32⟩
  | 94 => ⟨S1x1x512, .f32⟩
  | 95 => ⟨S4x4096x512, .f32⟩
  | 96 => ⟨S4x4096x512, .f32⟩
  | 97 => ⟨S4x4096x512, .f32⟩
  | 98 => ⟨S4x4096x512, .f32⟩
  | 99 => ⟨S1x1x1x512, .f32⟩
  | 100 => ⟨S512, .f32⟩
  | 101 => ⟨S1x1x512, .f32⟩
  | 102 => ⟨S4x4096x512, .f32⟩
  | 103 => ⟨S4x4096x512, .f32⟩
  | 104 => ⟨S4x4096x512, .f32⟩
  | 105 => ⟨S4x4096x512, .f32⟩
  | 106 => ⟨S1x1x1x512, .f32⟩
  | 107 => ⟨S512, .f32⟩
  | 108 => ⟨S1x1x512, .f32⟩
  | 109 => ⟨S4x4096x512, .f32⟩
  | 110 => ⟨S4x4096x512, .f32⟩
  | 111 => ⟨S4x4096x512, .f32⟩
  | 112 => ⟨S4x4096x512, .f32⟩
  | 113 => ⟨S1x1x1x512, .f32⟩
  | 114 => ⟨S512, .f32⟩
  | 115 => ⟨S1x1x512, .f32⟩
  | 116 => ⟨S4x4096x512, .f32⟩
  | 117 => ⟨S4x4096x512, .f32⟩
  | 118 => ⟨S4x4096x512, .f32⟩
  | 119 => ⟨S4x4096x512, .f32⟩
  | 120 => ⟨S1x1x1x512, .f32⟩
  | 121 => ⟨S512, .f32⟩
  | 122 => ⟨S1x1x512, .f32⟩
  | 123 => ⟨S4x4096x512, .f32⟩
  | 124 => ⟨S4x4096x512, .f32⟩
  | 125 => ⟨S4x4096x512, .f32⟩
  | 126 => ⟨S4x4096x512, .f32⟩
  | 127 => ⟨S1x1x1x512, .f32⟩
  | _ => ⟨S16384x1024, .f32⟩

abbrev hbmTy0_1 (i : Nat) : BufTy := match i % 128 with
  | 0 => ⟨S512, .f32⟩
  | 1 => ⟨S1x1x512, .f32⟩
  | 2 => ⟨S4x4096x512, .f32⟩
  | 3 => ⟨S4x4096x512, .f32⟩
  | 4 => ⟨S4x4096x512, .f32⟩
  | 5 => ⟨S4x4096x512, .f32⟩
  | 6 => ⟨S1x1x1x512, .f32⟩
  | 7 => ⟨S512, .f32⟩
  | 8 => ⟨S1x1x512, .f32⟩
  | 9 => ⟨S4x4096x512, .f32⟩
  | 10 => ⟨S4x4096x512, .f32⟩
  | 11 => ⟨S4x4096x512, .f32⟩
  | 12 => ⟨S4x4096x512, .f32⟩
  | 13 => ⟨S1x1x1x512, .f32⟩
  | 14 => ⟨S512, .f32⟩
  | 15 => ⟨S1x1x512, .f32⟩
  | 16 => ⟨S4x4096x512, .f32⟩
  | 17 => ⟨S4x4096x512, .f32⟩
  | 18 => ⟨S4x4096x512, .f32⟩
  | 19 => ⟨S4x4096x512, .f32⟩
  | 20 => ⟨S1x1x1x512, .f32⟩
  | 21 => ⟨S512, .f32⟩
  | 22 => ⟨S1x1x512, .f32⟩
  | 23 => ⟨S4x4096x512, .f32⟩
  | 24 => ⟨S4x4096x512, .f32⟩
  | 25 => ⟨S4x4096x512, .f32⟩
  | 26 => ⟨S4x4096x512, .f32⟩
  | 27 => ⟨S1x1x1x512, .f32⟩
  | 28 => ⟨S512, .f32⟩
  | 29 => ⟨S1x1x512, .f32⟩
  | 30 => ⟨S4x4096x512, .f32⟩
  | 31 => ⟨S4x4096x512, .f32⟩
  | 32 => ⟨S4x4096x512, .f32⟩
  | 33 => ⟨S4x4096x512, .f32⟩
  | 34 => ⟨S1x1x1x512, .f32⟩
  | 35 => ⟨S512, .f32⟩
  | 36 => ⟨S1x1x512, .f32⟩
  | 37 => ⟨S4x4096x512, .f32⟩
  | 38 => ⟨S4x4096x512, .f32⟩
  | 39 => ⟨S4x4096x512, .f32⟩
  | 40 => ⟨S4x4096x512, .f32⟩
  | 41 => ⟨S1x1x1x512, .f32⟩
  | 42 => ⟨S512, .f32⟩
  | 43 => ⟨S1x1x512, .f32⟩
  | 44 => ⟨S4x4096x512, .f32⟩
  | 45 => ⟨S4x4096x512, .f32⟩
  | 46 => ⟨S4x4096x512, .f32⟩
  | 47 => ⟨S4x4096x512, .f32⟩
  | 48 => ⟨S1x1x1x512, .f32⟩
  | 49 => ⟨S512, .f32⟩
  | 50 => ⟨S1x1x512, .f32⟩
  | 51 => ⟨S4x4096x512, .f32⟩
  | 52 => ⟨S4x4096x512, .f32⟩
  | 53 => ⟨S4x4096x512, .f32⟩
  | 54 => ⟨S4x4096x512, .f32⟩
  | 55 => ⟨S1x1x1x512, .f32⟩
  | 56 => ⟨S512, .f32⟩
  | 57 => ⟨S1x1x512, .f32⟩
  | 58 => ⟨S4x4096x512, .f32⟩
  | 59 => ⟨S4x4096x512, .f32⟩
  | 60 => ⟨S4x4096x512, .f32⟩
  | 61 => ⟨S4x4096x512, .f32⟩
  | 62 => ⟨S1x1x1x512, .f32⟩
  | 63 => ⟨S512, .f32⟩
  | 64 => ⟨S1x1x512, .f32⟩
  | 65 => ⟨S4x4096x512, .f32⟩
  | 66 => ⟨S4x4096x512, .f32⟩
  | 67 => ⟨S4x4096x512, .f32⟩
  | 68 => ⟨S4x4096x512, .f32⟩
  | 69 => ⟨S1x1x1x512, .f32⟩
  | 70 => ⟨S512, .f32⟩
  | 71 => ⟨S1x1x512, .f32⟩
  | 72 => ⟨S4x4096x512, .f32⟩
  | 73 => ⟨S4x4096x512, .f32⟩
  | 74 => ⟨S4x4096x512, .f32⟩
  | 75 => ⟨S4x4096x512, .f32⟩
  | 76 => ⟨S1x1x1x512, .f32⟩
  | 77 => ⟨S512, .f32⟩
  | 78 => ⟨S1x1x512, .f32⟩
  | 79 => ⟨S4x4096x512, .f32⟩
  | 80 => ⟨S4x4096x512, .f32⟩
  | 81 => ⟨S4x4096x512, .f32⟩
  | 82 => ⟨S4x4096x512, .f32⟩
  | 83 => ⟨S1x1x1x512, .f32⟩
  | 84 => ⟨S512, .f32⟩
  | 85 => ⟨S1x1x512, .f32⟩
  | 86 => ⟨S4x4096x512, .f32⟩
  | 87 => ⟨S4x4096x512, .f32⟩
  | 88 => ⟨S4x4096x512, .f32⟩
  | 89 => ⟨S4x4096x512, .f32⟩
  | 90 => ⟨S1x1x1x512, .f32⟩
  | 91 => ⟨S512, .f32⟩
  | 92 => ⟨S1x1x512, .f32⟩
  | 93 => ⟨S4x4096x512, .f32⟩
  | 94 => ⟨S4x4096x512, .f32⟩
  | 95 => ⟨S4x4096x512, .f32⟩
  | 96 => ⟨S4x4096x512, .f32⟩
  | 97 => ⟨S1x1x1x512, .f32⟩
  | 98 => ⟨S512, .f32⟩
  | 99 => ⟨S1x1x512, .f32⟩
  | 100 => ⟨S4x4096x512, .f32⟩
  | 101 => ⟨S4x4096x512, .f32⟩
  | 102 => ⟨S4x4096x512, .f32⟩
  | 103 => ⟨S4x4096x512, .f32⟩
  | 104 => ⟨S1x1x1x512, .f32⟩
  | 105 => ⟨S512, .f32⟩
  | 106 => ⟨S1x1x512, .f32⟩
  | 107 => ⟨S4x4096x512, .f32⟩
  | 108 => ⟨S4x4096x512, .f32⟩
  | 109 => ⟨S4x4096x512, .f32⟩
  | 110 => ⟨S4x4096x512, .f32⟩
  | 111 => ⟨S1x1x1x512, .f32⟩
  | 112 => ⟨S512, .f32⟩
  | 113 => ⟨S1x1x512, .f32⟩
  | 114 => ⟨S4x4096x512, .f32⟩
  | 115 => ⟨S4x4096x512, .f32⟩
  | 116 => ⟨S4x4096x512, .f32⟩
  | 117 => ⟨S1x512, .f32⟩
  | 118 => ⟨S512, .f32⟩
  | 119 => ⟨S1x1x512, .f32⟩
  | 120 => ⟨S4x4096x512, .f32⟩
  | 121 => ⟨S4x4096x512, .f32⟩
  | 122 => ⟨S16384x512, .f32⟩
  | 123 => ⟨S_, .f32⟩
  | 124 => ⟨S16384, .f32⟩
  | 125 => ⟨S16384x1, .f32⟩
  | 126 => ⟨S_, .f32⟩
  | 127 => ⟨S16384x1, .f32⟩
  | _ => ⟨S16384x1024, .f32⟩

abbrev hbmTy0_2 (i : Nat) : BufTy := match i % 128 with
  | 0 => ⟨S16384x1, .f32⟩
  | 1 => ⟨S16384x512, .f32⟩
  | 2 => ⟨S16384x512, .f32⟩
  | 3 => ⟨S16384x512, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S16384x512, .f32⟩
  | 11 => ⟨S16384x512, .f32⟩
  | 12 => ⟨S_, .f32⟩
  | 13 => ⟨S16384x1, .f32⟩
  | 14 => ⟨S16384x1, .f32⟩
  | 15 => ⟨S16384x1, .f32⟩
  | 16 => ⟨S16384x512, .f32⟩
  | 17 => ⟨S16384x512, .f32⟩
  | 18 => ⟨S1x512, .f32⟩
  | 19 => ⟨S512, .f32⟩
  | 20 => ⟨S1x512, .f32⟩
  | 21 => ⟨S16384x512, .f32⟩
  | 22 => ⟨S16384x512, .f32⟩
  | 23 => ⟨S1x512, .f32⟩
  | 24 => ⟨S512, .f32⟩
  | 25 => ⟨S1x512, .f32⟩
  | 26 => ⟨S16384x512, .f32⟩
  | 27 => ⟨S16384x512, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S16384x512, .f32⟩
  | 37 => ⟨S16384x3072, .f32⟩
  | 38 => ⟨S16384x1024, .f32⟩
  | 39 => ⟨S16384x1024, .f32⟩
  | 40 => ⟨S16384x1024, .f32⟩
  | 41 => ⟨S16384x512, .f32⟩
  | 42 => ⟨S1x512x1024, .f32⟩
  | 43 => ⟨S512x1024, .f32⟩
  | 44 => ⟨S16384x1024, .f32⟩
  | 45 => ⟨S16384x1024, .f32⟩
  | 46 => ⟨S1x512x1024, .f32⟩
  | 47 => ⟨S512x1024, .f32⟩
  | 48 => ⟨S16384x1024, .f32⟩
  | 49 => ⟨S16384x1024, .f32⟩
  | 50 => ⟨S16384x1024, .f32⟩
  | 51 => ⟨S16384x512, .f32⟩
  | 52 => ⟨S1x512x1024, .f32⟩
  | 53 => ⟨S512x1024, .f32⟩
  | 54 => ⟨S16384x1024, .f32⟩
  | 55 => ⟨S16384x1024, .f32⟩
  | 56 => ⟨S16384x1024, .f32⟩
  | 57 => ⟨S1x1024x1024, .f32⟩
  | 58 => ⟨S1024x1024, .f32⟩
  | 59 => ⟨S16384x1024, .f32⟩
  | 60 => ⟨S16384x1024, .f32⟩
  | 61 => ⟨S1x1024, .f32⟩
  | 62 => ⟨S1024, .f32⟩
  | 63 => ⟨S16384x1024, .f32⟩
  | 64 => ⟨S_, .f32⟩
  | 65 => ⟨S16384, .f32⟩
  | 66 => ⟨S16384x1, .f32⟩
  | 67 => ⟨S_, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x1, .f32⟩
  | 74 => ⟨S16384x1024, .f32⟩
  | 75 => ⟨S16384x1024, .f32⟩
  | 76 => ⟨S1x1024, .f32⟩
  | 77 => ⟨S16384x1024, .f32⟩
  | 78 => ⟨S16384x1024, .f32⟩
  | 79 => ⟨S1x1024x2816, .f32⟩
  | 80 => ⟨S1024x2816, .f32⟩
  | 81 => ⟨S16384x2816, .f32⟩
  | 82 => ⟨S16384x2816, .f32⟩
  | 83 => ⟨S16384x2816, .f32⟩
  | 84 => ⟨S_, .f32⟩
  | 85 => ⟨S16384x2816, .f32⟩
  | 86 => ⟨S16384x2816, .f32⟩
  | 87 => ⟨S_, .f32⟩
  | 88 => ⟨S16384x2816, .f32⟩
  | 89 => ⟨S16384x2816, .f32⟩
  | 90 => ⟨S16384x2816, .f32⟩
  | 91 => ⟨S1x1024x2816, .f32⟩
  | 92 => ⟨S1024x2816, .f32⟩
  | 93 => ⟨S16384x2816, .f32⟩
  | 94 => ⟨S16384x2816, .f32⟩
  | 95 => ⟨S1x2816x1024, .f32⟩
  | 96 => ⟨S2816x1024, .f32⟩
  | 97 => ⟨S16384x1024, .f32⟩
  | 98 => ⟨S16384x1024, .f32⟩
  | 99 => ⟨S1x1024, .f32⟩
  | 100 => ⟨S1024, .f32⟩
  | 101 => ⟨S16384x1024, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S_, .f32⟩
  | 109 => ⟨S16384x1, .f32⟩
  | 110 => ⟨S16384x1, .f32⟩
  | 111 => ⟨S16384x1, .f32⟩
  | 112 => ⟨S16384x1024, .f32⟩
  | 113 => ⟨S16384x1024, .f32⟩
  | 114 => ⟨S1x1024, .f32⟩
  | 115 => ⟨S16384x1024, .f32⟩
  | 116 => ⟨S16384x1024, .f32⟩
  | 117 => ⟨S1x1024x1024, .f32⟩
  | 118 => ⟨S1024x1024, .f32⟩
  | 119 => ⟨S16384x1024, .f32⟩
  | 120 => ⟨S16384x1024, .f32⟩
  | 121 => ⟨S16384x1024, .f32⟩
  | 122 => ⟨S_, .f32⟩
  | 123 => ⟨S16384x1024, .f32⟩
  | 124 => ⟨S16384x1024, .f32⟩
  | 125 => ⟨S_, .f32⟩
  | 126 => ⟨S16384x1024, .f32⟩
  | 127 => ⟨S16384x1024, .f32⟩
  | _ => ⟨S16384x1024, .f32⟩

abbrev hbmTy0_3 (i : Nat) : BufTy := match i % 128 with
  | 0 => ⟨S1x4x4096x256, .f32⟩
  | 1 => ⟨S4x4096x256, .f32⟩
  | 2 => ⟨S16384x256, .f32⟩
  | 3 => ⟨S1x256x1024, .f32⟩
  | 4 => ⟨S256x1024, .f32⟩
  | 5 => ⟨S16384x1024, .f32⟩
  | 6 => ⟨S16384x1024, .f32⟩
  | 7 => ⟨S16384x1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_call0_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_cst_0 : Ref sig .tc := ⟨.hbm, 251, rfl⟩
abbrev main_v226 : Ref sig .tc := ⟨.hbm, 252, rfl⟩
abbrev main_v227 : Ref sig .tc := ⟨.hbm, 253, rfl⟩
abbrev main_cst_1 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_cst_2 : Ref sig .tc := ⟨.hbm, 260, rfl⟩
abbrev main_v233 : Ref sig .tc := ⟨.hbm, 261, rfl⟩
abbrev main_v234 : Ref sig .tc := ⟨.hbm, 262, rfl⟩
abbrev main_cst_3 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_cst_4 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_call1_v0 : Ref sig .tc := ⟨.hbm, 284, rfl⟩
abbrev main_call1_v1 : Ref sig .tc := ⟨.hbm, 285, rfl⟩
abbrev main_call1_cst : Ref sig .tc := ⟨.hbm, 286, rfl⟩
abbrev main_call1_v2 : Ref sig .tc := ⟨.hbm, 287, rfl⟩
abbrev main_call1_v3 : Ref sig .tc := ⟨.hbm, 288, rfl⟩
abbrev main_call1_cst_0 : Ref sig .tc := ⟨.hbm, 289, rfl⟩
abbrev main_call1_v4 : Ref sig .tc := ⟨.hbm, 290, rfl⟩
abbrev main_call1_v5 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_cst_5 : Ref sig .tc := ⟨.hbm, 320, rfl⟩
abbrev main_v282 : Ref sig .tc := ⟨.hbm, 321, rfl⟩
abbrev main_v283 : Ref sig .tc := ⟨.hbm, 322, rfl⟩
abbrev main_cst_6 : Ref sig .tc := ⟨.hbm, 323, rfl⟩
abbrev main_v284 : Ref sig .tc := ⟨.hbm, 324, rfl⟩
abbrev main_v285 : Ref sig .tc := ⟨.hbm, 325, rfl⟩
abbrev main_cst_7 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_call2_v0 : Ref sig .tc := ⟨.hbm, 338, rfl⟩
abbrev main_call2_v1 : Ref sig .tc := ⟨.hbm, 339, rfl⟩
abbrev main_call2_cst : Ref sig .tc := ⟨.hbm, 340, rfl⟩
abbrev main_call2_v2 : Ref sig .tc := ⟨.hbm, 341, rfl⟩
abbrev main_call2_v3 : Ref sig .tc := ⟨.hbm, 342, rfl⟩
abbrev main_call2_cst_0 : Ref sig .tc := ⟨.hbm, 343, rfl⟩
abbrev main_call2_v4 : Ref sig .tc := ⟨.hbm, 344, rfl⟩
abbrev main_call2_v5 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_cst_8 : Ref sig .tc := ⟨.hbm, 358, rfl⟩
abbrev main_v309 : Ref sig .tc := ⟨.hbm, 359, rfl⟩
abbrev main_v310 : Ref sig .tc := ⟨.hbm, 360, rfl⟩
abbrev main_cst_9 : Ref sig .tc := ⟨.hbm, 361, rfl⟩
abbrev main_v311 : Ref sig .tc := ⟨.hbm, 362, rfl⟩
abbrev main_v312 : Ref sig .tc := ⟨.hbm, 363, rfl⟩
abbrev main_cst_10 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_cst_11 : Ref sig .tc := ⟨.hbm, 378, rfl⟩
abbrev main_v326 : Ref sig .tc := ⟨.hbm, 379, rfl⟩
abbrev main_v327 : Ref sig .tc := ⟨.hbm, 380, rfl⟩
abbrev main_cst_12 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_v338 : Ref sig .tc := ⟨.hbm, 392, rfl⟩
abbrev main_cst_13 : Ref sig .tc := ⟨.hbm, 393, rfl⟩
abbrev main_v339 : Ref sig .tc := ⟨.hbm, 394, rfl⟩
abbrev main_v340 : Ref sig .tc := ⟨.hbm, 395, rfl⟩
abbrev main_cst_14 : Ref sig .tc := ⟨.hbm, 396, rfl⟩
abbrev main_v341 : Ref sig .tc := ⟨.hbm, 397, rfl⟩
abbrev main_v342 : Ref sig .tc := ⟨.hbm, 398, rfl⟩
abbrev main_cst_15 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩

abbrev nD : Nat := 1
abbrev τ : Topo := Topo.v7x

variable {F : FTy → Type} [FloatOps F]
-- ==== Kernel3.lean ====
abbrev S4x4096x1024 : Shape := ⟨3, ![4, 4096, 1024]⟩
abbrev S2x1024 : Shape := ⟨2, ![2, 1024]⟩
abbrev S2x1024x7168 : Shape := ⟨3, ![2, 1024, 7168]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S16384x1024 : Shape := ⟨2, ![16384, 1024]⟩
abbrev S2x1x1024 : Shape := ⟨3, ![2, 1, 1024]⟩
abbrev S16384x512 : Shape := ⟨2, ![16384, 512]⟩
abbrev S4x512x4096 : Shape := ⟨3, ![4, 512, 4096]⟩
abbrev S16384x3072 : Shape := ⟨2, ![16384, 3072]⟩
abbrev S512x1024 : Shape := ⟨2, ![512, 1024]⟩
abbrev S1x1x1024 : Shape := ⟨3, ![1, 1, 1024]⟩
abbrev S1x1024x7168 : Shape := ⟨3, ![1, 1024, 7168]⟩
abbrev S512x128 : Shape := ⟨2, ![512, 128]⟩
abbrev S512x512 : Shape := ⟨2, ![512, 512]⟩
abbrev S1x512x512 : Shape := ⟨3, ![1, 512, 512]⟩
abbrev S512x3072 : Shape := ⟨2, ![512, 3072]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S128x512 : Shape := ⟨2, ![128, 512]⟩
abbrev S1x128x512 : Shape := ⟨3, ![1, 128, 512]⟩

abbrev nBuf : Space → Nat
  | .hbm => 46
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x7168, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S1x4096x1x32, .f32⟩
  | .hbm, ⟨27, _⟩ => ⟨S1x4096x4x32, .f32⟩
  | .hbm, ⟨28, _⟩ => ⟨S4096x128, .f32⟩
  | .hbm, ⟨29, _⟩ => ⟨S4096x32, .f32⟩
  | .hbm, ⟨30, _⟩ => ⟨S4096x32, .f32⟩
  | .hbm, ⟨31, _⟩ => ⟨S4096x64, .f32⟩
  | .hbm, ⟨32, _⟩ => ⟨S1x4096x1x64, .f32⟩
  | .hbm, ⟨33, _⟩ => ⟨S1x4096x2x64, .f32⟩
  | .hbm, ⟨34, _⟩ => ⟨S4096x128, .f32⟩
  | .hbm, ⟨35, _⟩ => ⟨S16384x1024, .f32⟩
  | .hbm, ⟨36, _⟩ => ⟨S2x1x1024, .f32⟩
  | .hbm, ⟨37, _⟩ => ⟨S2x1024x7168, .bf16⟩
  | .hbm, ⟨38, _⟩ => ⟨S16384x512, .bf16⟩
  | .hbm, ⟨39, _⟩ => ⟨S4x512x4096, .bf16⟩
  | .hbm, ⟨40, _⟩ => ⟨S16384x512, .bf16⟩
  | .hbm, ⟨41, _⟩ => ⟨S16384x512, .f32⟩
  | .hbm, ⟨42, _⟩ => ⟨S16384x512, .bf16⟩
  | .hbm, ⟨43, _⟩ => ⟨S4x512x4096, .bf16⟩
  | .hbm, ⟨44, _⟩ => ⟨S16384x512, .bf16⟩
  | .hbm, ⟨45, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x7168, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S1x512x512, .bf16⟩
  | .local _ .vmem, ⟨11, _⟩ => ⟨S1x512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S1x512x512, .bf16⟩
  | .local _ .vmem, ⟨19, _⟩ => ⟨S1x512x512, .bf16⟩
  | .local _ .vmem, ⟨20, _⟩ => ⟨S512x512, .bf16⟩
  | .local _ .vmem, ⟨21, _⟩ => ⟨S512x512, .bf16⟩
  | .local _ .vmem, ⟨22, _⟩ => ⟨S512x3072, .bf16⟩
  | .local _ .vmem, ⟨23, _⟩ => ⟨S512x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_v30_4 : Ref sig .tc := ⟨.hbm, 42, rfl⟩
abbrev main_v30_5 : Ref sig .tc := ⟨.hbm, 43, rfl⟩
abbrev main_v30_6 : Ref sig .tc := ⟨.hbm, 44, rfl⟩
abbrev main_v30_7 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S4x4096x1024 : Shape := ⟨3, ![4, 4096, 1024]⟩
abbrev S2x1024 : Shape := ⟨2, ![2, 1024]⟩
abbrev S2x1024x7168 : Shape := ⟨3, ![2, 1024, 7168]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4x4096 : Shape := ⟨2, ![4, 4096]⟩
abbrev S4x4096x1 : Shape := ⟨3, ![4, 4096, 1]⟩
abbrev S1x1024 : Shape := ⟨2, ![1, 1024]⟩
abbrev S1024 : Shape := ⟨1, ![1024]⟩
abbrev S1x1x1024 : Shape := ⟨3, ![1, 1, 1024]⟩
abbrev S1x1024x7168 : Shape := ⟨3, ![1, 1024, 7168]⟩
abbrev S1024x7168 : Shape := ⟨2, ![1024, 7168]⟩
abbrev S4x4096x7168 : Shape := ⟨3, ![4, 4096, 7168]⟩
abbrev S4x4096x512 : Shape := ⟨3, ![4, 4096, 512]⟩
abbrev S4x4096x3072 : Shape := ⟨3, ![4, 4096, 3072]⟩
abbrev S4x4096x4x2x64 : Shape := ⟨5, ![4, 4096, 4, 2, 64]⟩
abbrev S4x4x2x4096x64 : Shape := ⟨5, ![4, 4, 2, 4096, 64]⟩
abbrev S4x4x2x4096x32 : Shape := ⟨5, ![4, 4, 2, 4096, 32]⟩
abbrev S1x1x1x4096x64 : Shape := ⟨5, ![1, 1, 1, 4096, 64]⟩
abbrev S16384x512 : Shape := ⟨2, ![16384, 512]⟩
abbrev S4x512x4096 : Shape := ⟨3, ![4, 512, 4096]⟩
abbrev S16384x3072 : Shape := ⟨2, ![16384, 3072]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x7168, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4x4096x1024, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S1x1024, .f32⟩
  | .hbm, ⟨42, _⟩ => ⟨S1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | .hbm, ⟨46, _⟩ => ⟨S1x1024x7168, .f32⟩
  | .hbm, ⟨47, _⟩ => ⟨S1024x7168, .f32⟩
  | .hbm, ⟨48, _⟩ => ⟨S4x4096x7168, .f32⟩
  | .hbm, ⟨49, _⟩ => ⟨S4x4096x512, .f32⟩
  | .hbm, ⟨50, _⟩ => ⟨S4x4096x512, .f32⟩
  | .hbm, ⟨51, _⟩ => ⟨S4x4096x512, .f32⟩
  | .hbm, ⟨52, _⟩ => ⟨S4x4096x1024, .f32⟩
  | .hbm, ⟨53, _⟩ => ⟨S4x4096x512, .f32⟩
  | .hbm, ⟨54, _⟩ => ⟨S4x4096x512, .f32⟩
  | .hbm, ⟨55, _⟩ => ⟨S4x4096x512, .f32⟩
  | .hbm, ⟨56, _⟩ => ⟨S4x4096x3072, .f32⟩
  | .hbm, ⟨57, _⟩ => ⟨S4x4096x512, .f32⟩
  | .hbm, ⟨58, _⟩ => ⟨S4x4096x512, .f32⟩
  | .hbm, ⟨59, _⟩ => ⟨S4x4096x4x2x64, .f32⟩
  | .hbm, ⟨60, _⟩ => ⟨S4x4x2x4096x64, .f32⟩
  | .hbm, ⟨61, _⟩ => ⟨S4x4x2x4096x32, .f32⟩
  | .hbm, ⟨62, _⟩ => ⟨S4x4x2x4096x32, .f32⟩
  | .hbm, ⟨63, _⟩ => ⟨S4x4x2x4096x32, .f32⟩
  | .hbm, ⟨64, _⟩ => ⟨S4x4x2x4096x64, .f32⟩
  | .hbm, ⟨65, _⟩ => ⟨S1x1x1x4096x64, .f32⟩
  | .hbm, ⟨66, _⟩ => ⟨S4x4x2x4096x64, .f32⟩
  | .hbm, ⟨67, _⟩ => ⟨S4x4x2x4096x64, .f32⟩
  | .hbm, ⟨68, _⟩ => ⟨S1x1x1x4096x64, .f32⟩
  | .hbm, ⟨69, _⟩ => ⟨S4x4x2x4096x64, .f32⟩
  | .hbm, ⟨70, _⟩ => ⟨S4x4x2x4096x64, .f32⟩
  | .hbm, ⟨71, _⟩ => ⟨S4x4x2x4096x64, .f32⟩
  | .hbm, ⟨72, _⟩ => ⟨S4x4096x4x2x64, .f32⟩
  | .hbm, ⟨73, _⟩ => ⟨S4x4096x512, .f32⟩
  | .hbm, ⟨74, _⟩ => ⟨S_, .f32⟩
  | .hbm, ⟨75, _⟩ => ⟨S4x4096x512, .f32⟩
  | .hbm, ⟨76, _⟩ => ⟨S4x4096x512, .f32⟩
  | .hbm, ⟨77, _⟩ => ⟨S16384x512, .f32⟩
  | .hbm, ⟨78, _⟩ => ⟨S16384x512, .bf16⟩
  | .hbm, ⟨79, _⟩ => ⟨S4x4096x4x2x64, .f32⟩
  | .hbm, ⟨80, _⟩ => ⟨S4x4x2x4096x64, .f32⟩
  | .hbm, ⟨81, _⟩ => ⟨S4x4x2x4096x32, .f32⟩
  | .hbm, ⟨82, _⟩ => ⟨S4x4x2x4096x32, .f32⟩
  | .hbm, ⟨83, _⟩ => ⟨S4x4x2x4096x32, .f32⟩
  | .hbm, ⟨84, _⟩ => ⟨S4x4x2x4096x64, .f32⟩
  | .hbm, ⟨85, _⟩ => ⟨S1x1x1x4096x64, .f32⟩
  | .hbm, ⟨86, _⟩ => ⟨S4x4x2x4096x64, .f32⟩
  | .hbm, ⟨87, _⟩ => ⟨S4x4x2x4096x64, .f32⟩
  | .hbm, ⟨88, _⟩ => ⟨S1x1x1x4096x64, .f32⟩
  | .hbm, ⟨89, _⟩ => ⟨S4x4x2x4096x64, .f32⟩
  | .hbm, ⟨90, _⟩ => ⟨S4x4x2x4096x64, .f32⟩
  | .hbm, ⟨91, _⟩ => ⟨S4x4x2x4096x64, .f32⟩
  | .hbm, ⟨92, _⟩ => ⟨S4x4096x4x2x64, .f32⟩
  | .hbm, ⟨93, _⟩ => ⟨S4x4096x512, .f32⟩
  | .hbm, ⟨94, _⟩ => ⟨S4x512x4096, .f32⟩
  | .hbm, ⟨95, _⟩ => ⟨S4x512x4096, .bf16⟩
  | .hbm, ⟨96, _⟩ => ⟨S16384x512, .f32⟩
  | .hbm, ⟨97, _⟩ => ⟨S16384x512, .bf16⟩
  | .hbm, ⟨98, _⟩ => ⟨S4x4096x512, .f32⟩
  | .hbm, ⟨99, _⟩ => ⟨S4x4096x512, .f32⟩
  | .hbm, ⟨100, _⟩ => ⟨S_, .f32⟩
  | .hbm, ⟨101, _⟩ => ⟨S4x4096x512, .f32⟩
  | .hbm, ⟨102, _⟩ => ⟨S4x4096x512, .f32⟩
  | .hbm, ⟨103, _⟩ => ⟨S_, .f32⟩
  | .hbm, ⟨104, _⟩ => ⟨S4x4096x512, .f32⟩
  | .hbm, ⟨105, _⟩ => ⟨S4x4096x512, .f32⟩
  | .hbm, ⟨106, _⟩ => ⟨S4x4096x512, .f32⟩
  | .hbm, ⟨107, _⟩ => ⟨S16384x512, .f32⟩
  | .hbm, ⟨108, _⟩ => ⟨S_, .f32⟩
  | .hbm, ⟨109, _⟩ => ⟨S4x4096x512, .f32⟩
  | .hbm, ⟨110, _⟩ => ⟨S4x4096x512, .f32⟩
  | .hbm, ⟨111, _⟩ => ⟨S16384x512, .f32⟩
  | .hbm, ⟨112, _⟩ => ⟨S16384x512, .bf16⟩
  | .hbm, ⟨113, _⟩ => ⟨S4x512x4096, .f32⟩
  | .hbm, ⟨114, _⟩ => ⟨S4x512x4096, .bf16⟩
  | .hbm, ⟨115, _⟩ => ⟨S16384x512, .f32⟩
  | .hbm, ⟨116, _⟩ => ⟨S16384x512, .bf16⟩
  | .hbm, ⟨117, _⟩ => ⟨S4x4096x3072, .f32⟩
  | .hbm, ⟨118, _⟩ => ⟨S4x4096x3072, .f32⟩
  | .hbm, ⟨119, _⟩ => ⟨S_, .f32⟩
  | .hbm, ⟨120, _⟩ => ⟨S4x4096x3072, .f32⟩
  | .hbm, ⟨121, _⟩ => ⟨S4x4096x3072, .f32⟩
  | .hbm, ⟨122, _⟩ => ⟨S_, .f32⟩
  | .hbm, ⟨123, _⟩ => ⟨S4x4096x3072, .f32⟩
  | .hbm, ⟨124, _⟩ => ⟨S4x4096x3072, .f32⟩
  | .hbm, ⟨125, _⟩ => ⟨S16384x3072, .f32⟩
  | .hbm, ⟨126, _⟩ => ⟨S16384x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_7 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_8 : Ref sig .tc := ⟨.hbm, 100, rfl⟩
abbrev main_v88 : Ref sig .tc := ⟨.hbm, 101, rfl⟩
abbrev main_v89 : Ref sig .tc := ⟨.hbm, 102, rfl⟩
abbrev main_cst_9 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_10 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_11 : Ref sig .tc := ⟨.hbm, 119, rfl⟩
abbrev main_v104 : Ref sig .tc := ⟨.hbm, 120, rfl⟩
abbrev main_v105 : Ref sig .tc := ⟨.hbm, 121, rfl⟩
abbrev main_cst_12 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩

abbrev nD : Nat := 1
abbrev τ : Topo := Topo.v7x

variable {F : FTy → Type} [FloatOps F]
-- ==== Proof.PostFrame.lean ====
/- What the launch's outputs and carried scratch hold point by point, the body's obligation at every point, and the frame. -/
module

public import proofs.«01_k».proof.Proof.Gen.Kernel2Ideal.Frame.RunB
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for the output cover its block. -/
theorem cover0_A_27 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x3072 .bf16) (harg4 : arg4.IsWhole) (arg5 : Memref sig .tc .vmem S1x256x256 .f32) (harg5 : arg5.IsWhole) (arg6 : Memref sig .tc .vmem S1x16x512 .f32) (harg6 : arg6.IsWhole) (arg7 : Memref sig .tc .vmem S1x256x512 .f32) (harg7 : arg7.IsWhole) (arg8 : Memref sig .tc .vmem S1x16x512 .f32) (harg8 : arg8.IsWhole) (arg9 : Memref sig .tc .vmem S1x16x512 .f32) (harg9 : arg9.IsWhole) (arg10 : Memref sig .tc .vmem S1x256x512 .f32) (harg10 : arg10.IsWhole) (arg11 : Memref sig .tc .vmem S1x16x512 .f32) (harg11 : arg11.IsWhole) (arg12 : Memref sig .tc .vmem S1x31x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x1024x1024 .bf16) (harg19 : arg19.IsWhole) (arg20 : Memref sig .tc .vmem S1x1x1024 .f32) (harg20 : arg20.IsWhole) (arg21 : Memref sig .tc .vmem S1x1024x2816 .bf16) (harg21 : arg21.IsWhole) (arg22 : Memref sig .tc .vmem S1x1024x2816 .bf16) (harg22 : arg22.IsWhole) (arg23 : Memref sig .tc .vmem S1x2816x1024 .bf16) (harg23 : arg23.IsWhole) (arg24 : Memref sig .tc .vmem S1x1x1024 .f32) (harg24 : arg24.IsWhole) (arg25 : Memref sig .tc .vmem S1x1024x1024 .bf16) (harg25 : arg25.IsWhole) (arg26 : Memref sig .tc .vmem S1x256x1024 .bf16) (harg26 : arg26.IsWhole) (arg27 : Memref sig .tc .vmem S1x1024 .f32) (harg27 : arg27.IsWhole) (arg28 : Memref sig .tc .vmem S256x1024 .f32) (harg28 : arg28.IsWhole) (arg29 : Memref sig .tc .vmem S288x512 .f32) (harg29 : arg29.IsWhole) (arg30 : Memref sig .tc .vmem S256x512 .bf16) (harg30 : arg30.IsWhole) (hc0 : cond0_0 i)
    (x0 : Vec F S256x1024 .f32) (x1 : Vec F S256x512 .bf16) (x2 : Vec F S256x512 .bf16) (x3 : Vec F S256x3072 .bf16) (x4 : Vec F S1x256x256 .f32) (x5 : Vec F S1x16x512 .f32) (x6 : Vec F S1x256x512 .f32) (x7 : Vec F S1x16x512 .f32) (x8 : Vec F S1x16x512 .f32) (x9 : Vec F S1x256x512 .f32) (x10 : Vec F S1x16x512 .f32) (x11 : Vec F S1x31x512 .f32) (x12 : Vec F S1x1x512 .f32) (x13 : Vec F S1x1x512 .f32) (x14 : Vec F S1x1x512 .f32) (x15 : Vec F S1x512x1024 .bf16) (x16 : Vec F S1x512x1024 .bf16) (x17 : Vec F S1x512x1024 .bf16) (x18 : Vec F S1x1024x1024 .bf16) (x19 : Vec F S1x1x1024 .f32) (x20 : Vec F S1x1024x2816 .bf16) (x21 : Vec F S1x1024x2816 .bf16) (x22 : Vec F S1x2816x1024 .bf16) (x23 : Vec F S1x1x1024 .f32) (x24 : Vec F S1x1024x1024 .bf16) (x25 : Vec F S1x256x1024 .bf16) (x26 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26).1 S256x1024.size (by sl_kernel_rfl) y

/-- What case A leaves in the output's block. -/
def out0_A_27 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x3072 .bf16) (harg4 : arg4.IsWhole) (arg5 : Memref sig .tc .vmem S1x256x256 .f32) (harg5 : arg5.IsWhole) (arg6 : Memref sig .tc .vmem S1x16x512 .f32) (harg6 : arg6.IsWhole) (arg7 : Memref sig .tc .vmem S1x256x512 .f32) (harg7 : arg7.IsWhole) (arg8 : Memref sig .tc .vmem S1x16x512 .f32) (harg8 : arg8.IsWhole) (arg9 : Memref sig .tc .vmem S1x16x512 .f32) (harg9 : arg9.IsWhole) (arg10 : Memref sig .tc .vmem S1x256x512 .f32) (harg10 : arg10.IsWhole) (arg11 : Memref sig .tc .vmem S1x16x512 .f32) (harg11 : arg11.IsWhole) (arg12 : Memref sig .tc .vmem S1x31x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x1024x1024 .bf16) (harg19 : arg19.IsWhole) (arg20 : Memref sig .tc .vmem S1x1x1024 .f32) (harg20 : arg20.IsWhole) (arg21 : Memref sig .tc .vmem S1x1024x2816 .bf16) (harg21 : arg21.IsWhole) (arg22 : Memref sig .tc .vmem S1x1024x2816 .bf16) (harg22 : arg22.IsWhole) (arg23 : Memref sig .tc .vmem S1x2816x1024 .bf16) (harg23 : arg23.IsWhole) (arg24 : Memref sig .tc .vmem S1x1x1024 .f32) (harg24 : arg24.IsWhole) (arg25 : Memref sig .tc .vmem S1x1024x1024 .bf16) (harg25 : arg25.IsWhole) (arg26 : Memref sig .tc .vmem S1x256x1024 .bf16) (harg26 : arg26.IsWhole) (arg27 : Memref sig .tc .vmem S1x1024 .f32) (harg27 : arg27.IsWhole) (arg28 : Memref sig .tc .vmem S256x1024 .f32) (harg28 : arg28.IsWhole) (arg29 : Memref sig .tc .vmem S288x512 .f32) (harg29 : arg29.IsWhole) (arg30 : Memref sig .tc .vmem S256x512 .bf16) (harg30 : arg30.IsWhole) (hc0 : cond0_0 i)
    (x0 : Vec F S256x1024 .f32) (x1 : Vec F S256x512 .bf16) (x2 : Vec F S256x512 .bf16) (x3 : Vec F S256x3072 .bf16) (x4 : Vec F S1x256x256 .f32) (x5 : Vec F S1x16x512 .f32) (x6 : Vec F S1x256x512 .f32) (x7 : Vec F S1x16x512 .f32) (x8 : Vec F S1x16x512 .f32) (x9 : Vec F S1x256x512 .f32) (x10 : Vec F S1x16x512 .f32) (x11 : Vec F S1x31x512 .f32) (x12 : Vec F S1x1x512 .f32) (x13 : Vec F S1x1x512 .f32) (x14 : Vec F S1x1x512 .f32) (x15 : Vec F S1x512x1024 .bf16) (x16 : Vec F S1x512x1024 .bf16) (x17 : Vec F S1x512x1024 .bf16) (x18 : Vec F S1x1024x1024 .bf16) (x19 : Vec F S1x1x1024 .f32) (x20 : Vec F S1x1024x2816 .bf16) (x21 : Vec F S1x1024x2816 .bf16) (x22 : Vec F S1x2816x1024 .bf16) (x23 : Vec F S1x1x1024 .f32) (x24 : Vec F S1x1024x1024 .bf16) (x25 : Vec F S1x256x1024 .bf16) (x26 : Vec F S1x1024 .f32) : Vec F S256x1024 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26).1)

/-- Case A's pieces for the scratch that is kept between points cover it. -/
theorem scover0_A_1 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x3072 .bf16) (harg4 : arg4.IsWhole) (arg5 : Memref sig .tc .vmem S1x256x256 .f32) (harg5 : arg5.IsWhole) (arg6 : Memref sig .tc .vmem S1x16x512 .f32) (harg6 : arg6.IsWhole) (arg7 : Memref sig .tc .vmem S1x256x512 .f32) (harg7 : arg7.IsWhole) (arg8 : Memref sig .tc .vmem S1x16x512 .f32) (harg8 : arg8.IsWhole) (arg9 : Memref sig .tc .vmem S1x16x512 .f32) (harg9 : arg9.IsWhole) (arg10 : Memref sig .tc .vmem S1x256x512 .f32) (harg10 : arg10.IsWhole) (arg11 : Memref sig .tc .vmem S1x16x512 .f32) (harg11 : arg11.IsWhole) (arg12 : Memref sig .tc .vmem S1x31x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x1024x1024 .bf16) (harg19 : arg19.IsWhole) (arg20 : Memref sig .tc .vmem S1x1x1024 .f32) (harg20 : arg20.IsWhole) (arg21 : Memref sig .tc .vmem S1x1024x2816 .bf16) (harg21 : arg21.IsWhole) (arg22 : Memref sig .tc .vmem S1x1024x2816 .bf16) (harg22 : arg22.IsWhole) (arg23 : Memref sig .tc .vmem S1x2816x1024 .bf16) (harg23 : arg23.IsWhole) (arg24 : Memref sig .tc .vmem S1x1x1024 .f32) (harg24 : arg24.IsWhole) (arg25 : Memref sig .tc .vmem S1x1024x1024 .bf16) (harg25 : arg25.IsWhole) (arg26 : Memref sig .tc .vmem S1x256x1024 .bf16) (harg26 : arg26.IsWhole) (arg27 : Memref sig .tc .vmem S1x1024 .f32) (harg27 : arg27.IsWhole) (arg28 : Memref sig .tc .vmem S256x1024 .f32) (harg28 : arg28.IsWhole) (arg29 : Memref sig .tc .vmem S288x512 .f32) (harg29 : arg29.IsWhole) (arg30 : Memref sig .tc .vmem S256x512 .bf16) (harg30 : arg30.IsWhole) (hc0 : cond0_0 i)
    (x0 : Vec F S256x1024 .f32) (x1 : Vec F S256x512 .bf16) (x2 : Vec F S256x512 .bf16) (x3 : Vec F S256x3072 .bf16) (x4 : Vec F S1x256x256 .f32) (x5 : Vec F S1x16x512 .f32) (x6 : Vec F S1x256x512 .f32) (x7 : Vec F S1x16x512 .f32) (x8 : Vec F S1x16x512 .f32) (x9 : Vec F S1x256x512 .f32) (x10 : Vec F S1x16x512 .f32) (x11 : Vec F S1x31x512 .f32) (x12 : Vec F S1x1x512 .f32) (x13 : Vec F S1x1x512 .f32) (x14 : Vec F S1x1x512 .f32) (x15 : Vec F S1x512x1024 .bf16) (x16 : Vec F S1x512x1024 .bf16) (x17 : Vec F S1x512x1024 .bf16) (x18 : Vec F S1x1024x1024 .bf16) (x19 : Vec F S1x1x1024 .f32) (x20 : Vec F S1x1024x2816 .bf16) (x21 : Vec F S1x1024x2816 .bf16) (x22 : Vec F S1x2816x1024 .bf16) (x23 : Vec F S1x1x1024 .f32) (x24 : Vec F S1x1024x1024 .bf16) (x25 : Vec F S1x256x1024 .bf16) (x26 : Vec F S1x1024 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26).2.1 S8x512.size (by sl_kernel_rfl) y

/-- What case A leaves in the scratch. -/
def sout0_A_1 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x3072 .bf16) (harg4 : arg4.IsWhole) (arg5 : Memref sig .tc .vmem S1x256x256 .f32) (harg5 : arg5.IsWhole) (arg6 : Memref sig .tc .vmem S1x16x512 .f32) (harg6 : arg6.IsWhole) (arg7 : Memref sig .tc .vmem S1x256x512 .f32) (harg7 : arg7.IsWhole) (arg8 : Memref sig .tc .vmem S1x16x512 .f32) (harg8 : arg8.IsWhole) (arg9 : Memref sig .tc .vmem S1x16x512 .f32) (harg9 : arg9.IsWhole) (arg10 : Memref sig .tc .vmem S1x256x512 .f32) (harg10 : arg10.IsWhole) (arg11 : Memref sig .tc .vmem S1x16x512 .f32) (harg11 : arg11.IsWhole) (arg12 : Memref sig .tc .vmem S1x31x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x1024x1024 .bf16) (harg19 : arg19.IsWhole) (arg20 : Memref sig .tc .vmem S1x1x1024 .f32) (harg20 : arg20.IsWhole) (arg21 : Memref sig .tc .vmem S1x1024x2816 .bf16) (harg21 : arg21.IsWhole) (arg22 : Memref sig .tc .vmem S1x1024x2816 .bf16) (harg22 : arg22.IsWhole) (arg23 : Memref sig .tc .vmem S1x2816x1024 .bf16) (harg23 : arg23.IsWhole) (arg24 : Memref sig .tc .vmem S1x1x1024 .f32) (harg24 : arg24.IsWhole) (arg25 : Memref sig .tc .vmem S1x1024x1024 .bf16) (harg25 : arg25.IsWhole) (arg26 : Memref sig .tc .vmem S1x256x1024 .bf16) (harg26 : arg26.IsWhole) (arg27 : Memref sig .tc .vmem S1x1024 .f32) (harg27 : arg27.IsWhole) (arg28 : Memref sig .tc .vmem S256x1024 .f32) (harg28 : arg28.IsWhole) (arg29 : Memref sig .tc .vmem S288x512 .f32) (harg29 : arg29.IsWhole) (arg30 : Memref sig .tc .vmem S256x512 .bf16) (harg30 : arg30.IsWhole) (hc0 : cond0_0 i)
    (x0 : Vec F S256x1024 .f32) (x1 : Vec F S256x512 .bf16) (x2 : Vec F S256x512 .bf16) (x3 : Vec F S256x3072 .bf16) (x4 : Vec F S1x256x256 .f32) (x5 : Vec F S1x16x512 .f32) (x6 : Vec F S1x256x512 .f32) (x7 : Vec F S1x16x512 .f32) (x8 : Vec F S1x16x512 .f32) (x9 : Vec F S1x256x512 .f32) (x10 : Vec F S1x16x512 .f32) (x11 : Vec F S1x31x512 .f32) (x12 : Vec F S1x1x512 .f32) (x13 : Vec F S1x1x512 .f32) (x14 : Vec F S1x1x512 .f32) (x15 : Vec F S1x512x1024 .bf16) (x16 : Vec F S1x512x1024 .bf16) (x17 : Vec F S1x512x1024 .bf16) (x18 : Vec F S1x1024x1024 .bf16) (x19 : Vec F S1x1x1024 .f32) (x20 : Vec F S1x1024x2816 .bf16) (x21 : Vec F S1x1024x2816 .bf16) (x22 : Vec F S1x2816x1024 .bf16) (x23 : Vec F S1x1x1024 .f32) (x24 : Vec F S1x1024x1024 .bf16) (x25 : Vec F S1x256x1024 .bf16) (x26 : Vec F S1x1024 .f32) : Vec F S256x512 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26).2.1)

/-- Case B's pieces for the output cover its block. -/
theorem cover0_B_27 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x3072 .bf16) (harg4 : arg4.IsWhole) (arg5 : Memref sig .tc .vmem S1x256x256 .f32) (harg5 : arg5.IsWhole) (arg6 : Memref sig .tc .vmem S1x16x512 .f32) (harg6 : arg6.IsWhole) (arg7 : Memref sig .tc .vmem S1x256x512 .f32) (harg7 : arg7.IsWhole) (arg8 : Memref sig .tc .vmem S1x16x512 .f32) (harg8 : arg8.IsWhole) (arg9 : Memref sig .tc .vmem S1x16x512 .f32) (harg9 : arg9.IsWhole) (arg10 : Memref sig .tc .vmem S1x256x512 .f32) (harg10 : arg10.IsWhole) (arg11 : Memref sig .tc .vmem S1x16x512 .f32) (harg11 : arg11.IsWhole) (arg12 : Memref sig .tc .vmem S1x31x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x1024x1024 .bf16) (harg19 : arg19.IsWhole) (arg20 : Memref sig .tc .vmem S1x1x1024 .f32) (harg20 : arg20.IsWhole) (arg21 : Memref sig .tc .vmem S1x1024x2816 .bf16) (harg21 : arg21.IsWhole) (arg22 : Memref sig .tc .vmem S1x1024x2816 .bf16) (harg22 : arg22.IsWhole) (arg23 : Memref sig .tc .vmem S1x2816x1024 .bf16) (harg23 : arg23.IsWhole) (arg24 : Memref sig .tc .vmem S1x1x1024 .f32) (harg24 : arg24.IsWhole) (arg25 : Memref sig .tc .vmem S1x1024x1024 .bf16) (harg25 : arg25.IsWhole) (arg26 : Memref sig .tc .vmem S1x256x1024 .bf16) (harg26 : arg26.IsWhole) (arg27 : Memref sig .tc .vmem S1x1024 .f32) (harg27 : arg27.IsWhole) (arg28 : Memref sig .tc .vmem S256x1024 .f32) (harg28 : arg28.IsWhole) (arg29 : Memref sig .tc .vmem S288x512 .f32) (harg29 : arg29.IsWhole) (arg30 : Memref sig .tc .vmem S256x512 .bf16) (harg30 : arg30.IsWhole) (hc0 : ¬cond0_0 i)
    (x0 : Vec F S256x1024 .f32) (x1 : Vec F S256x512 .bf16) (x2 : Vec F S256x512 .bf16) (x3 : Vec F S256x3072 .bf16) (x4 : Vec F S1x256x256 .f32) (x5 : Vec F S1x16x512 .f32) (x6 : Vec F S1x256x512 .f32) (x7 : Vec F S1x16x512 .f32) (x8 : Vec F S1x16x512 .f32) (x9 : Vec F S1x256x512 .f32) (x10 : Vec F S1x16x512 .f32) (x11 : Vec F S1x31x512 .f32) (x12 : Vec F S1x1x512 .f32) (x13 : Vec F S1x1x512 .f32) (x14 : Vec F S1x1x512 .f32) (x15 : Vec F S1x512x1024 .bf16) (x16 : Vec F S1x512x1024 .bf16) (x17 : Vec F S1x512x1024 .bf16) (x18 : Vec F S1x1024x1024 .bf16) (x19 : Vec F S1x1x1024 .f32) (x20 : Vec F S1x1024x2816 .bf16) (x21 : Vec F S1x1024x2816 .bf16) (x22 : Vec F S1x2816x1024 .bf16) (x23 : Vec F S1x1x1024 .f32) (x24 : Vec F S1x1024x1024 .bf16) (x25 : Vec F S1x256x1024 .bf16) (x26 : Vec F S1x1024 .f32) (xs1 : Vec F S256x512 .bf16) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26 xs1).1 S256x1024.size (by sl_kernel_rfl) y

/-- What case B leaves in the output's block. -/
def out0_B_27 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x3072 .bf16) (harg4 : arg4.IsWhole) (arg5 : Memref sig .tc .vmem S1x256x256 .f32) (harg5 : arg5.IsWhole) (arg6 : Memref sig .tc .vmem S1x16x512 .f32) (harg6 : arg6.IsWhole) (arg7 : Memref sig .tc .vmem S1x256x512 .f32) (harg7 : arg7.IsWhole) (arg8 : Memref sig .tc .vmem S1x16x512 .f32) (harg8 : arg8.IsWhole) (arg9 : Memref sig .tc .vmem S1x16x512 .f32) (harg9 : arg9.IsWhole) (arg10 : Memref sig .tc .vmem S1x256x512 .f32) (harg10 : arg10.IsWhole) (arg11 : Memref sig .tc .vmem S1x16x512 .f32) (harg11 : arg11.IsWhole) (arg12 : Memref sig .tc .vmem S1x31x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x1024x1024 .bf16) (harg19 : arg19.IsWhole) (arg20 : Memref sig .tc .vmem S1x1x1024 .f32) (harg20 : arg20.IsWhole) (arg21 : Memref sig .tc .vmem S1x1024x2816 .bf16) (harg21 : arg21.IsWhole) (arg22 : Memref sig .tc .vmem S1x1024x2816 .bf16) (harg22 : arg22.IsWhole) (arg23 : Memref sig .tc .vmem S1x2816x1024 .bf16) (harg23 : arg23.IsWhole) (arg24 : Memref sig .tc .vmem S1x1x1024 .f32) (harg24 : arg24.IsWhole) (arg25 : Memref sig .tc .vmem S1x1024x1024 .bf16) (harg25 : arg25.IsWhole) (arg26 : Memref sig .tc .vmem S1x256x1024 .bf16) (harg26 : arg26.IsWhole) (arg27 : Memref sig .tc .vmem S1x1024 .f32) (harg27 : arg27.IsWhole) (arg28 : Memref sig .tc .vmem S256x1024 .f32) (harg28 : arg28.IsWhole) (arg29 : Memref sig .tc .vmem S288x512 .f32) (harg29 : arg29.IsWhole) (arg30 : Memref sig .tc .vmem S256x512 .bf16) (harg30 : arg30.IsWhole) (hc0 : ¬cond0_0 i)
    (x0 : Vec F S256x1024 .f32) (x1 : Vec F S256x512 .bf16) (x2 : Vec F S256x512 .bf16) (x3 : Vec F S256x3072 .bf16) (x4 : Vec F S1x256x256 .f32) (x5 : Vec F S1x16x512 .f32) (x6 : Vec F S1x256x512 .f32) (x7 : Vec F S1x16x512 .f32) (x8 : Vec F S1x16x512 .f32) (x9 : Vec F S1x256x512 .f32) (x10 : Vec F S1x16x512 .f32) (x11 : Vec F S1x31x512 .f32) (x12 : Vec F S1x1x512 .f32) (x13 : Vec F S1x1x512 .f32) (x14 : Vec F S1x1x512 .f32) (x15 : Vec F S1x512x1024 .bf16) (x16 : Vec F S1x512x1024 .bf16) (x17 : Vec F S1x512x1024 .bf16) (x18 : Vec F S1x1024x1024 .bf16) (x19 : Vec F S1x1x1024 .f32) (x20 : Vec F S1x1024x2816 .bf16) (x21 : Vec F S1x1024x2816 .bf16) (x22 : Vec F S1x2816x1024 .bf16) (x23 : Vec F S1x1x1024 .f32) (x24 : Vec F S1x1024x1024 .bf16) (x25 : Vec F S1x256x1024 .bf16) (x26 : Vec F S1x1024 .f32) (xs1 : Vec F S256x512 .bf16) : Vec F S256x1024 .f32 :=
  VO0_27.read (Elt F) (VO0_27.writes (Elt F) VO0_27.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26 xs1).1)

/-- Case B's pieces for the scratch that is kept between points cover it. -/
theorem scover0_B_1 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x3072 .bf16) (harg4 : arg4.IsWhole) (arg5 : Memref sig .tc .vmem S1x256x256 .f32) (harg5 : arg5.IsWhole) (arg6 : Memref sig .tc .vmem S1x16x512 .f32) (harg6 : arg6.IsWhole) (arg7 : Memref sig .tc .vmem S1x256x512 .f32) (harg7 : arg7.IsWhole) (arg8 : Memref sig .tc .vmem S1x16x512 .f32) (harg8 : arg8.IsWhole) (arg9 : Memref sig .tc .vmem S1x16x512 .f32) (harg9 : arg9.IsWhole) (arg10 : Memref sig .tc .vmem S1x256x512 .f32) (harg10 : arg10.IsWhole) (arg11 : Memref sig .tc .vmem S1x16x512 .f32) (harg11 : arg11.IsWhole) (arg12 : Memref sig .tc .vmem S1x31x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x1024x1024 .bf16) (harg19 : arg19.IsWhole) (arg20 : Memref sig .tc .vmem S1x1x1024 .f32) (harg20 : arg20.IsWhole) (arg21 : Memref sig .tc .vmem S1x1024x2816 .bf16) (harg21 : arg21.IsWhole) (arg22 : Memref sig .tc .vmem S1x1024x2816 .bf16) (harg22 : arg22.IsWhole) (arg23 : Memref sig .tc .vmem S1x2816x1024 .bf16) (harg23 : arg23.IsWhole) (arg24 : Memref sig .tc .vmem S1x1x1024 .f32) (harg24 : arg24.IsWhole) (arg25 : Memref sig .tc .vmem S1x1024x1024 .bf16) (harg25 : arg25.IsWhole) (arg26 : Memref sig .tc .vmem S1x256x1024 .bf16) (harg26 : arg26.IsWhole) (arg27 : Memref sig .tc .vmem S1x1024 .f32) (harg27 : arg27.IsWhole) (arg28 : Memref sig .tc .vmem S256x1024 .f32) (harg28 : arg28.IsWhole) (arg29 : Memref sig .tc .vmem S288x512 .f32) (harg29 : arg29.IsWhole) (arg30 : Memref sig .tc .vmem S256x512 .bf16) (harg30 : arg30.IsWhole) (hc0 : ¬cond0_0 i)
    (x0 : Vec F S256x1024 .f32) (x1 : Vec F S256x512 .bf16) (x2 : Vec F S256x512 .bf16) (x3 : Vec F S256x3072 .bf16) (x4 : Vec F S1x256x256 .f32) (x5 : Vec F S1x16x512 .f32) (x6 : Vec F S1x256x512 .f32) (x7 : Vec F S1x16x512 .f32) (x8 : Vec F S1x16x512 .f32) (x9 : Vec F S1x256x512 .f32) (x10 : Vec F S1x16x512 .f32) (x11 : Vec F S1x31x512 .f32) (x12 : Vec F S1x1x512 .f32) (x13 : Vec F S1x1x512 .f32) (x14 : Vec F S1x1x512 .f32) (x15 : Vec F S1x512x1024 .bf16) (x16 : Vec F S1x512x1024 .bf16) (x17 : Vec F S1x512x1024 .bf16) (x18 : Vec F S1x1024x1024 .bf16) (x19 : Vec F S1x1x1024 .f32) (x20 : Vec F S1x1024x2816 .bf16) (x21 : Vec F S1x1024x2816 .bf16) (x22 : Vec F S1x2816x1024 .bf16) (x23 : Vec F S1x1x1024 .f32) (x24 : Vec F S1x1024x1024 .bf16) (x25 : Vec F S1x256x1024 .bf16) (x26 : Vec F S1x1024 .f32) (xs1 : Vec F S256x512 .bf16) (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26 xs1).2.1 S8x512.size (by sl_kernel_rfl) y

/-- What case B leaves in the scratch. -/
def sout0_B_1 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x3072 .bf16) (harg4 : arg4.IsWhole) (arg5 : Memref sig .tc .vmem S1x256x256 .f32) (harg5 : arg5.IsWhole) (arg6 : Memref sig .tc .vmem S1x16x512 .f32) (harg6 : arg6.IsWhole) (arg7 : Memref sig .tc .vmem S1x256x512 .f32) (harg7 : arg7.IsWhole) (arg8 : Memref sig .tc .vmem S1x16x512 .f32) (harg8 : arg8.IsWhole) (arg9 : Memref sig .tc .vmem S1x16x512 .f32) (harg9 : arg9.IsWhole) (arg10 : Memref sig .tc .vmem S1x256x512 .f32) (harg10 : arg10.IsWhole) (arg11 : Memref sig .tc .vmem S1x16x512 .f32) (harg11 : arg11.IsWhole) (arg12 : Memref sig .tc .vmem S1x31x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x1024x1024 .bf16) (harg19 : arg19.IsWhole) (arg20 : Memref sig .tc .vmem S1x1x1024 .f32) (harg20 : arg20.IsWhole) (arg21 : Memref sig .tc .vmem S1x1024x2816 .bf16) (harg21 : arg21.IsWhole) (arg22 : Memref sig .tc .vmem S1x1024x2816 .bf16) (harg22 : arg22.IsWhole) (arg23 : Memref sig .tc .vmem S1x2816x1024 .bf16) (harg23 : arg23.IsWhole) (arg24 : Memref sig .tc .vmem S1x1x1024 .f32) (harg24 : arg24.IsWhole) (arg25 : Memref sig .tc .vmem S1x1024x1024 .bf16) (harg25 : arg25.IsWhole) (arg26 : Memref sig .tc .vmem S1x256x1024 .bf16) (harg26 : arg26.IsWhole) (arg27 : Memref sig .tc .vmem S1x1024 .f32) (harg27 : arg27.IsWhole) (arg28 : Memref sig .tc .vmem S256x1024 .f32) (harg28 : arg28.IsWhole) (arg29 : Memref sig .tc .vmem S288x512 .f32) (harg29 : arg29.IsWhole) (arg30 : Memref sig .tc .vmem S256x512 .bf16) (harg30 : arg30.IsWhole) (hc0 : ¬cond0_0 i)
    (x0 : Vec F S256x1024 .f32) (x1 : Vec F S256x512 .bf16) (x2 : Vec F S256x512 .bf16) (x3 : Vec F S256x3072 .bf16) (x4 : Vec F S1x256x256 .f32) (x5 : Vec F S1x16x512 .f32) (x6 : Vec F S1x256x512 .f32) (x7 : Vec F S1x16x512 .f32) (x8 : Vec F S1x16x512 .f32) (x9 : Vec F S1x256x512 .f32) (x10 : Vec F S1x16x512 .f32) (x11 : Vec F S1x31x512 .f32) (x12 : Vec F S1x1x512 .f32) (x13 : Vec F S1x1x512 .f32) (x14 : Vec F S1x1x512 .f32) (x15 : Vec F S1x512x1024 .bf16) (x16 : Vec F S1x512x1024 .bf16) (x17 : Vec F S1x512x1024 .bf16) (x18 : Vec F S1x1024x1024 .bf16) (x19 : Vec F S1x1x1024 .f32) (x20 : Vec F S1x1024x2816 .bf16) (x21 : Vec F S1x1024x2816 .bf16) (x22 : Vec F S1x2816x1024 .bf16) (x23 : Vec F S1x1x1024 .f32) (x24 : Vec F S1x1024x1024 .bf16) (x25 : Vec F S1x256x1024 .bf16) (x26 : Vec F S1x1024 .f32) (xs1 : Vec F S256x512 .bf16) : Vec F S256x512 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 x20 x21 x22 x23 x24 x25 x26 xs1).2.1)

/- What the outputs hold after each point. -/

/-- What the output's block and the scratch hold after each point: case A at the first, case B over the point before at the others. -/
def outsAt0 (c : Dev nD) : (n : ℕ) → n < cfg0.N → Vec F S256x1024 .f32 × Vec F S256x512 .bf16
  | 0, hn => (out0_A_27 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩) (iblk m c 26 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩) (iblk m c 26 ⟨0, hn⟩))
  | n + 1, hn =>
    if h0 : (n + 1) % 64 = 0 then
      (out0_A_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩))
    else
      (out0_B_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩) (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩) (outsAt0 c n (Nat.lt_of_succ_lt hn)).2)

/-- `outsAt0` at a point of case A: that case's contents. -/
theorem outsAt0_A (c : Dev nD) (t : Fin cfg0.N) (h0 : t.val % 64 = 0) :
    outsAt0 m c t.val t.isLt = (out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant between points: before the first the scratch holds anything, afterwards what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2)) ∗ (∃ r, prngReg c r)) := by
  cases n with
  | zero => exact absurd rfl hz
  | succ n => rfl

/- The pipeline's proof data. -/

/-- The data of the pipeline: its arrays, what each block holds after each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => (outsAt0 m c t.val t.isLt).1
    | ⟨_ + 28, h⟩ => absurd h (Nat.not_lt.2 (Nat.le_add_left _ _))
  Φ t := PhiS m c t.val (Nat.le_of_lt_succ t.isLt)
  q w := Pipeline.shareOf spec0 w
  owed _ := 0

/-- The arrays are those that the launch finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, block by block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = (outsAt0 m c t.val t.isLt).1 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/- The body obligation, at a generic point. -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 22400000 in
/-- The body at any point: case A or case B. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_27 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexists _; iexact H27
      isplitl [HS0]; · iexact HS0
      isplitl [HS1]; · iexact HS1
      iintro ⟨H0, H1, H2, H3, H4, H5, H6, H7, H8, H9, H10, H11, H12, H13, H14, H15, H16, H17, H18, H19, H20, H21, H22, H23, H24, H25, H26, ⟨%e27, H27⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      unfold owns; iexists _; isplitr
      swap; · iexact H27
      ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_27 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexists _; iexact H27
      isplitl [HS0]; · iexact HS0
      isplitl [HS1]; · iexact HS1
      iintro ⟨H0, H1, H2, H3, H4, H5, H6, H7, H8, H9, H10, H11, H12, H13, H14, H15, H16, H17, H18, H19, H20, H21, H22, H23, H24, H25, H26, ⟨%e27, H27⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      unfold owns; iexists _; isplitr
      swap; · iexact H27
      ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body in the table is the body stated here. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/- The run and the frame. -/

set_option backward.isDefEq.respectTransparency.types false in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- The frame of the last call's kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.Kernel2Ideal.Gen

end
-- ==== Proof.Chain.lean ====
/- One chain of the attention kernel: 128 query rows against the 4096 keys in four chunks.
   The kernel interleaves sixteen such chains. Their steps are stated here once, in the kernel's own operations,
   and the sixteen stored blocks are shown to be the sixteen chains. -/
module

public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

/-- The two copies of the query rows, one above the other: the first with the features of the second component set
    to zero, the second with those of the first. -/
def masked (q : Vec F S128x128 .bf16) : FVec F S256x128 .bf16 :=
  truncf .bf16
    (concatenate S256x128 0
      [⟨S128x128, select (cmpi .slt (iota .tc S128x128 32 [1] iota_S128x128_d1_w32) (broadcast S128x128 64#32))
          (extf .f32 q bitsLt_bf16_f32) (broadcast S128x128 (Scalar.ofBits .f32 0x00000000#32))⟩,
       ⟨S128x128, select (cmpi .sge (iota .tc S128x128 32 [1] iota_S128x128_d1_w32) (broadcast S128x128 64#32))
          (extf .f32 q bitsLt_bf16_f32) (broadcast S128x128 (Scalar.ofBits .f32 0x00000000#32))⟩]
      concatenates_S128x128_S128x128_S256x128_d0) bitsLt_bf16_f32

/-- The scores of a chunk of 1024 keys. -/
def scores (q : Vec F S128x128 .bf16) (k : Vec F S1x128x1024 .bf16) : FVec F S256x1024 .f32 :=
  matmul dot_S256x128_S128x1024_S256x1024_1_0_0_1_n_n none (masked q) (shapeCast S128x1024 k shapeCasts_S1x128x1024_S128x1024)
    (constant S256x1024 .f32 0x00000000#32)

/-- Each row's largest score in the chunk. -/
def rowMax (s : FVec F S256x1024 .f32) : FVec F S256x1 .f32 :=
  shapeCast S256x1 (multiReduction .maximumf [1] S256 s 0xFF800000#32 reduces_S256x1024_S256 (.inl rfl) rfl) shapeCasts_S256_S256x1

/-- Two to the power of each score less its row's `m`. -/
def powers (s : FVec F S256x1024 .f32) (m : FVec F S256x1 .f32) : FVec F S256x1024 .bf16 :=
  truncf .bf16 (exp2 (subf s (broadcastTo S256x1024 m broadcasts_S256x1_S256x1024))) bitsLt_bf16_f32

/-- The powers times the chunk of the values with their column of ones. -/
def weigh (p : FVec F S256x1024 .bf16) (v : Vec F S1024x256 .bf16) : FVec F S256x256 .f32 :=
  matmul dot_S256x1024_S1024x256_S256x256_1_0_0_1_n_n none p v (constant S256x256 .f32 0x00000000#32)

/-- The largest score so far, after one chunk more. -/
def nextMax (m : FVec F S256x1 .f32) (s : FVec F S256x1024 .f32) : FVec F S256x1 .f32 := maximumf m (rowMax s)

/-- The accumulator after one chunk more: what there was, rescaled to the new maximum, and the chunk's own part. -/
def nextAcc (acc : FVec F S256x256 .f32) (m m' : FVec F S256x1 .f32) (s : FVec F S256x1024 .f32) (v : Vec F S1024x256 .bf16) :
    FVec F S256x256 .f32 :=
  addf (mulf acc (broadcastTo S256x256 (exp2 (subf m m')) broadcasts_S256x1_S256x256)) (weigh (powers s m') v)

/-- The difference of the two components' averages. -/
def diff (acc : FVec F S256x256 .f32) (lam : FVec F S1x1 .f32) : FVec F S128x128 .f32 :=
  subf
    (divf (extractStridedSlice S128x128 ![0, 0] acc slices_S256x256_o0_0_S128x128)
      (extractStridedSlice S128x128 ![0, 128] acc slices_S256x256_o0_128_S128x128))
    (mulf (broadcastTo S128x128 lam broadcasts_S1x1_S128x128)
      (divf (extractStridedSlice S128x128 ![128, 0] acc slices_S256x256_o128_0_S128x128)
        (extractStridedSlice S128x128 ![128, 128] acc slices_S256x256_o128_128_S128x128)))

/-- The norm of the difference, with its gain and the factor after it. -/
def normed (o : FVec F S128x128 .f32) (g : Vec F S1x1x128 .f32) : FVec F S128x128 .bf16 :=
  truncf .bf16
    (mulf
      (mulf
        (mulf o
          (broadcastTo S128x128
            (rsqrt
              (addf
                (divf
                  (shapeCast S128x1 (multiReduction .add [1] S128 (mulf o o) 0x00000000#32 reduces_S128x128_S128 (.inl rfl) rfl)
                    shapeCasts_S128_S128x1)
                  (broadcast S128x1 (Scalar.ofBits .f32 0x43000000#32)))
                (broadcast S128x1 (Scalar.ofBits .f32 0x358637BD#32))))
            broadcasts_S128x1_S128x128))
        (broadcastTo S128x128 (shapeCast S1x128 g shapeCasts_S1x1x128_S1x128) broadcasts_S1x128_S128x128))
      (broadcast S128x128 (Scalar.ofBits .f32 0x3F4CCCCD#32)))
    bitsLt_bf16_f32

/-- The largest score after the chunks `0 … n`. -/
def maxAt (q : Vec F S128x128 .bf16) (k : ℕ → Vec F S1x128x1024 .bf16) : ℕ → FVec F S256x1 .f32
  | 0 => rowMax (scores q (k 0))
  | n + 1 => nextMax (maxAt q k n) (scores q (k (n + 1)))

/-- The accumulator after the chunks `0 … n`. -/
def accAt (q : Vec F S128x128 .bf16) (k : ℕ → Vec F S1x128x1024 .bf16) (v : ℕ → Vec F S1024x256 .bf16) : ℕ → FVec F S256x256 .f32
  | 0 => weigh (powers (scores q (k 0)) (maxAt q k 0)) (v 0)
  | n + 1 => nextAcc (accAt q k v n) (maxAt q k n) (maxAt q k (n + 1)) (scores q (k (n + 1))) (v (n + 1))

/-- What one chain stores. -/
def chain (q : Vec F S128x128 .bf16) (k : ℕ → Vec F S1x128x1024 .bf16) (v : ℕ → Vec F S1024x256 .bf16) (lam : FVec F S1x1 .f32)
    (g : Vec F S1x1x128 .f32) : FVec F S128x128 .bf16 :=
  normed (diff (accAt q k v 3) lam) g

theorem inb_q (c : Fin 16) : ∀ a, (![128 * c.val, 0] : Fin 2 → ℕ) a + (![128, 128] : Fin 2 → ℕ) a ≤ S2048x128.size a := by
  intro a
  have := c.isLt
  fin_cases a
  · show 128 * c.val + 128 ≤ 2048; omega
  · show 0 + 128 ≤ 128; omega

theorem inb_k (n : ℕ) : ∀ a, (![0, 0, 1024 * (n % 4)] : Fin 3 → ℕ) a + (![1, 128, 1024] : Fin 3 → ℕ) a ≤ S1x128x4096.size a := by
  intro a
  fin_cases a
  · show 0 + 1 ≤ 1; omega
  · show 0 + 128 ≤ 128; omega
  · show 1024 * (n % 4) + 1024 ≤ 4096; omega

theorem inb_v (n : ℕ) : ∀ a, (![1024 * (n % 4), 0] : Fin 2 → ℕ) a + (![1024, 256] : Fin 2 → ℕ) a ≤ S4096x256.size a := by
  intro a
  fin_cases a
  · show 1024 * (n % 4) + 1024 ≤ 4096; omega
  · show 0 + 256 ≤ 256; omega

/-- Where chain `c` reads its queries and stores its result. -/
abbrev rectQ (c : Fin 16) : Rect S2048x128 := Rect.unit (s := S2048x128) ![128 * c.val, 0] ![128, 128] (inb_q c)
/-- Where chunk `n` lies in the transposed keys. -/
abbrev rectK (n : ℕ) : Rect S1x128x4096 := Rect.unit (s := S1x128x4096) ![0, 0, 1024 * (n % 4)] ![1, 128, 1024] (inb_k n)
/-- Where chunk `n` lies in the values with their ones. -/
abbrev rectV (n : ℕ) : Rect S4096x256 := Rect.unit (s := S4096x256) ![1024 * (n % 4), 0] ![1024, 256] (inb_v n)
abbrev rectL : Rect S1x1x64 := Rect.unit (s := S1x1x64) ![0, 0, 0] S1x1x64.size inb_S1x1x64_S1x1x64_0_0_0
abbrev rectG : Rect S1x1x128 := Rect.unit (s := S1x1x128) ![0, 0, 0] S1x1x128.size inb_S1x1x128_S1x1x128_0_0_0

/-- The sixteen stored pieces, last first, from what the loads read. -/
def pieces (q : (c : Fin 16) → Vec F S128x128 .bf16) (k : ℕ → Vec F S1x128x1024 .bf16) (v : ℕ → Vec F S1024x256 .bf16)
    (lam : FVec F S1x1 .f32) (g : Vec F S1x1x128 .f32) : List (View.Piece (Elt F) S2048x128 .bf16) :=
  [15, 14, 13, 12, 11, 10, 9, 8, 7, 6, 5, 4, 3, 2, 1, 0].map fun c : Fin 16 => ⟨rectQ c, chain (q c) k v lam g⟩

end Cert.Attn

end
-- ==== Proof.PiecesA.lean ====
/- The sixteen blocks stored at a point that fills the scratch are the sixteen chains. -/
module

public import proofs.«01_k».proof.Proof.Chain

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

set_option maxHeartbeats 4000000 in
theorem pieces_A (c : Dev nD) (i : grid0.Coords) (arg3 : Memref sig .tc .vmem S2048x128 .bf16) (harg3 : arg3.IsWhole)
    (arg4 : Memref sig .tc .vmem S1x128x4096 .bf16) (harg4 : arg4.IsWhole) (arg5 : Memref sig .tc .vmem S4096x128 .bf16) (harg5 : arg5.IsWhole)
    (arg6 : Memref sig .tc .vmem S1x1x64 .f32) (harg6 : arg6.IsWhole) (arg7 : Memref sig .tc .vmem S1x1x64 .f32) (harg7 : arg7.IsWhole)
    (arg8 : Memref sig .tc .vmem S1x1x64 .f32) (harg8 : arg8.IsWhole) (arg9 : Memref sig .tc .vmem S1x1x64 .f32) (harg9 : arg9.IsWhole)
    (arg10 : Memref sig .tc .vmem S1x1x128 .f32) (harg10 : arg10.IsWhole) (arg11 : Memref sig .tc .vmem S2048x128 .bf16) (harg11 : arg11.IsWhole)
    (arg12 : Memref sig .tc .vmem S4096x256 .bf16) (harg12 : arg12.IsWhole) (hc0 : cond0_0 i)
    (x0 : Vec F S2048x128 .bf16) (x1 : Vec F S1x128x4096 .bf16) (x2 : Vec F S4096x128 .bf16) (x3 x4 x5 x6 : Vec F S1x1x64 .f32)
    (x7 : Vec F S1x1x128 .f32) :
    (kernelRun0_A c i arg3 harg3 arg4 harg4 arg5 harg5 arg6 harg6 arg7 harg7 arg8 harg8 arg9 harg9 arg10 harg10 arg11 harg11 arg12 harg12
        hc0 x0 x1 x2 x3 x4 x5 x6 x7).1
      = pieces (fun b => View.readAt (Elt F) arg3.view (rectQ b).toLoadRect (harg3.unread x0))
          (fun n => View.readAt (Elt F) arg4.view (rectK n).toLoadRect (harg4.unread x1))
          (fun n => arg12.view.readCov (kernelRun0_A.sl.HS0_2 c arg5 harg5 x2) (rectV n).toLoadRect)
          (k0_pay4 (View.readAt (Elt F) arg6.view rectL.toLoadRect (harg6.unread x3))
            (View.readAt (Elt F) arg7.view rectL.toLoadRect (harg7.unread x4))
            (View.readAt (Elt F) arg8.view rectL.toLoadRect (harg8.unread x5))
            (View.readAt (Elt F) arg9.view rectL.toLoadRect (harg9.unread x6)))
          (View.readAt (Elt F) arg10.view rectG.toLoadRect (harg10.unread x7)) := by
  rfl

end Cert.Attn

end
-- ==== Proof.PiecesB.lean ====
/- The sixteen blocks stored at a point that finds the scratch filled are the sixteen chains. -/
module

public import proofs.«01_k».proof.Proof.Chain

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

set_option maxHeartbeats 4000000 in
theorem pieces_B (c : Dev nD) (i : grid0.Coords) (arg3 : Memref sig .tc .vmem S2048x128 .bf16) (harg3 : arg3.IsWhole)
    (arg4 : Memref sig .tc .vmem S1x128x4096 .bf16) (harg4 : arg4.IsWhole) (arg5 : Memref sig .tc .vmem S4096x128 .bf16) (harg5 : arg5.IsWhole)
    (arg6 : Memref sig .tc .vmem S1x1x64 .f32) (harg6 : arg6.IsWhole) (arg7 : Memref sig .tc .vmem S1x1x64 .f32) (harg7 : arg7.IsWhole)
    (arg8 : Memref sig .tc .vmem S1x1x64 .f32) (harg8 : arg8.IsWhole) (arg9 : Memref sig .tc .vmem S1x1x64 .f32) (harg9 : arg9.IsWhole)
    (arg10 : Memref sig .tc .vmem S1x1x128 .f32) (harg10 : arg10.IsWhole) (arg11 : Memref sig .tc .vmem S2048x128 .bf16) (harg11 : arg11.IsWhole)
    (arg12 : Memref sig .tc .vmem S4096x256 .bf16) (harg12 : arg12.IsWhole) (hc0 : ¬cond0_0 i)
    (x0 : Vec F S2048x128 .bf16) (x1 : Vec F S1x128x4096 .bf16) (x2 : Vec F S4096x128 .bf16) (x3 x4 x5 x6 : Vec F S1x1x64 .f32)
    (x7 : Vec F S1x1x128 .f32) (xs0 : Vec F S4096x256 .bf16) :
    (kernelRun0_B c i arg3 harg3 arg4 harg4 arg5 harg5 arg6 harg6 arg7 harg7 arg8 harg8 arg9 harg9 arg10 harg10 arg11 harg11 arg12 harg12
        hc0 x0 x1 x2 x3 x4 x5 x6 x7 xs0).1
      = pieces (fun b => View.readAt (Elt F) arg3.view (rectQ b).toLoadRect (harg3.unread x0))
          (fun n => View.readAt (Elt F) arg4.view (rectK n).toLoadRect (harg4.unread x1))
          (fun n => View.readAt (Elt F) arg12.view (rectV n).toLoadRect (harg12.unread xs0))
          (k0_pay4 (View.readAt (Elt F) arg6.view rectL.toLoadRect (harg6.unread x3))
            (View.readAt (Elt F) arg7.view rectL.toLoadRect (harg7.unread x4))
            (View.readAt (Elt F) arg8.view rectL.toLoadRect (harg8.unread x5))
            (View.readAt (Elt F) arg9.view rectL.toLoadRect (harg9.unread x6)))
          (View.readAt (Elt F) arg10.view rectG.toLoadRect (harg10.unread x7)) := by
  rfl

end Cert.Attn

end
-- ==== Proof.Block.lean ====
/- The block that one grid point leaves: each of its sixteen groups of 128 query rows holds its chain, over the point's
   blocks of the queries, the keys and the widened values (the values beside a block of ones). -/
module

public import proofs.«01_k».proof.Proof.PiecesA
public import proofs.«01_k».proof.Proof.PiecesB
public import proofs.«01_k».proof.Proof.Gen.KernelIdeal.Frame
public import Idealize.ShloMosaic.Lib.WholeRead
public import Idealize.ShloMosaic.Lib.Pipeline.ValueKit

@[expose] public section

set_option maxRecDepth 16384

noncomputable section

namespace Cert.Attn

open Idealize.ShloMosaic.Pipeline Cert.KernelIdeal Cert.KernelIdeal.Gen Idealize.ShloMosaic Idealize.ShloMosaic.TcCoe Idealize.SL.Sem

variable {F : FTy → Type} [FloatOps F]

/-- The values in the first 128 columns, ones in the last 128. -/
def widened (x2 : Vec F S4096x128 .bf16) : Vec F S4096x256 .bf16 := fun y =>
  if h : (y 1).val < 128 then x2 (ix2 (y 0) ⟨(y 1).val, h⟩) else Scalar.ofBits .bf16 0x3F80#16

/-- The block of one grid point: row `r` is row `r mod 128` of chain `r / 128`. -/
def blockOut (x0 : Vec F S2048x128 .bf16) (x1 : Vec F S1x128x4096 .bf16) (w : Vec F S4096x256 .bf16)
    (x3 x4 x5 x6 : Vec F S1x1x64 .f32) (x7 : Vec F S1x1x128 .f32) : Vec F S2048x128 .bf16 := fun y =>
  chain (fun z => x0 ((rectQ ⟨(y 0).val / 128, by have : (y 0).val < 2048 := (y 0).isLt; omega⟩).idx z)) (fun n z => x1 ((rectK n).idx z))
    (fun n z => w ((rectV n).idx z)) (k0_pay4 x3 x4 x5 x6) x7
    (ix2 (⟨(y 0).val % 128, Nat.mod_lt _ (by decide)⟩ : Fin 128) (y 1))

theorem rectL_idx (z : S1x1x64.Idx) : rectL.idx z = z := by
  funext a; apply Fin.ext; fin_cases a <;> simp [rectL, Rect.idx_unit_val]

theorem rectG_idx (z : S1x1x128.Idx) : rectG.idx z = z := by
  funext a; apply Fin.ext; fin_cases a <;> simp [rectG, Rect.idx_unit_val]

theorem mem_rectQ (c : Fin 16) (y : S2048x128.Idx) (h : (y 0).val / 128 = c.val) : y ∈ (rectQ c).set := by
  have e : (rectQ c).idx (ix2 (⟨(y 0).val % 128, Nat.mod_lt _ (by decide)⟩ : Fin 128) (y 1)) = y := by
    funext a; apply Fin.ext
    fin_cases a
    · simp [Rect.idx_unit_val]; omega
    · simp [Rect.idx_unit_val]
  have := (rectQ c).toLoadRect.idx_mem (ix2 (⟨(y 0).val % 128, Nat.mod_lt _ (by decide)⟩ : Fin 128) (y 1))
  rwa [e] at this

/-- The sixteen pieces read back: row `r` lies in piece `r / 128`. -/
theorem canon_pieces (q : (c : Fin 16) → Vec F S128x128 .bf16) (k : ℕ → Vec F S1x128x1024 .bf16) (v : ℕ → Vec F S1024x256 .bf16)
    (lam : FVec F S1x1 .f32) (g : Vec F S1x1x128 .f32) (y : S2048x128.Idx) :
    View.canon (pieces q k v lam g) y
      = chain (q ⟨(y 0).val / 128, by have : (y 0).val < 2048 := (y 0).isLt; omega⟩) k v lam g
          (ix2 (⟨(y 0).val % 128, Nat.mod_lt _ (by decide)⟩ : Fin 128) (y 1)) := by
  have hy : (y 0).val < 2048 := (y 0).isLt
  have hc : ∀ c : Fin 16, c ∈ [(15 : Fin 16), 14, 13, 12, 11, 10, 9, 8, 7, 6, 5, 4, 3, 2, 1, 0] := by decide
  refine View.canon_eq_of_allAt _ _ _ ⟨_, List.mem_map.mpr ⟨⟨(y 0).val / 128, by omega⟩, hc _, rfl⟩, mem_rectQ _ y rfl⟩ ?_
  · intro p hp x hx
    obtain ⟨c, -, rfl⟩ := List.mem_map.mp hp
    have h0 : (y 0).val = 128 * c.val + (x 0).val := by rw [← hx]; exact Rect.idx_unit_val (inb := inb_q c) ..
    have h1 : (y 1).val = (x 1).val := by rw [← hx]; simp [Rect.idx_unit_val]
    have hx0 : (x 0).val < 128 := (x 0).isLt
    rw [show (⟨(y 0).val / 128, by omega⟩ : Fin 16) = c from Fin.ext (by show (y 0).val / 128 = c.val; omega)]
    refine congrArg (chain (q c) k v lam g) ?_
    funext a; apply Fin.ext
    fin_cases a
    · show (x 0).val = (y 0).val % 128; omega
    · exact h1.symm

theorem stored_values (arg5 : Memref sig .tc .vmem S4096x128 .bf16) (harg5 : arg5.IsWhole) (x2 : Vec F S4096x128 .bf16) (x : S4096x128.Idx) :
    k0_pay2 (View.readAt (Elt F) arg5.view (Rect.unit (s := S4096x128) ![0, 0] S4096x128.size inb_S4096x128_S4096x128_0_0).toLoadRect
      (harg5.unread x2)) x = x2 x := by
  unfold k0_pay2
  rw [shapeCast_self]
  refine (harg5.readAt_unread x2 (Rect.unit (s := S4096x128) ![0, 0] S4096x128.size inb_S4096x128_S4096x128_0_0).toLoadRect x).trans (congrArg x2 ?_)
  funext a; apply Fin.ext; fin_cases a <;> simp [Rect.idx_unit_val]

/-- What a point that fills the scratch puts into it. -/
theorem canon_widened (c : Dev nD) (arg5 : Memref sig .tc .vmem S4096x128 .bf16) (harg5 : arg5.IsWhole) (x2 : Vec F S4096x128 .bf16) :
    View.canon (kernelRun0_A.sl.HS0_2 c arg5 harg5 x2) = widened x2 := by
  funext y
  have hy : (y 1).val < 256 := (y 1).isLt
  refine View.canon_eq_of_allAt _ _ _ ?_ ?_
  · by_cases h : (y 1).val < 128
    · refine ⟨_, List.mem_cons_of_mem _ List.mem_cons_self, ?_⟩
      have e : y = (Rect.unit (s := S4096x256) ![0, 0] S4096x128.size inb_S4096x256_S4096x128_0_0).idx (ix2 (y 0) (⟨(y 1).val, h⟩ : Fin 128)) := by
        funext a; apply Fin.ext; fin_cases a <;> simp [Rect.idx_unit_val]
      rw [e]; exact LoadRect.idx_mem (Rect.toLoadRect _) _
    · refine ⟨_, List.mem_cons_self, ?_⟩
      have e : y = (Rect.unit (s := S4096x256) ![0, 128] S4096x128.size inb_S4096x256_S4096x128_0_128).idx
          (ix2 (y 0) (⟨(y 1).val - 128, by omega⟩ : Fin 128)) := by
        funext a; apply Fin.ext; fin_cases a <;> simp [Rect.idx_unit_val]; omega
      rw [e]; exact LoadRect.idx_mem (Rect.toLoadRect _) _
  · intro p hp x hx
    have hx1 : ∀ x : S4096x128.Idx, (x 1).val < 128 := fun x => (x 1).isLt
    rcases List.mem_cons.mp hp with rfl | hp
    · have h1 : (y 1).val = 128 + (x 1).val := by rw [← hx]; simp [Rect.idx_unit_val]
      rw [widened, dif_neg (by omega)]
      rfl
    · obtain rfl := List.mem_singleton.mp hp
      have h0 : (y 0).val = (x 0).val := by rw [← hx]; simp [Rect.idx_unit_val]
      have h1 : (y 1).val = (x 1).val := by rw [← hx]; simp [Rect.idx_unit_val]
      have hlt := hx1 x
      rw [widened, dif_pos (by omega)]
      refine (stored_values arg5 harg5 x2 x).trans (congrArg x2 ?_)
      funext a; apply Fin.ext
      fin_cases a
      · exact h0.symm
      · exact h1.symm

section
variable (c : Dev nD) (i : grid0.Coords) (arg3 : Memref sig .tc .vmem S2048x128 .bf16) (harg3 : arg3.IsWhole)
    (arg4 : Memref sig .tc .vmem S1x128x4096 .bf16) (harg4 : arg4.IsWhole) (arg5 : Memref sig .tc .vmem S4096x128 .bf16) (harg5 : arg5.IsWhole)
    (arg6 : Memref sig .tc .vmem S1x1x64 .f32) (harg6 : arg6.IsWhole) (arg7 : Memref sig .tc .vmem S1x1x64 .f32) (harg7 : arg7.IsWhole)
    (arg8 : Memref sig .tc .vmem S1x1x64 .f32) (harg8 : arg8.IsWhole) (arg9 : Memref sig .tc .vmem S1x1x64 .f32) (harg9 : arg9.IsWhole)
    (arg10 : Memref sig .tc .vmem S1x1x128 .f32) (harg10 : arg10.IsWhole) (arg11 : Memref sig .tc .vmem S2048x128 .bf16) (harg11 : arg11.IsWhole)
    (arg12 : Memref sig .tc .vmem S4096x256 .bf16) (harg12 : arg12.IsWhole)
    (x0 : Vec F S2048x128 .bf16) (x1 : Vec F S1x128x4096 .bf16) (x2 : Vec F S4096x128 .bf16) (x3 x4 x5 x6 : Vec F S1x1x64 .f32)
    (x7 : Vec F S1x1x128 .f32)

/-- A load of a whole staged block through a rectangle. -/
theorem readAt_fun {sp : Space} {s : Shape} {e : EltTy} {M : Memref sig .tc sp s e} (h : M.IsWhole) (B : LoadRect s) (X : Vec F s e) :
    View.readAt (Elt F) M.view B (h.unread X) = fun x => X (B.idx x) :=
  funext fun x => h.readAt_unread X B x

theorem out_A (hc0 : cond0_0 i) :
    out0_A_8 c i arg3 harg3 arg4 harg4 arg5 harg5 arg6 harg6 arg7 harg7 arg8 harg8 arg9 harg9 arg10 harg10 arg11 harg11 arg12 harg12
        hc0 x0 x1 x2 x3 x4 x5 x6 x7 = blockOut x0 x1 (widened x2) x3 x4 x5 x6 x7 := by
  unfold out0_A_8
  rw [View.read_writes_junk_eq_canon, pieces_A]
  funext y
  rw [canon_pieces, blockOut]
  simp only [readAt_fun, View.readCov_eq_canon', canon_widened]
  congr 1
  · congr 1 <;> funext z <;> exact congrArg _ (rectL_idx z)
  · funext z; exact congrArg _ (rectG_idx z)

theorem out_B (hc0 : ¬cond0_0 i) (w : Vec F S4096x256 .bf16) :
    out0_B_8 c i arg3 harg3 arg4 harg4 arg5 harg5 arg6 harg6 arg7 harg7 arg8 harg8 arg9 harg9 arg10 harg10 arg11 harg11 arg12 harg12
        hc0 x0 x1 x2 x3 x4 x5 x6 x7 w = blockOut x0 x1 w x3 x4 x5 x6 x7 := by
  unfold out0_B_8
  rw [View.read_writes_junk_eq_canon, pieces_B]
  funext y
  rw [canon_pieces, blockOut]
  simp only [readAt_fun]
  congr 1
  · congr 1 <;> funext z <;> exact congrArg _ (rectL_idx z)
  · funext z; exact congrArg _ (rectG_idx z)

theorem scratch_A (hc0 : cond0_0 i) :
    sout0_A_0 c i arg3 harg3 arg4 harg4 arg5 harg5 arg6 harg6 arg7 harg7 arg8 harg8 arg9 harg9 arg10 harg10 arg11 harg11 arg12 harg12
        hc0 x0 x1 x2 x3 x4 x5 x6 x7 = widened x2 := by
  unfold sout0_A_0
  rw [View.read_writes_junk_eq_canon]
  exact canon_widened c arg5 harg5 x2

end

end Cert.Attn

end
-- ==== Proof.Softmax.lean ====
/- The softmax in real numbers: base two with any row constant taken off, and base e with the scores times the
   logarithm of two, are the same weights. The extended-real expressions of the two programs take these values on
   finite arguments. -/
module

public import Idealize.ShloMosaic.Lib.Pointwise

@[expose] public section

set_option maxRecDepth 16384

noncomputable section

namespace Cert.Attn

open Idealize.ShloMosaic

/-- A sum of reals is the same sum of extended reals. -/
theorem coe_sum {ι : Type*} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

/-- The largest of some reals, taken over minus infinity, is a real. -/
theorem fold_max_coe {ι : Type*} [Fintype ι] [Nonempty ι] (f : ι → ℝ) :
    ∃ M : ℝ, Finset.univ.fold max (⊥ : EReal) (fun x => (f x : EReal)) = M := by
  classical
  have key : ∀ s : Finset ι, s.Nonempty → ∃ M : ℝ, s.fold max (⊥ : EReal) (fun x => (f x : EReal)) = M := by
    intro s hs
    induction hs using Finset.Nonempty.cons_induction with
    | singleton a => exact ⟨f a, by simp⟩
    | cons a s h _ ih =>
      obtain ⟨M, hM⟩ := ih
      exact ⟨max (f a) M, by rw [Finset.fold_cons, hM]; exact EReal.coe_strictMono.monotone.map_max.symm⟩
  exact key _ Finset.univ_nonempty

/-- The weights of the keys: each power of two over their sum. -/
def soft {ι : Type*} [Fintype ι] (S : ι → ℝ) (x : ι) : ℝ := (2 : ℝ) ^ S x / ∑ y, (2 : ℝ) ^ S y

theorem sum_pow_pos {ι : Type*} [Fintype ι] [Nonempty ι] (S : ι → ℝ) : 0 < ∑ y, (2 : ℝ) ^ S y :=
  Finset.sum_pos (fun _ _ => Real.rpow_pos_of_pos two_pos _) Finset.univ_nonempty

/-- Taking a constant off every score leaves an average with these weights as it was. -/
theorem avg_shift {ι : Type*} [Fintype ι] [Nonempty ι] (S V : ι → ℝ) (M : ℝ) :
    (∑ x, (2 : ℝ) ^ (S x - M) * V x) / (∑ x, (2 : ℝ) ^ (S x - M)) = ∑ x, soft S x * V x := by
  have h2 : (2 : ℝ) ^ M ≠ 0 := (Real.rpow_pos_of_pos two_pos _).ne'
  have hs : (∑ y, (2 : ℝ) ^ S y) ≠ 0 := (sum_pow_pos S).ne'
  have e1 : (∑ x, (2 : ℝ) ^ (S x - M) * V x) = (∑ x, (2 : ℝ) ^ S x * V x) / (2 : ℝ) ^ M := by
    rw [Finset.sum_div]
    exact Finset.sum_congr rfl fun x _ => by rw [Real.rpow_sub two_pos]; ring
  have e2 : (∑ x, (2 : ℝ) ^ (S x - M)) = (∑ x, (2 : ℝ) ^ S x) / (2 : ℝ) ^ M := by
    rw [Finset.sum_div]
    exact Finset.sum_congr rfl fun x _ => by rw [Real.rpow_sub two_pos]
  rw [e1, e2, div_div_div_cancel_right₀ h2, Finset.sum_div]
  exact Finset.sum_congr rfl fun x _ => by rw [soft]; ring

theorem exp_eq (s M : ℝ) : Real.exp (s * Real.log 2 - M) = (2 : ℝ) ^ s / Real.exp M := by
  rw [Real.exp_sub, Real.rpow_def_of_pos two_pos, mul_comm]

/-- Base e with the scores times the logarithm of two, any constant taken off. -/
theorem soft_exp {ι : Type*} [Fintype ι] (S : ι → ℝ) (M : ℝ) (x : ι) :
    Real.exp (S x * Real.log 2 - M) / (∑ y, Real.exp (S y * Real.log 2 - M)) = soft S x := by
  simp only [exp_eq]
  rw [← Finset.sum_div, div_div_div_cancel_right₀ (Real.exp_pos M).ne', soft]

/-! ## The reference's weights, on the extended reals -/

/-- The factor of the scores. -/
abbrev ln2 : EReal := Ideal.log (Ideal.ofBits .f32 0x40000000#32)
/-- Minus infinity, where the maximum starts. -/
abbrev negInf : EReal := Ideal.ofBits .f32 0xFF800000#32

theorem ln2_eq : ln2 = ((Real.log 2 : ℝ) : EReal) := by
  have h : Ideal.ofBits .f32 0x40000000#32 = ((2 : ℝ) : EReal) := by
    simp [Ideal.ofBits, Ideal.ieee]
    rw [← EReal.coe_mul]
    norm_num
  rw [ln2, h, Ideal.log_coe, if_neg (by norm_num)]

theorem negInf_eq : negInf = ⊥ := by
  simp [negInf, Ideal.ofBits, Ideal.ieee]

/-- The largest entry of a row of scores, from minus infinity. -/
def rowTop (s : Fin 4096 → EReal) : EReal := Finset.univ.fold max negInf s

/-- One row of the reference's softmax. -/
def weight (s : Fin 4096 → EReal) (x : Fin 4096) : EReal :=
  Ideal.div (Ideal.exp (s x * ln2 - max negInf (rowTop fun y => s y * ln2))) (∑ z, Ideal.exp (s z * ln2 - max negInf (rowTop fun y => s y * ln2)))

theorem div_coe_coe (a b : ℝ) (h : b ≠ 0) : Ideal.div (a : EReal) (b : EReal) = ((a / b : ℝ) : EReal) := by
  rw [Ideal.div_coe h, ← EReal.coe_mul, mul_one_div]

theorem weight_coe (S : Fin 4096 → ℝ) (x : Fin 4096) : weight (fun y => (S y : EReal)) x = ((soft S x : ℝ) : EReal) := by
  have e : ∀ y, (S y : EReal) * ln2 = ((S y * Real.log 2 : ℝ) : EReal) := fun y => by rw [ln2_eq, EReal.coe_mul]
  obtain ⟨M, hM⟩ := fold_max_coe fun y => S y * Real.log 2
  rw [weight, rowTop, negInf_eq]
  simp only [e, hM, bot_sup_eq, ← EReal.coe_sub, Ideal.exp_coe]
  rw [← coe_sum, div_coe_coe _ _ (Finset.sum_pos (fun _ _ => Real.exp_pos _) Finset.univ_nonempty).ne', soft_exp]

/-! ## The two programs' shared ends -/

/-- The difference's factor, from the four vectors. -/
def factor (a b c d : Fin 64 → EReal) : EReal :=
  Ideal.exp (∑ x, a x * b x) - Ideal.exp (∑ x, c x * d x) + Ideal.ofBits .f32 0x3E4CCCCD#32

theorem factor_coe (a b c d : Fin 64 → ℝ) :
    ∃ L : ℝ, factor (fun x => a x) (fun x => b x) (fun x => c x) (fun x => d x) = (L : EReal) := by
  obtain ⟨l, hl⟩ : ∃ l : ℝ, Ideal.ofBits .f32 0x3E4CCCCD#32 = (l : EReal) := by
    simp [Ideal.ofBits, Ideal.ieee]
    exact ⟨_, rfl⟩
  refine ⟨Real.exp (∑ x, a x * b x) - Real.exp (∑ x, c x * d x) + l, ?_⟩
  simp only [factor, hl, ← EReal.coe_mul, ← coe_sum, Ideal.exp_coe, ← EReal.coe_sub, ← EReal.coe_add]

/-- The norm of a row, with its gain and the factor after it. -/
def norm (o : Fin 128 → EReal) (g : EReal) (e : Fin 128) : EReal :=
  o e * Ideal.rsqrt (Ideal.div (∑ x, o x * o x) (Ideal.ofBits .f32 0x43000000#32) + Ideal.ofBits .f32 0x358637BD#32) * g
    * Ideal.ofBits .f32 0x3F4CCCCD#32

/-- Differential attention of one query, in real numbers. -/
def att (S₀ S₁ : Fin 4096 → ℝ) (L : ℝ) (V : Fin 4096 → Fin 128 → ℝ) (e : Fin 128) : ℝ :=
  ∑ x, (soft S₀ x - L * soft S₁ x) * V x e

/-- The reference's row, on the extended reals. -/
def refRow (s₀ s₁ : Fin 4096 → EReal) (lam : EReal) (v : Fin 4096 → Fin 128 → EReal) (g : EReal) (e : Fin 128) : EReal :=
  norm (fun e => ∑ x, (weight s₀ x - lam * weight s₁ x) * v x e) g e

theorem refRow_coe (S₀ S₁ : Fin 4096 → ℝ) (L : ℝ) (V : Fin 4096 → Fin 128 → ℝ) (g : EReal) (e : Fin 128) :
    refRow (fun x => S₀ x) (fun x => S₁ x) L (fun x e => V x e) g e = norm (fun e => (att S₀ S₁ L V e : ℝ)) g e := by
  rw [refRow]
  congr 1
  funext e
  simp only [weight_coe, ← EReal.coe_mul, ← EReal.coe_sub, ← coe_sum]
  rfl

end Cert.Attn

end
-- ==== Proof.ChainValue.lean ====
/- What one chain computes, read at an index on finite queries, keys and values: the norm of the differential
   attention of its query row. The running maximum is some real after every chunk, and which real does not matter. -/
module

public import proofs.«01_k».proof.Proof.Chain
public import proofs.«01_k».proof.Proof.Softmax

@[expose] public section

set_option maxRecDepth 16384

noncomputable section

namespace Cert.Attn

open Cert.KernelIdeal Cert.KernelIdeal.Gen Idealize.ShloMosaic Idealize.ShloMosaic.TcCoe Idealize.SL.Sem

/-! ## The steps at an index -/

theorem select_lo (f : Fin 128) (a : EReal) :
    Scalar.select (IntOp.cmpi .slt (BitVec.ofNat 32 f.val) 64#32) a (0 : EReal) = if f.val < 64 then a else 0 := by
  have h : IntOp.cmpi .slt (BitVec.ofNat 32 f.val) 64#32 = if f.val < 64 then 1#1 else 0#1 := by
    revert f; decide
  rw [h]; split <;> rfl

theorem select_hi (f : Fin 128) (a : EReal) :
    Scalar.select (IntOp.cmpi .sge (BitVec.ofNat 32 f.val) 64#32) a (0 : EReal) = if f.val < 64 then 0 else a := by
  have h : IntOp.cmpi .sge (BitVec.ofNat 32 f.val) 64#32 = if f.val < 64 then 0#1 else 1#1 := by
    revert f; decide
  rw [h]; split <;> rfl

/-- A score of the first component: the product over the first 64 features. -/
theorem scores_lo (q : Vec Ideal S128x128 .bf16) (k : Vec Ideal S1x128x1024 .bf16) (i : Fin 128) (x : Fin 1024) :
    scores q k (ix2 ⟨i.val, by omega⟩ x) = ∑ f : Fin 64, q (ix2 i ⟨f.val, by omega⟩) * k (ix3 0 ⟨f.val, by omega⟩ x) := by
  pointwise [scores, masked]
  simp only [i.isLt, dif_pos, select_lo]
  refine (Fin.sum_univ_add (a := 64) (b := 64) _).trans ?_
  simp
  rfl

/-- A score of the second component: the product over the last 64 features. -/
theorem scores_hi (q : Vec Ideal S128x128 .bf16) (k : Vec Ideal S1x128x1024 .bf16) (i : Fin 128) (x : Fin 1024) :
    scores q k (ix2 ⟨128 + i.val, by omega⟩ x)
      = ∑ f : Fin 64, q (ix2 i ⟨64 + f.val, by omega⟩) * k (ix3 0 ⟨64 + f.val, by omega⟩ x) := by
  pointwise [scores, masked]
  simp only [select_hi]
  refine (Fin.sum_univ_add (a := 64) (b := 64) _).trans ?_
  simp
  refine Finset.sum_congr rfl fun f _ => ?_
  rw [show f.addNat 64 = ⟨64 + f.val, by omega⟩ from Fin.ext (Nat.add_comm _ _)]

theorem rowMax_apply (s : FVec Ideal S256x1024 .f32) (i : Fin 256) :
    rowMax s (ix2 i 0) = Finset.univ.fold max negInf fun x => s (ix2 i x) := by
  pointwise [rowMax]

theorem firstAcc_apply (m : FVec Ideal S256x1 .f32) (s : FVec Ideal S256x1024 .f32) (v : Vec Ideal S1024x256 .bf16) (i e : Fin 256) :
    weigh (powers s m) v (ix2 i e) = ∑ x, Ideal.exp2 (s (ix2 i x) - m (ix2 i 0)) * v (ix2 x e) := by
  pointwise [weigh, powers]
  rfl

theorem nextAcc_apply (acc : FVec Ideal S256x256 .f32) (m m' : FVec Ideal S256x1 .f32) (s : FVec Ideal S256x1024 .f32)
    (v : Vec Ideal S1024x256 .bf16) (i e : Fin 256) :
    nextAcc acc m m' s v (ix2 i e)
      = acc (ix2 i e) * Ideal.exp2 (m (ix2 i 0) - m' (ix2 i 0)) + ∑ x, Ideal.exp2 (s (ix2 i x) - m' (ix2 i 0)) * v (ix2 x e) := by
  pointwise [nextAcc, weigh, powers]
  rfl

theorem diff_apply (acc : FVec Ideal S256x256 .f32) (lam : FVec Ideal S1x1 .f32) (i e : Fin 128) :
    diff acc lam (ix2 i e)
      = Ideal.div (acc (ix2 ⟨i.val, by omega⟩ ⟨e.val, by omega⟩)) (acc (ix2 ⟨i.val, by omega⟩ ⟨128 + e.val, by omega⟩))
        - lam (ix2 0 0) * Ideal.div (acc (ix2 ⟨128 + i.val, by omega⟩ ⟨e.val, by omega⟩))
            (acc (ix2 ⟨128 + i.val, by omega⟩ ⟨128 + e.val, by omega⟩)) := by
  pointwise [diff]

theorem normed_apply (o : FVec Ideal S128x128 .f32) (g : Vec Ideal S1x1x128 .f32) (i e : Fin 128) :
    normed o g (ix2 i e) = norm (fun x => o (ix2 i x)) (g (ix3 0 0 e)) e := by
  pointwise [normed, norm]

theorem lam_apply (a b c d : Vec Ideal S1x1x64 .f32) :
    k0_pay4 a b c d (ix2 0 0)
      = factor (fun x => a (ix3 0 0 x)) (fun x => b (ix3 0 0 x)) (fun x => c (ix3 0 0 x)) (fun x => d (ix3 0 0 x)) := by
  pointwise [k0_pay4, factor]

/-! ## The accumulator after a number of chunks -/

/-- The accumulator of a row whose scores and values are real: the sum over the chunks so far of the powers of two of
    the scores, less the running maximum, times the values. -/
theorem acc_row (q : Vec Ideal S128x128 .bf16) (k : ℕ → Vec Ideal S1x128x1024 .bf16) (v : ℕ → Vec Ideal S1024x256 .bf16) (i : Fin 256)
    (S : ℕ → Fin 1024 → ℝ) (V : ℕ → Fin 1024 → Fin 256 → ℝ) (hS : ∀ n x, scores q (k n) (ix2 i x) = (S n x : EReal))
    (hV : ∀ n x e, v n (ix2 x e) = (V n x e : EReal)) (n : ℕ) :
    ∃ M : ℝ, maxAt q k n (ix2 i 0) = (M : EReal)
      ∧ ∀ e, accAt q k v n (ix2 i e) = ((∑ j ∈ Finset.range (n + 1), ∑ x, (2 : ℝ) ^ (S j x - M) * V j x e : ℝ) : EReal) := by
  induction n with
  | zero =>
    obtain ⟨M, hM⟩ := fold_max_coe (S 0)
    have e0 : maxAt q k 0 (ix2 i 0) = (M : EReal) := by
      rw [maxAt, rowMax_apply, negInf_eq]; simp only [hS]; exact hM
    refine ⟨M, e0, fun e => ?_⟩
    rw [accAt, firstAcc_apply, e0, Finset.sum_range_one]
    simp only [hS, hV, ← EReal.coe_sub, Ideal.exp2_coe, ← EReal.coe_mul, ← coe_sum]
    rfl
  | succ n ih =>
    obtain ⟨M, hM, hA⟩ := ih
    obtain ⟨T, hT⟩ := fold_max_coe (S (n + 1))
    have e1 : maxAt q k (n + 1) (ix2 i 0) = ((max M T : ℝ) : EReal) := by
      show max (maxAt q k n (ix2 i 0)) (rowMax (scores q (k (n + 1))) (ix2 i 0)) = _
      rw [hM, rowMax_apply, negInf_eq]; simp only [hS]; rw [hT]
      exact EReal.coe_strictMono.monotone.map_max.symm
    refine ⟨max M T, e1, fun e => ?_⟩
    rw [accAt, nextAcc_apply, e1, hM, hA]
    simp only [hS, hV, ← EReal.coe_sub, Ideal.exp2_coe, ← EReal.coe_mul, ← coe_sum, ← EReal.coe_add]
    rw [Finset.sum_range_succ _ (n + 1)]
    refine congrArg _ (congrArg₂ _ ?_ rfl)
    rw [Finset.sum_mul]
    refine Finset.sum_congr rfl fun j _ => ?_
    rw [Finset.sum_mul]
    refine Finset.sum_congr rfl fun x _ => ?_
    rw [show Real.rpow 2 (M - max M T) = (2 : ℝ) ^ (M - max M T) from rfl, mul_right_comm, ← Real.rpow_add two_pos]
    congr 2
    ring

/-- The four chunks of 1024 keys are the 4096 keys. -/
theorem sum_chunks (g : Fin 4096 → ℝ) (h : ℕ → Fin 1024 → ℝ)
    (e : ∀ (n : ℕ) (hn : n < 4) (x : Fin 1024), h n x = g ⟨1024 * n + x.val, by omega⟩) :
    ∑ j ∈ Finset.range 4, ∑ x, h j x = ∑ y, g y := by
  rw [← Equiv.sum_comp (finProdFinEquiv (m := 4) (n := 1024)) g, Fintype.sum_prod_type, Finset.sum_range]
  refine Finset.sum_congr rfl fun j _ => Finset.sum_congr rfl fun x _ => ?_
  rw [e j.val j.isLt x]
  congr 1
  apply Fin.ext
  show 1024 * j.val + x.val = x.val + 1024 * j.val
  omega

/-- Each component's quotient is the average of the values with the softmax weights. -/
theorem avg_row (q : Vec Ideal S128x128 .bf16) (k : ℕ → Vec Ideal S1x128x1024 .bf16) (v : ℕ → Vec Ideal S1024x256 .bf16) (i : Fin 256)
    (S : Fin 4096 → ℝ) (V : Fin 4096 → Fin 128 → ℝ)
    (hS : ∀ n x, scores q (k n) (ix2 i x) = (S ⟨1024 * (n % 4) + x.val, by omega⟩ : EReal))
    (hV : ∀ n x (e : Fin 128), v n (ix2 x ⟨e.val, by omega⟩) = (V ⟨1024 * (n % 4) + x.val, by omega⟩ e : EReal))
    (hO : ∀ n x (e : Fin 128), v n (ix2 x ⟨128 + e.val, by omega⟩) = 1) (e : Fin 128) :
    Ideal.div (accAt q k v 3 (ix2 i ⟨e.val, by omega⟩)) (accAt q k v 3 (ix2 i ⟨128 + e.val, by omega⟩))
      = ((∑ x, soft S x * V x e : ℝ) : EReal) := by
  obtain ⟨M, -, hA⟩ := acc_row q k v i (fun n x => S ⟨1024 * (n % 4) + x.val, by omega⟩)
    (fun n x e => if h : e.val < 128 then V ⟨1024 * (n % 4) + x.val, by omega⟩ ⟨e.val, h⟩ else 1) hS (fun n x e => by
      by_cases h : e.val < 128
      · rw [dif_pos h]; exact hV n x ⟨e.val, h⟩
      · rw [dif_neg h]
        have := hO n x ⟨e.val - 128, by omega⟩
        rw [show (⟨128 + (e.val - 128), by omega⟩ : Fin 256) = e from Fin.ext (by show 128 + (e.val - 128) = e.val; omega)] at this
        exact_mod_cast this) 3
  have a1 := hA ⟨e.val, by omega⟩
  have a2 := hA ⟨128 + e.val, by omega⟩
  simp only [e.isLt, dif_pos] at a1
  simp only [show ¬ 128 + e.val < 128 by omega, dif_neg, not_false_eq_true, mul_one] at a2
  rw [sum_chunks (fun x => (2 : ℝ) ^ (S x - M) * V x e) _ (fun n hn x => by simp only [Nat.mod_eq_of_lt hn])] at a1
  rw [sum_chunks (fun x => (2 : ℝ) ^ (S x - M)) _ (fun n hn x => by simp only [Nat.mod_eq_of_lt hn])] at a2
  rw [a1, a2, div_coe_coe _ _ (Finset.sum_pos (fun _ _ => Real.rpow_pos_of_pos two_pos _) Finset.univ_nonempty).ne', avg_shift]

/-- ONE CHAIN AT AN INDEX. -/
theorem chain_apply (q : Vec Ideal S128x128 .bf16) (k : ℕ → Vec Ideal S1x128x1024 .bf16) (v : ℕ → Vec Ideal S1024x256 .bf16)
    (lam : FVec Ideal S1x1 .f32) (g : Vec Ideal S1x1x128 .f32) (i e : Fin 128) (S₀ S₁ : Fin 4096 → ℝ) (L : ℝ) (V : Fin 4096 → Fin 128 → ℝ)
    (h0 : ∀ n x, (∑ f : Fin 64, q (ix2 i ⟨f.val, by omega⟩) * k n (ix3 0 ⟨f.val, by omega⟩ x)) = (S₀ ⟨1024 * (n % 4) + x.val, by omega⟩ : EReal))
    (h1 : ∀ n x, (∑ f : Fin 64, q (ix2 i ⟨64 + f.val, by omega⟩) * k n (ix3 0 ⟨64 + f.val, by omega⟩ x))
      = (S₁ ⟨1024 * (n % 4) + x.val, by omega⟩ : EReal))
    (hV : ∀ n x (e : Fin 128), v n (ix2 x ⟨e.val, by omega⟩) = (V ⟨1024 * (n % 4) + x.val, by omega⟩ e : EReal))
    (hO : ∀ n x (e : Fin 128), v n (ix2 x ⟨128 + e.val, by omega⟩) = 1) (hL : lam (ix2 0 0) = (L : EReal)) :
    chain q k v lam g (ix2 i e) = norm (fun e => (att S₀ S₁ L V e : ℝ)) (g (ix3 0 0 e)) e := by
  rw [chain, normed_apply]
  congr 1
  funext e
  rw [diff_apply, hL, avg_row q k v ⟨i.val, by omega⟩ S₀ V (fun n x => (scores_lo q (k n) i x).trans (h0 n x)) hV hO,
    avg_row q k v ⟨128 + i.val, by omega⟩ S₁ V (fun n x => (scores_hi q (k n) i x).trans (h1 n x)) hV hO, ← EReal.coe_mul, ← EReal.coe_sub, att,
    Finset.mul_sum, ← Finset.sum_sub_distrib]
  refine congrArg _ (Finset.sum_congr rfl fun x _ => ?_)
  ring

end Cert.Attn

end
-- ==== Proof.Reads.lean ====
/- Where each grid point's blocks lie in the arguments: point `t` is batch `t / 8`, head `t / 2 mod 4`, query half
   `t mod 2`. -/
module

public import proofs.«01_k».proof.Proof.Gen.KernelIdeal.Frame
public import Idealize.ShloMosaic.Lib.Pipeline.ValueKit

@[expose] public section

set_option maxRecDepth 16384

noncomputable section

namespace Cert.Attn

open Idealize.ShloMosaic.Pipeline Cert.KernelIdeal Cert.KernelIdeal.Gen Idealize.ShloMosaic Idealize.ShloMosaic.TcCoe Idealize.SL.Sem

variable (m : (ℓ : Loc nD τ sig) → Buf (Elt Ideal) ℓ) (c : Dev nD)

theorem t_lt (t : Fin cfg0.N) : t.val < 32 := t.isLt

theorem idx0 : ∀ t : Fin cfg0.N, win0_0.index t 0 = t.val / 8 * 2 + t.val % 2 ∧ win0_0.index t 1 = t.val / 2 % 4 :=
  (by decide +kernel : ∀ t : Fin grid0.N, win0_0.index t 0 = t.val / 8 * 2 + t.val % 2 ∧ win0_0.index t 1 = t.val / 2 % 4)
theorem idx1 : ∀ t : Fin cfg0.N, win0_1.index t 0 = t.val / 8 ∧ win0_1.index t 1 = t.val / 2 % 4 ∧ win0_1.index t 2 = 0 :=
  (by decide +kernel : ∀ t : Fin grid0.N, win0_1.index t 0 = t.val / 8 ∧ win0_1.index t 1 = t.val / 2 % 4 ∧ win0_1.index t 2 = 0)
theorem idx2 : ∀ t : Fin cfg0.N, win0_2.index t 0 = t.val / 8 ∧ win0_2.index t 1 = t.val / 2 % 4 :=
  (by decide +kernel : ∀ t : Fin grid0.N, win0_2.index t 0 = t.val / 8 ∧ win0_2.index t 1 = t.val / 2 % 4)
theorem idx8 : ∀ t : Fin cfg0.N, win0_8.index t 0 = t.val / 8 * 2 + t.val % 2 ∧ win0_8.index t 1 = t.val / 2 % 4 :=
  (by decide +kernel : ∀ t : Fin grid0.N, win0_8.index t 0 = t.val / 8 * 2 + t.val % 2 ∧ win0_8.index t 1 = t.val / 2 % 4)

theorem q_read (t : Fin cfg0.N) (i : Fin 2048) (e : Fin 128) :
    (iblk m c 0 t : Vec Ideal S2048x128 .bf16) (ix2 i e)
      = m ((c : Thread nD τ).loc main_arg0) (ix2 ⟨(t.val / 8 * 2 + t.val % 2) * 2048 + i.val, by have := t_lt t; omega⟩
          ⟨t.val / 2 % 4 * 128 + e.val, by omega⟩) := by
  have e0 := idx0 t
  blk_ext [iblk, V, e0.1, e0.2]

theorem k_read (t : Fin cfg0.N) (f : Fin 128) (x : Fin 4096) :
    (iblk m c 1 t : Vec Ideal S1x128x4096 .bf16) (ix3 0 f x)
      = m ((c : Thread nD τ).loc main_arg1) (ix3 ⟨t.val / 8, by have := t_lt t; omega⟩ ⟨t.val / 2 % 4 * 128 + f.val, by omega⟩ x) := by
  have e0 := idx1 t
  blk_ext [iblk, V, e0.1, e0.2.1, e0.2.2]

theorem v_read (t : Fin cfg0.N) (x : Fin 4096) (e : Fin 128) :
    (iblk m c 2 t : Vec Ideal S4096x128 .bf16) (ix2 x e)
      = m ((c : Thread nD τ).loc main_arg2) (ix2 ⟨t.val / 8 * 4096 + x.val, by have := t_lt t; omega⟩
          ⟨t.val / 2 % 4 * 128 + e.val, by omega⟩) := by
  have e0 := idx2 t
  blk_ext [iblk, V, e0.1, e0.2]

theorem idx3 : ∀ t : Fin cfg0.N, ∀ a, win0_3.index t a = 0 := (by decide +kernel : ∀ t : Fin grid0.N, ∀ a, win0_3.index t a = 0)
theorem idx4 : ∀ t : Fin cfg0.N, ∀ a, win0_4.index t a = 0 := (by decide +kernel : ∀ t : Fin grid0.N, ∀ a, win0_4.index t a = 0)
theorem idx5 : ∀ t : Fin cfg0.N, ∀ a, win0_5.index t a = 0 := (by decide +kernel : ∀ t : Fin grid0.N, ∀ a, win0_5.index t a = 0)
theorem idx6 : ∀ t : Fin cfg0.N, ∀ a, win0_6.index t a = 0 := (by decide +kernel : ∀ t : Fin grid0.N, ∀ a, win0_6.index t a = 0)
theorem idx7 : ∀ t : Fin cfg0.N, ∀ a, win0_7.index t a = 0 := (by decide +kernel : ∀ t : Fin grid0.N, ∀ a, win0_7.index t a = 0)

theorem lq1_read (t : Fin cfg0.N) (x : Fin 64) :
    (iblk m c 3 t : Vec Ideal S1x1x64 .f32) (ix3 0 0 x) = m ((c : Thread nD τ).loc main_arg3) (ix2 0 x) := by
  blk_simp [iblk]; entry_read; pointwise; blk_ext [idx3 t]
theorem lk1_read (t : Fin cfg0.N) (x : Fin 64) :
    (iblk m c 4 t : Vec Ideal S1x1x64 .f32) (ix3 0 0 x) = m ((c : Thread nD τ).loc main_arg4) (ix2 0 x) := by
  blk_simp [iblk]; entry_read; pointwise; blk_ext [idx4 t]
theorem lq2_read (t : Fin cfg0.N) (x : Fin 64) :
    (iblk m c 5 t : Vec Ideal S1x1x64 .f32) (ix3 0 0 x) = m ((c : Thread nD τ).loc main_arg5) (ix2 0 x) := by
  blk_simp [iblk]; entry_read; pointwise; blk_ext [idx5 t]
theorem lk2_read (t : Fin cfg0.N) (x : Fin 64) :
    (iblk m c 6 t : Vec Ideal S1x1x64 .f32) (ix3 0 0 x) = m ((c : Thread nD τ).loc main_arg6) (ix2 0 x) := by
  blk_simp [iblk]; entry_read; pointwise; blk_ext [idx6 t]
theorem g_read (t : Fin cfg0.N) (x : Fin 128) :
    (iblk m c 7 t : Vec Ideal S1x1x128 .f32) (ix3 0 0 x) = m ((c : Thread nD τ).loc main_arg7) (ix2 0 x) := by
  blk_simp [iblk]; entry_read; pointwise; blk_ext [idx7 t]

end Cert.Attn

end
-- ==== Proof.Array.lean ====
/- The kernel's result array: every entry is the norm of the differential attention of its query row. -/
module

public import proofs.«01_k».proof.Proof.Block
public import proofs.«01_k».proof.Proof.ChainValue
public import proofs.«01_k».proof.Proof.Reads
public import proofs.«01_k».proof.Proof.Gen.KernelIdeal.Value
public import Idealize.ShloMosaic.Lib.IdealHost

@[expose] public section

set_option maxRecDepth 16384

noncomputable section

namespace Cert.Attn

open Idealize.ShloMosaic.Pipeline Cert.KernelIdeal Cert.KernelIdeal.Gen Idealize.ShloMosaic Idealize.ShloMosaic.TcCoe Idealize.SL.Sem

/-- The score of query row `r` against key `x` in component `a` of the head that column `e` belongs to. -/
def score (Q : S16384x512.Idx → ℝ) (K : S4x512x4096.Idx → ℝ) (r : Fin 16384) (e : Fin 512) (a : Fin 2) (x : Fin 4096) : ℝ :=
  ∑ f : Fin 64, Q (ix2 r ⟨e.val / 128 * 128 + a.val * 64 + f.val, by omega⟩)
    * K (ix3 ⟨r.val / 4096, by omega⟩ ⟨e.val / 128 * 128 + a.val * 64 + f.val, by omega⟩ x)

/-- What both programs compute at row `r`, column `e`: the norm of the attention over the row's batch and the column's head. -/
def target (Q : S16384x512.Idx → ℝ) (K : S4x512x4096.Idx → ℝ) (V : S16384x512.Idx → ℝ) (L : ℝ) (g : S2x128.Idx → EReal)
    (r : Fin 16384) (e : Fin 512) : EReal :=
  norm (fun e' => (att (score Q K r e 0) (score Q K r e 1) L
      (fun x e' => V (ix2 ⟨r.val / 4096 * 4096 + x.val, by omega⟩ ⟨e.val / 128 * 128 + e'.val, by omega⟩)) e' : ℝ))
    (g (ix2 0 ⟨e.val % 128, by omega⟩)) ⟨e.val % 128, by omega⟩

theorem rectQ_idx (c : Fin 16) (i e : Fin 128) : (rectQ c).idx (ix2 i e) = ix2 ⟨128 * c.val + i.val, by omega⟩ e := by
  funext a; apply Fin.ext; fin_cases a <;> simp [Rect.idx_unit_val]

theorem rectK_idx (n : ℕ) (f : Fin 128) (x : Fin 1024) : (rectK n).idx (ix3 0 f x) = ix3 0 f ⟨1024 * (n % 4) + x.val, by omega⟩ := by
  funext a; apply Fin.ext; fin_cases a <;> simp [Rect.idx_unit_val]

theorem rectV_idx (n : ℕ) (x : Fin 1024) (e : Fin 256) : (rectV n).idx (ix2 x e) = ix2 ⟨1024 * (n % 4) + x.val, by omega⟩ e := by
  funext a; apply Fin.ext; fin_cases a <;> simp [Rect.idx_unit_val]

theorem widened_lo (x2 : Vec Ideal S4096x128 .bf16) (x : Fin 4096) (e : Fin 128) : widened x2 (ix2 x ⟨e.val, by omega⟩) = x2 (ix2 x e) := by
  rw [widened, dif_pos (by exact e.isLt)]; rfl

theorem widened_hi (x2 : Vec Ideal S4096x128 .bf16) (x : Fin 4096) (e : Fin 128) : widened x2 (ix2 x ⟨128 + e.val, by omega⟩) = (1 : EReal) := by
  rw [widened, dif_neg (by show ¬ 128 + e.val < 128; omega)]; exact Ideal.ofBits_one_bf16

variable (m : (ℓ : Loc nD τ sig) → Buf (Elt Ideal) ℓ) (c : Dev nD)

/-- The second half of a head's queries reads the values that the first half put into the scratch. -/
theorem values_held (t t' : Fin cfg0.N) (h : t.val / 2 = t'.val / 2) :
    (iblk m c 2 t : Vec Ideal S4096x128 .bf16) = (iblk m c 2 t' : Vec Ideal S4096x128 .bf16) := by
  funext y
  rw [show y = ix2 (y 0) (y 1) from by funext a; fin_cases a <;> rfl]
  refine (v_read m c t (y 0) (y 1)).trans (Eq.trans ?_ (v_read m c t' (y 0) (y 1)).symm)
  refine congrArg _ ?_
  congr 2 <;> omega

/-- The result block of a grid point. -/
theorem block_at (t : Fin cfg0.N) : (outsAt0 m c t.val t.isLt).1
    = blockOut (F := Ideal) (iblk m c 0 t) (iblk m c 1 t) (widened (iblk m c 2 t)) (iblk m c 3 t) (iblk m c 4 t) (iblk m c 5 t) (iblk m c 6 t) (iblk m c 7 t) := by
  by_cases h0 : t.val % 2 = 0
  · rw [outsAt0_A m c t h0]
    dsimp only
    rw [out_A]
  · rw [outsAt0_B m c t h0]
    dsimp only
    rw [out_B]
    have e : (outsAt0 m c (t.val - 1) (Nat.lt_of_le_of_lt (Nat.sub_le _ _) t.isLt)).2 = widened (F := Ideal) (iblk m c 2 t) := by
      have h1 : (⟨t.val - 1, Nat.lt_of_le_of_lt (Nat.sub_le _ _) t.isLt⟩ : Fin cfg0.N).val % 2 = 0 := by show (t.val - 1) % 2 = 0; omega
      have h2 := congrArg Prod.snd (outsAt0_A m c ⟨t.val - 1, Nat.lt_of_le_of_lt (Nat.sub_le _ _) t.isLt⟩ h1)
      refine h2.trans ?_
      dsimp only
      rw [scratch_A]
      refine congrArg widened (values_held m c _ t ?_)
      show (t.val - 1) / 2 = t.val / 2
      omega
    rw [e]

variable (Q : S16384x512.Idx → ℝ) (K : S4x512x4096.Idx → ℝ) (V : S16384x512.Idx → ℝ) (L : ℝ)
  (hQ : ∀ j, m ((c : Thread nD τ).loc main_arg0) j = (Q j : EReal)) (hK : ∀ j, m ((c : Thread nD τ).loc main_arg1) j = (K j : EReal))
  (hV : ∀ j, m ((c : Thread nD τ).loc main_arg2) j = (V j : EReal))
  (hL : factor (fun x => m ((c : Thread nD τ).loc main_arg3) (ix2 0 x)) (fun x => m ((c : Thread nD τ).loc main_arg4) (ix2 0 x))
    (fun x => m ((c : Thread nD τ).loc main_arg5) (ix2 0 x)) (fun x => m ((c : Thread nD τ).loc main_arg6) (ix2 0 x)) = (L : EReal))

include hQ hK in
/-- The scores of a point's block are the scores of its rows, in either component. -/
theorem score_at (t : Fin cfg0.N) (x0 : Vec Ideal S2048x128 .bf16) (x1 : Vec Ideal S1x128x4096 .bf16) (h0 : x0 = iblk m c 0 t)
    (h1 : x1 = iblk m c 1 t) (i : Fin 2048) (e : Fin 128) (a : Fin 2) (n : ℕ) (x : Fin 1024) (r : Fin 16384) (p : Fin 512)
    (hr : r.val = (t.val / 8 * 2 + t.val % 2) * 2048 + i.val) (hp : p.val = t.val / 2 % 4 * 128 + e.val) :
    (∑ f : Fin 64, x0 (ix2 i ⟨a.val * 64 + f.val, by omega⟩)
        * x1 (ix3 0 ⟨a.val * 64 + f.val, by omega⟩ ⟨1024 * (n % 4) + x.val, by omega⟩))
      = ((score Q K r p a ⟨1024 * (n % 4) + x.val, by omega⟩ : ℝ) : EReal) := by
  have hq : ∀ i e, x0 (ix2 i e) = _ := fun i e => (congrFun h0 _).trans ((q_read m c t i e).trans (hQ _))
  have hk : ∀ f x, x1 (ix3 0 f x) = _ := fun f x => (congrFun h1 _).trans ((k_read m c t f x).trans (hK _))
  simp only [hq, hk, ← EReal.coe_mul, ← coe_sum, score]
  refine congrArg _ (Finset.sum_congr rfl fun f _ => ?_)
  congr 2
  · congr 1 <;> apply Fin.ext <;> simp only <;> omega
  · congr 1 <;> apply Fin.ext <;> simp only <;> omega

include hQ hK hV hL in
theorem block_value (t : Fin cfg0.N) (y : S2048x128.Idx) (r : Fin 16384) (p : Fin 512)
    (hr : r.val = (t.val / 8 * 2 + t.val % 2) * 2048 + (y 0).val) (hp : p.val = t.val / 2 % 4 * 128 + (y 1).val) :
    (outsAt0 m c t.val t.isLt).1 y = target Q K V L (m ((c : Thread nD τ).loc main_arg7)) r p := by
  have hy0 : (y 0).val < 2048 := (y 0).isLt
  have hy1 : (y 1).val < 128 := (y 1).isLt
  have ht := t_lt t
  rw [block_at, blockOut]
  refine (chain_apply _ _ _ _ _ ⟨(y 0).val % 128, Nat.mod_lt _ (by decide)⟩ (y 1) (score Q K r p 0) (score Q K r p 1) L
    (fun x e' => V (ix2 ⟨r.val / 4096 * 4096 + x.val, by omega⟩ ⟨p.val / 128 * 128 + e'.val, by omega⟩)) ?_ ?_ ?_ ?_ ?_).trans ?_
  · intro n x
    rw [← score_at m c Q K hQ hK t _ _ rfl rfl ⟨(y 0).val, hy0⟩ (y 1) 0 n x r p hr hp]
    refine Finset.sum_congr rfl fun f _ => ?_
    rw [rectQ_idx, rectK_idx]
    congr 2
    · congr 1 <;> apply Fin.ext <;> simp <;> omega
    · congr 1; apply Fin.ext; simp
  · intro n x
    rw [← score_at m c Q K hQ hK t _ _ rfl rfl ⟨(y 0).val, hy0⟩ (y 1) 1 n x r p hr hp]
    refine Finset.sum_congr rfl fun f _ => ?_
    rw [rectQ_idx, rectK_idx]
    congr 2
    congr 1; apply Fin.ext; simp; omega
  · intro n x e
    rw [rectV_idx, widened_lo]
    refine (v_read m c t _ _).trans ((hV _).trans ?_)
    congr 2
    congr 1 <;> apply Fin.ext <;> simp <;> omega
  · intro n x e
    rw [rectV_idx, widened_hi]
  · rw [lam_apply, ← hL]
    congr 1 <;> funext x
    · exact lq1_read m c t x
    · exact lk1_read m c t x
    · exact lq2_read m c t x
    · exact lk2_read m c t x
  · have e : (⟨p.val % 128, by omega⟩ : Fin 128) = y 1 := Fin.ext (by show p.val % 128 = (y 1).val; omega)
    rw [target, e]
    congr 1
    exact g_read m c t (y 1)

include hQ hK hV hL in
/-- THE KERNEL'S RESULT ARRAY. -/
theorem array_value :
    (dats m 0 c).arrAt 8 cfg0.N = fun y : S16384x512.Idx => target Q K V L (m ((c : Thread nD τ).loc main_arg7)) (y 0) (y 1) := by
  refine (dats m 0 c).arrAt_eq_of_covers 8 _ (by decide +kernel) fun t hf y => ?_
  have e := idx8 t
  blk_simp
  rw [after0_8]
  refine block_value m c Q K V L hQ hK hV hL t y _ _ ?_ ?_
  · blk_simp [e.1]
  · blk_simp [e.2]

end Cert.Attn

end
-- ==== Proof.Finite.lean ====
/- The precondition read back: every entry it speaks of is a real number. -/
module

public import proofs.«01_k».proof.Pre_finite
public import proofs.«01_k».proof.Proof.Gen.Pre_finite
public import Idealize.ShloMosaic.Lib.ReduceAll
public import Idealize.ShloMosaic.Lib.IdealHost

@[expose] public section

set_option maxRecDepth 16384

noncomputable section

namespace Cert.Attn

open Cert.Pre_finite Idealize.ShloMosaic Idealize.ShloMosaic.TcCoe

theorem and_one (a b : BitVec 1) (h : IntOp.andi a b = 1#1) : a = 1#1 ∧ b = 1#1 := by
  revert a b; decide

theorem inf_eq : Ideal.ofBits .f32 0x7F800000#32 = (⊤ : EReal) := by
  simp [Ideal.ofBits, Ideal.ieee]

/-- An entry whose absolute value is below infinity is real. -/
theorem real_of_lt (a : EReal) (h : max a (-a) < (⊤ : EReal)) : a = ((a.toReal : ℝ) : EReal) := by
  have h' := max_lt_iff.mp h
  refine (EReal.coe_toReal h'.1.ne ?_).symm
  rintro rfl
  simp at h'

/-- An array that passes the test holds real numbers. -/
theorem real_of_all {s : Shape} {φ : FTy} {axes : List (Fin s.rank)} (x : FVec Ideal s φ) (p : s.Idx → BitVec 1)
    (hp : p = cmpf (F := Ideal) .olt (Host.absf x) (fun _ => Ideal.ofBits .f32 0x7F800000#32)) (h : s.ReducesTo axes S_) (j : S_.Idx)
    (init : S_.Idx → BitVec 1) (hu : 0 < S_.numel) (e : Host.reduce IntOp.andi p init h hu j = 1#1) (i : s.Idx) :
    x i = (((x i : EReal).toReal : ℝ) : EReal) := by
  haveI : Subsingleton S_.Idx := ⟨fun a b => funext fun k => k.elim0⟩
  have e1 := Host.reduce_andi_all p init h hu j e i
  rw [hp, inf_eq] at e1
  refine real_of_lt (x i) ?_
  change Ideal.cmp .olt (max (x i) (-x i)) ⊤ = 1#1 at e1
  by_contra hn
  simp [Ideal.cmp, hn] at e1

theorem finite_args [Cert.Pre_finite.Facts] (x0 : FVec Ideal S16384x512 .bf16) (x1 : FVec Ideal S4x512x4096 .bf16) (x2 : FVec Ideal S16384x512 .bf16)
    (x3 x4 x5 x6 : FVec Ideal S2x64 .f32) (x7 : FVec Ideal S2x128 .f32) (h : fn (F := Ideal) x0 x1 x2 x3 x4 x5 x6 x7 = fun _ => 1#1) :
    (∀ j, x0 j = (((x0 j : EReal).toReal : ℝ) : EReal)) ∧ (∀ j, x1 j = (((x1 j : EReal).toReal : ℝ) : EReal))
      ∧ (∀ j, x2 j = (((x2 j : EReal).toReal : ℝ) : EReal)) ∧ (∀ j, x3 j = (((x3 j : EReal).toReal : ℝ) : EReal))
      ∧ (∀ j, x4 j = (((x4 j : EReal).toReal : ℝ) : EReal)) ∧ (∀ j, x5 j = (((x5 j : EReal).toReal : ℝ) : EReal))
      ∧ (∀ j, x6 j = (((x6 j : EReal).toReal : ℝ) : EReal)) := by
  have h := congrFun h fun a => a.elim0
  dsimp only [fn, fn_part1, fn_part2] at h
  obtain ⟨h, h6⟩ := and_one _ _ h
  obtain ⟨h, h5⟩ := and_one _ _ h
  obtain ⟨h, h4⟩ := and_one _ _ h
  obtain ⟨h, h3⟩ := and_one _ _ h
  obtain ⟨h, h2⟩ := and_one _ _ h
  obtain ⟨h0, h1⟩ := and_one _ _ h
  exact ⟨real_of_all x0 _ rfl _ _ _ _ h0, real_of_all x1 _ rfl _ _ _ _ h1, real_of_all x2 _ rfl _ _ _ _ h2, real_of_all x3 _ rfl _ _ _ _ h3,
    real_of_all x4 _ rfl _ _ _ _ h4, real_of_all x5 _ rfl _ _ _ _ h5, real_of_all x6 _ rfl _ _ _ _ h6⟩

end Cert.Attn

end
-- ==== Proof.RefStages.lean ====
/- The reference's own stages: the scores, the softmax, the factor, the mixed attention and
   the norm. -/
module

public import proofs.«01_k».proof.Proof.Softmax
public import proofs.«01_k».proof.Proof.Gen.ReferenceIdeal.Run
public import Idealize.ShloMosaic.Lib.Pointwise

@[expose] public section

set_option maxRecDepth 16384

noncomputable section

namespace Cert.Attn.Ref

open Cert.ReferenceIdeal Cert.ReferenceIdeal.Gen Cert.ReferenceIdeal.Value Idealize.ShloMosaic Idealize.ShloMosaic.TcCoe Idealize.SL.Sem

/-- The scores, times the natural logarithm of two. -/
def scoresR (q : FVec Ideal S16384x512 .bf16) (k : FVec Ideal S4x512x4096 .bf16) : FVec Ideal S4x4x2x4096x4096 .f32 :=
  mulf (Host.dotGeneral dot_S4x4x2x4096x64_S4x4x2x64x4096_S4x4x2x4096x4096_4_3_3_4_012_012 none
      (transpose S4x4x2x4096x64 [0, 2, 3, 1, 4] (shapeCast _ (extf .f32 q bitsLt_bf16_f32) shapeCasts_S16384x512_S4x4096x4x2x64)
        transposes_S4x4096x4x2x64_S4x4x2x4096x64_0_2_3_1_4)
      (shapeCast _ (extf .f32 k bitsLt_bf16_f32) shapeCasts_S4x512x4096_S4x4x2x64x4096))
    (broadcastInDim S4x4x2x4096x4096 ![] bcast_S_S4x4x2x4096x4096 (Host.log (constant S_ .f32 0x40000000#32)))

/-- A row's maximum. -/
def maxR (s : FVec Ideal S4x4x2x4096x4096 .f32) : FVec Ideal S4x4x2x4096 .f32 :=
  Host.reduce FloatOps.maximumf s (constant S_ .f32 0xFF800000#32) reducesTo_S4x4x2x4096x4096_S4x4x2x4096_d4 h_S_

/-- The maximum, not below minus infinity. -/
def floorR (M : FVec Ideal S4x4x2x4096 .f32) : FVec Ideal S4x4x2x4096 .f32 :=
  maximumf (broadcastInDim S4x4x2x4096 ![] bcast_S_S4x4x2x4096 (constant S_ .f32 0xFF800000#32)) M

/-- The exponentials of the scores less their row's maximum. -/
def shiftR (s : FVec Ideal S4x4x2x4096x4096 .f32) (M : FVec Ideal S4x4x2x4096 .f32) : FVec Ideal S4x4x2x4096x4096 .f32 :=
  Host.exp (subf s (broadcastInDim S4x4x2x4096x4096 ![0, 1, 2, 3, 4] bcast_S4x4x2x4096x1_S4x4x2x4096x4096_0_1_2_3_4
    (broadcastInDim S4x4x2x4096x1 ![0, 1, 2, 3] bcast_S4x4x2x4096_S4x4x2x4096x1_0_1_2_3 M)))

/-- The exponentials of a row of scores. -/
def expR (s : FVec Ideal S4x4x2x4096x4096 .f32) : FVec Ideal S4x4x2x4096x4096 .f32 := shiftR s (floorR (maxR s))

/-- The softmax of a row, from its exponentials. -/
def softR (p : FVec Ideal S4x4x2x4096x4096 .f32) : FVec Ideal S4x4x2x4096x4096 .f32 :=
  Host.divf p (broadcastInDim S4x4x2x4096x4096 ![0, 1, 2, 3, 4] bcast_S4x4x2x4096x1_S4x4x2x4096x4096_0_1_2_3_4
    (broadcastInDim S4x4x2x4096x1 ![0, 1, 2, 3] bcast_S4x4x2x4096_S4x4x2x4096x1_0_1_2_3
      (Host.reduceAdd p (constant S_ .f32 0x00000000#32) reducesTo_S4x4x2x4096x4096_S4x4x2x4096_d4 h_S_)))

/-- The exponential of the inner product of the two vectors' first rows. -/
def dotR (a b : FVec Ideal S2x64 .f32) : FVec Ideal S_ .f32 :=
  Host.exp (Host.reduceAdd (mulf (shapeCast S64 (extractStridedSlice S1x64 ![0, 0] a slices_S2x64_S1x64_0_0) shapeCasts_S1x64_S64)
    (shapeCast S64 (extractStridedSlice S1x64 ![0, 0] b slices_S2x64_S1x64_0_0) shapeCasts_S1x64_S64)) (constant S_ .f32 0x00000000#32)
      reducesTo_S64_S_d0 h_S_)

/-- The factor of the second component. -/
def factorR (a b a' b' : FVec Ideal S2x64 .f32) : FVec Ideal S_ .f32 := addf (subf (dotR a b) (dotR a' b')) (constant S_ .f32 0x3E4CCCCD#32)

/-- The values weighted by the difference of the two softmaxes. -/
def mixR (w : FVec Ideal S4x4x2x4096x4096 .f32) (lam : FVec Ideal S_ .f32) (v : FVec Ideal S16384x512 .bf16) : FVec Ideal S4x4x4096x128 .f32 :=
  Host.dotGeneral dot_S4x4x4096x4096_S4x4x4096x128_S4x4x4096x128_3_2_2_3_01_01 none
    (subf (shapeCast _ (extractStridedSlice S4x4x1x4096x4096 ![0, 0, 0, 0, 0] w slices_S4x4x2x4096x4096_S4x4x1x4096x4096_0_0_0_0_0)
        shapeCasts_S4x4x1x4096x4096_S4x4x4096x4096)
      (mulf (broadcastInDim S4x4x4096x4096 ![] bcast_S_S4x4x4096x4096 lam)
        (shapeCast _ (extractStridedSlice S4x4x1x4096x4096 ![0, 0, 1, 0, 0] w slices_S4x4x2x4096x4096_S4x4x1x4096x4096_0_0_1_0_0)
          shapeCasts_S4x4x1x4096x4096_S4x4x4096x4096)))
    (transpose S4x4x4096x128 [0, 2, 1, 3] (shapeCast _ (extf .f32 v bitsLt_bf16_f32) shapeCasts_S16384x512_S4x4096x4x128)
      transposes_S4x4096x4x128_S4x4x4096x128_0_2_1_3)

/-- The norm, the gain and the constant factor, laid out by rows. -/
def normR (o : FVec Ideal S4x4x4096x128 .f32) (g : FVec Ideal S2x128 .f32) : FVec Ideal S16384x512 .bf16 :=
  truncf .bf16 (shapeCast _ (transpose S4x4096x4x128 [0, 2, 1, 3] (mulf (mulf (mulf o
    (broadcastInDim S4x4x4096x128 ![0, 1, 2, 3] bcast_S4x4x4096x1_S4x4x4096x128_0_1_2_3 (Host.rsqrt (addf (Host.divf
      (broadcastInDim S4x4x4096x1 ![0, 1, 2] bcast_S4x4x4096_S4x4x4096x1_0_1_2
        (Host.reduceAdd (mulf o o) (constant S_ .f32 0x00000000#32) reducesTo_S4x4x4096x128_S4x4x4096_d3 h_S_))
      (broadcastInDim S4x4x4096x1 ![] bcast_S_S4x4x4096x1 (constant S_ .f32 0x43000000#32)))
      (broadcastInDim S4x4x4096x1 ![] bcast_S_S4x4x4096x1 (constant S_ .f32 0x358637BD#32))))))
    (broadcastInDim S4x4x4096x128 ![0, 1, 2, 3] bcast_S1x1x1x128_S4x4x4096x128_0_1_2_3 (broadcastInDim S1x1x1x128 ![3] bcast_S128_S1x1x1x128_3
      (shapeCast S128 (extractStridedSlice S1x128 ![0, 0] g slices_S2x128_S1x128_0_0) shapeCasts_S1x128_S128))))
    (broadcastInDim S4x4x4096x128 ![] bcast_S_S4x4x4096x128 (constant S_ .f32 0x3F4CCCCD#32)))
    transposes_S4x4x4096x128_S4x4096x4x128_0_2_1_3) shapeCasts_S4x4096x4x128_S16384x512) bitsLt_bf16_f32

end Cert.Attn.Ref

end
-- ==== Proof.RefSoft.lean ====
/- The reference, cut into its stages, and the scores and softmax weights that the first stages hold at an index. -/
module

public import proofs.«01_k».proof.Proof.RefStages
public import proofs.«01_k».proof.Proof.Gen.ReferenceIdeal.Run
public import Idealize.ShloMosaic.Lib.Pointwise

@[expose] public section

set_option maxRecDepth 16384

noncomputable section

namespace Cert.Attn.Ref

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (c : Dev nD)

/-- The reference is its stages. -/
theorem stages : res_main_v66 (F := Ideal) m c
    = normR (mixR (softR (expR (scoresR (m ((c : Thread nD τ).loc main_arg0)) (m ((c : Thread nD τ).loc main_arg1)))))
        (factorR (m ((c : Thread nD τ).loc main_arg3)) (m ((c : Thread nD τ).loc main_arg4)) (m ((c : Thread nD τ).loc main_arg5))
          (m ((c : Thread nD τ).loc main_arg6))) (m ((c : Thread nD τ).loc main_arg2))) (m ((c : Thread nD τ).loc main_arg7)) := rfl

theorem scoresR_apply (q : FVec Ideal S16384x512 .bf16) (k : FVec Ideal S4x512x4096 .bf16) (b h : Fin 4) (a : Fin 2) (i x : Fin 4096) :
    scoresR q k (ix5 b h a i x)
      = (∑ f : Fin 64, q (ix2 ⟨b.val * 4096 + i.val, by omega⟩ ⟨h.val * 128 + a.val * 64 + f.val, by omega⟩)
          * k (ix3 b ⟨h.val * 128 + a.val * 64 + f.val, by omega⟩ x)) * ln2 := by
  pointwise [scoresR, ln2]

theorem maxR_apply (s : FVec Ideal S4x4x2x4096x4096 .f32) (b h : Fin 4) (a : Fin 2) (i : Fin 4096) :
    maxR s (ix4 b h a i) = rowTop fun y => s (ix5 b h a i y) := by
  unfold rowTop negInf
  pointwise [maxR]

theorem floorR_apply (M : FVec Ideal S4x4x2x4096 .f32) (j : S4x4x2x4096.Idx) : floorR M j = max negInf (M j) := rfl

theorem shiftR_apply (s : FVec Ideal S4x4x2x4096x4096 .f32) (M : FVec Ideal S4x4x2x4096 .f32) (b h : Fin 4) (a : Fin 2) (i x : Fin 4096) :
    shiftR s M (ix5 b h a i x) = Ideal.exp (s (ix5 b h a i x) - M (ix4 b h a i)) := by
  pointwise [shiftR]

theorem softR_apply (p : FVec Ideal S4x4x2x4096x4096 .f32) (b h : Fin 4) (a : Fin 2) (i x : Fin 4096) :
    softR p (ix5 b h a i x) = Ideal.div (p (ix5 b h a i x)) (∑ y, p (ix5 b h a i y)) := by
  pointwise [softR]

end Cert.Attn.Ref

end
-- ==== Proof.RefValue.lean ====
/- What the reference computes at an index: the weights of both components, the mix, the norm, and the whole of it. -/
module

public import proofs.«01_k».proof.Proof.RefSoft
public import proofs.«01_k».proof.Proof.Gen.ReferenceIdeal.Run
public import Idealize.ShloMosaic.Lib.Pointwise

@[expose] public section

set_option maxRecDepth 16384

noncomputable section

namespace Cert.Attn.Ref

open Cert.ReferenceIdeal Cert.ReferenceIdeal.Gen Cert.ReferenceIdeal.Value Idealize.ShloMosaic Idealize.ShloMosaic.TcCoe Idealize.SL.Sem

/-- The softmax of a row of scores, at a key. -/
theorem soft_apply (q : FVec Ideal S16384x512 .bf16) (k : FVec Ideal S4x512x4096 .bf16) (b h : Fin 4) (a : Fin 2) (i x : Fin 4096) :
    softR (expR (scoresR q k)) (ix5 b h a i x)
      = weight (fun x => ∑ f : Fin 64, q (ix2 ⟨b.val * 4096 + i.val, by omega⟩ ⟨h.val * 128 + a.val * 64 + f.val, by omega⟩)
          * k (ix3 b ⟨h.val * 128 + a.val * 64 + f.val, by omega⟩ x)) x := by
  have hs : ∀ y, expR (scoresR q k) (ix5 b h a i y) = _ := fun y =>
    (shiftR_apply _ _ b h a i y).trans (by rw [floorR_apply, maxR_apply, scoresR_apply])
  rw [softR_apply, weight]
  simp only [hs, scoresR_apply]

theorem factorR_apply (a b a' b' : FVec Ideal S2x64 .f32) (j : S_.Idx) :
    factorR a b a' b' j = factor (fun x => a (ix2 0 x)) (fun x => b (ix2 0 x)) (fun x => a' (ix2 0 x)) (fun x => b' (ix2 0 x)) := by
  pointwise [factorR, dotR, factor]

theorem mixR_apply (w : FVec Ideal S4x4x2x4096x4096 .f32) (lam : FVec Ideal S_ .f32) (v : FVec Ideal S16384x512 .bf16) (b h : Fin 4) (i : Fin 4096)
    (e : Fin 128) :
    mixR w lam v (ix4 b h i e) = ∑ x : Fin 4096, (w (ix5 b h 0 i x) - lam ix0 * w (ix5 b h 1 i x))
      * v (ix2 ⟨b.val * 4096 + x.val, by omega⟩ ⟨h.val * 128 + e.val, by omega⟩) := by
  pointwise [mixR]

theorem normR_apply (o : FVec Ideal S4x4x4096x128 .f32) (g : FVec Ideal S2x128 .f32) (r : Fin 16384) (e : Fin 512) :
    normR o g (ix2 r e) = norm (fun e' => o (ix4 ⟨r.val / 4096, by omega⟩ ⟨e.val / 128, by omega⟩ ⟨r.val % 4096, by omega⟩ e'))
      (g (ix2 0 ⟨e.val % 128, by omega⟩)) ⟨e.val % 128, by omega⟩ := by
  pointwise [normR, norm]

/-- THE REFERENCE AT ROW `r`, COLUMN `e`. -/
theorem ref_apply (q : FVec Ideal S16384x512 .bf16) (k : FVec Ideal S4x512x4096 .bf16) (v : FVec Ideal S16384x512 .bf16)
    (a b a' b' : FVec Ideal S2x64 .f32) (g : FVec Ideal S2x128 .f32) (r : Fin 16384) (e : Fin 512) :
    normR (mixR (softR (expR (scoresR q k))) (factorR a b a' b') v) g (ix2 r e)
      = refRow
          (fun x => ∑ f : Fin 64, q (ix2 r ⟨e.val / 128 * 128 + (0 : Fin 2).val * 64 + f.val, by simp; omega⟩)
            * k (ix3 ⟨r.val / 4096, by omega⟩ ⟨e.val / 128 * 128 + (0 : Fin 2).val * 64 + f.val, by simp; omega⟩ x))
          (fun x => ∑ f : Fin 64, q (ix2 r ⟨e.val / 128 * 128 + (1 : Fin 2).val * 64 + f.val, by simp; omega⟩)
            * k (ix3 ⟨r.val / 4096, by omega⟩ ⟨e.val / 128 * 128 + (1 : Fin 2).val * 64 + f.val, by simp; omega⟩ x))
          (factor (fun x => a (ix2 0 x)) (fun x => b (ix2 0 x)) (fun x => a' (ix2 0 x)) (fun x => b' (ix2 0 x)))
          (fun x e' => v (ix2 ⟨r.val / 4096 * 4096 + x.val, by omega⟩ ⟨e.val / 128 * 128 + e'.val, by omega⟩))
          (g (ix2 0 ⟨e.val % 128, by omega⟩)) ⟨e.val % 128, by omega⟩ := by
  have hr : (⟨r.val / 4096 * 4096 + r.val % 4096, by omega⟩ : Fin 16384) = r := Fin.ext (by show r.val / 4096 * 4096 + r.val % 4096 = r.val; omega)
  rw [normR_apply, refRow]
  congr 1
  funext e'
  rw [mixR_apply]
  simp only [soft_apply, factorR_apply, hr]

end Cert.Attn.Ref

end
-- ==== Proof.Equal.lean ====
/- The two programs agree: on finite arguments the reference's result is the array that the kernel leaves. -/
module

public import proofs.«01_k».proof.Proof.Array
public import proofs.«01_k».proof.Proof.Finite
public import proofs.«01_k».proof.Proof.RefValue

@[expose] public section

set_option maxRecDepth 16384

noncomputable section

namespace Cert.Attn

open Cert.KernelIdeal Cert.KernelIdeal.Gen Cert.Attn.Ref Idealize.ShloMosaic Idealize.ShloMosaic.TcCoe Idealize.SL.Sem

/-- The reference on real queries, keys and values and a real factor. -/
theorem ref_target (q : FVec Ideal S16384x512 .bf16) (k : FVec Ideal S4x512x4096 .bf16) (v : FVec Ideal S16384x512 .bf16)
    (a b a' b' : FVec Ideal S2x64 .f32) (g : FVec Ideal S2x128 .f32)
    (Q : S16384x512.Idx → ℝ) (K : S4x512x4096.Idx → ℝ) (V : S16384x512.Idx → ℝ) (L : ℝ)
    (hQ : ∀ j, q j = (Q j : EReal)) (hK : ∀ j, k j = (K j : EReal)) (hV : ∀ j, v j = (V j : EReal))
    (hL : factor (fun x => a (ix2 0 x)) (fun x => b (ix2 0 x)) (fun x => a' (ix2 0 x)) (fun x => b' (ix2 0 x)) = (L : EReal))
    (r : Fin 16384) (e : Fin 512) :
    normR (mixR (softR (expR (scoresR q k))) (factorR a b a' b') v) g (ix2 r e) = target Q K V L g r e := by
  refine (ref_apply q k v a b a' b' g r e).trans ?_
  rw [hL]
  simp only [hQ, hK, hV, ← EReal.coe_mul, ← coe_sum]
  exact refRow_coe _ _ L (fun x e' => V (ix2 ⟨r.val / 4096 * 4096 + x.val, by omega⟩ ⟨e.val / 128 * 128 + e'.val, by omega⟩)) _ _

/-- The difference's factor is real when the four vectors are. -/
theorem factor_real (a b a' b' : FVec Ideal S2x64 .f32) (ha : ∀ j, a j = (((a j : EReal).toReal : ℝ) : EReal))
    (hb : ∀ j, b j = (((b j : EReal).toReal : ℝ) : EReal)) (ha' : ∀ j, a' j = (((a' j : EReal).toReal : ℝ) : EReal))
    (hb' : ∀ j, b' j = (((b' j : EReal).toReal : ℝ) : EReal)) :
    ∃ L : ℝ, factor (fun x => a (ix2 0 x)) (fun x => b (ix2 0 x)) (fun x => a' (ix2 0 x)) (fun x => b' (ix2 0 x)) = (L : EReal) := by
  obtain ⟨L, h⟩ := factor_coe (fun x => (a (ix2 0 x) : EReal).toReal) (fun x => (b (ix2 0 x) : EReal).toReal)
    (fun x => (a' (ix2 0 x) : EReal).toReal) (fun x => (b' (ix2 0 x) : EReal).toReal)
  refine ⟨L, Eq.trans ?_ h⟩
  congr 1 <;> funext x
  · exact ha _
  · exact hb _
  · exact ha' _
  · exact hb' _

variable (m : (ℓ : Loc nD τ sig) → Buf (Elt Ideal) ℓ) (c : Dev nD)

/-- THE EQUATION: the reference's stages on the kernel's arguments are the kernel's result array. -/
theorem same_array [Cert.Pre_finite.Facts]
    (h : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    normR (mixR (softR (expR (scoresR (m ((c : Thread nD τ).loc main_arg0)) (m ((c : Thread nD τ).loc main_arg1)))))
      (factorR (m ((c : Thread nD τ).loc main_arg3)) (m ((c : Thread nD τ).loc main_arg4)) (m ((c : Thread nD τ).loc main_arg5))
        (m ((c : Thread nD τ).loc main_arg6))) (m ((c : Thread nD τ).loc main_arg2))) (m ((c : Thread nD τ).loc main_arg7))
      = (dats m 0 c).arrAt 8 cfg0.N := by
  obtain ⟨h0, h1, h2, h3, h4, h5, h6⟩ := finite_args _ _ _ _ _ _ _ _ h
  obtain ⟨L, hL⟩ := factor_real _ _ _ _ h3 h4 h5 h6
  rw [array_value m c _ _ _ L h0 h1 h2 hL]
  funext y
  rw [show y = ix2 (y 0) (y 1) from by funext a; fin_cases a <;> rfl]
  exact ref_target _ _ _ _ _ _ _ _ _ _ _ L h0 h1 h2 hL (y 0) (y 1)

end Cert.Attn

end
-- ==== Proof.ProjMath.lean ====
/- The input projection of one row, on the extended reals: the norm, the product with the weights, the sigmoid. -/
module

public import Idealize.ShloMosaic.Lib.Pointwise

@[expose] public section

noncomputable section

namespace Cert.Proj

open Idealize.ShloMosaic

/-- A row over the root of its mean square, times the gain. -/
def rowNorm (x g : Fin 1024 → EReal) (a : Fin 1024) : EReal :=
  x a * Ideal.rsqrt (Ideal.div (∑ b, x b * x b) (Ideal.ofBits .f32 0x44800000#32) + Ideal.ofBits .f32 0x358637BD#32) * g a

/-- Column `j` of the projection of a row. -/
def inProj (x g : Fin 1024 → EReal) (w : Fin 1024 → Fin 7168 → EReal) (j : Fin 7168) : EReal := ∑ a, rowNorm x g a * w a j

/-- The sigmoid. -/
def sigmoid (t : EReal) : EReal := Ideal.div (Ideal.ofBits .f32 0x3F800000#32) (Ideal.ofBits .f32 0x3F800000#32 + Ideal.exp (-t))

theorem zero_sub_sigmoid (t : EReal) : Ideal.div (Ideal.ofBits .f32 0x3F800000#32) (Ideal.ofBits .f32 0x3F800000#32 + Ideal.exp (Ideal.ofBits .f32 0x00000000#32 - t)) = sigmoid t := by
  rw [show Ideal.ofBits .f32 0x00000000#32 = (0 : EReal) from by simp [Ideal.ofBits, Ideal.ieee], zero_sub, sigmoid]

/-- The column that column `e` is turned with: the other half of its group of 64. -/
def partner (e : Fin 512) : Fin 512 := if h : e.val / 32 % 2 = 0 then ⟨e.val + 32, by omega⟩ else ⟨e.val - 32, by omega⟩

/-- A component times the cosine and its partner times the sine, whose sign the table holds. -/
def turn (q : Fin 512 → EReal) (e : Fin 512) (cs sn : EReal) : EReal := q e * cs + q (partner e) * sn

/-- The factor that the queries carry. -/
abbrev qscale : EReal := Ideal.ofBits .f32 0x3E38AA3B#32

/-- The angle of position `s` at frequency `k`. -/
def ang (s k : ℕ) : EReal :=
  FloatOps.sitofp (F := Ideal) .f32 (BitVec.ofNat 32 s)
    * Ideal.div 1 (Ideal.pow (Ideal.ofBits .f32 1176256512#32)
        (Ideal.div (Ideal.ofBits .f32 1073741824#32 * FloatOps.sitofp (F := Ideal) .f32 (BitVec.ofNat 32 k)) (Ideal.ofBits .f32 1115684864#32)))

/-- The cosine that column `e` is turned by. -/
def cosAt (s e : ℕ) : EReal := Ideal.cos (ang s (e % 32))

/-- The sine that column `e`'s partner is turned by, negative for the first half of a group of 64. -/
def sinAt (s e : ℕ) : EReal := if e % 64 < 32 then -Ideal.sin (ang s (e % 64)) else Ideal.sin (ang s (e % 64 - 32))

/-- The columns from `o` on, rotated. -/
def rotated (p : Fin 7168 → EReal) (s o : ℕ) (ho : o + 512 ≤ 7168) (e : Fin 512) : EReal :=
  turn (fun e => p ⟨o + e.val, by omega⟩) e (cosAt s e.val) (sinAt s e.val)

/-- The rotation written with the partner's sign on the partner. -/
theorem rotated_eq (p : Fin 7168 → EReal) (s o : ℕ) (ho : o + 512 ≤ 7168) (e : Fin 512) (v : EReal)
    (hv : v = if e.val % 64 < 32 then -p ⟨o + (partner e).val, by omega⟩ else p ⟨o + (partner e).val, by omega⟩) :
    p ⟨o + e.val, by omega⟩ * Ideal.cos (ang s (e.val % 64 % 32)) + v * Ideal.sin (ang s (e.val % 64 % 32)) = rotated p s o ho e := by
  rw [rotated, turn, cosAt, sinAt, hv, show e.val % 64 % 32 = e.val % 32 from by omega]
  refine congrArg (fun t : EReal => p ⟨o + e.val, by omega⟩ * Ideal.cos (ang s (e.val % 32)) + t) ?_
  by_cases h : e.val % 64 < 32
  · rw [if_pos h, if_pos h, show e.val % 64 = e.val % 32 from by omega, neg_mul, mul_neg]
  · rw [if_neg h, if_neg h, show e.val % 64 - 32 = e.val % 32 from by omega]

/-! ## The eight results, from the projection of every row -/

variable (P : Fin 4 → Fin 4096 → Fin 7168 → EReal)

/-- Row `r` of the 16384 is position `r mod 4096` of batch `r / 4096`. -/
abbrev at' (r : Fin 16384) : Fin 7168 → EReal := P ⟨r.val / 4096, by omega⟩ ⟨r.val % 4096, by omega⟩

def queries (r : Fin 16384) (e : Fin 512) : EReal := rotated (at' P r) (r.val % 4096) 0 (by omega) e * qscale
def keys (b : Fin 4) (e : Fin 512) (s : Fin 4096) : EReal := rotated (P b s) s.val 512 (by omega) e
def values (r : Fin 16384) (e : Fin 512) : EReal := at' P r ⟨1024 + e.val, by omega⟩
def gated (r : Fin 16384) (e : Fin 512) : EReal := at' P r ⟨1536 + e.val, by omega⟩ * sigmoid (at' P r ⟨2048 + e.val, by omega⟩)
def queries' (r : Fin 16384) (e : Fin 512) : EReal := at' P r ⟨2560 + e.val, by omega⟩ * qscale
def keys' (b : Fin 4) (e : Fin 512) (s : Fin 4096) : EReal := P b s ⟨3072 + e.val, by omega⟩
def values' (r : Fin 16384) (e : Fin 512) : EReal := at' P r ⟨3584 + e.val, by omega⟩
def gates (r : Fin 16384) (e : Fin 3072) : EReal := sigmoid (at' P r ⟨4096 + e.val, by omega⟩)

end Cert.Proj

end
-- ==== Proof.ProjBlock.lean ====
/- What one grid point of the projection stores, entry by entry. -/
module

public import proofs.«01_k».proof.Proof.ProjMath
public import proofs.«01_k».proof.Proof.Gen.Kernel3Ideal.Frame
public import Idealize.ShloMosaic.Lib.Pointwise

@[expose] public section

set_option maxRecDepth 16384

noncomputable section

namespace Cert.Proj

open Idealize.ShloMosaic.Pipeline Cert.Kernel3Ideal Cert.Kernel3Ideal.Gen Idealize.ShloMosaic Idealize.ShloMosaic.TcCoe Idealize.SL.Sem

variable (x0 : FVec Ideal S512x1024 .f32) (x1 : FVec Ideal S1x1x1024 .f32) (x2 : FVec Ideal S1x1024x7168 .bf16)
variable (h : FVec Ideal S512x1024 .bf16) (w : FVec Ideal S1x1024x512 .bf16)

theorem normed_apply (i : Fin 512) (a : Fin 1024) :
    k0_pay3 (F := Ideal) x0 x1 (ix2 i a) = rowNorm (fun b => x0 (ix2 i b)) (fun b => x1 (ix3 0 0 b)) a := by
  pointwise [k0_pay3, rowNorm]

/-- One entry of a product with 512 columns of the weights. -/
def mm (i e : Fin 512) : EReal := ∑ a : Fin 1024, h (ix2 i a) * w (ix3 0 a e)

/-! ## The products and what is done to them before the stores -/

theorem pay1_apply (i e : Fin 512) : k0_pay1 (F := Ideal) h w (ix2 i e) = mm h w i e := by pointwise [k0_pay1, mm]
theorem pay2_apply (i e : Fin 512) : k0_pay2 (F := Ideal) h w (ix2 i e) = mm h w i e := by pointwise [k0_pay2, mm]
theorem pay15_apply (i e : Fin 512) : k0_pay15 (F := Ideal) h w (ix2 i e) = mm h w i e := by pointwise [k0_pay15, mm]
theorem pay16_apply (i e : Fin 512) : k0_pay16 (F := Ideal) h w (ix2 i e) = mm h w i e := by pointwise [k0_pay16, mm]
theorem pay30_apply (i e : Fin 512) : k0_pay30 (F := Ideal) h w (ix2 i e) = mm h w i e := by pointwise [k0_pay30, mm]
theorem pay35_apply (i e : Fin 512) : k0_pay35 (F := Ideal) h w (ix2 i e) = mm h w i e * qscale := by pointwise [k0_pay35, mm]

theorem pay8_apply (i e : Fin 512) : k0_pay8 (F := Ideal) h w (ix2 i e) = sigmoid (mm h w i e) := by
  rw [← zero_sub_sigmoid]; pointwise [k0_pay8, mm]
theorem pay9_apply (i e : Fin 512) : k0_pay9 (F := Ideal) h w (ix2 i e) = sigmoid (mm h w i e) := by
  rw [← zero_sub_sigmoid]; pointwise [k0_pay9, mm]
theorem pay13_apply (i e : Fin 512) : k0_pay13 (F := Ideal) h w (ix2 i e) = sigmoid (mm h w i e) := by
  rw [← zero_sub_sigmoid]; pointwise [k0_pay13, mm]
theorem pay14_apply (i e : Fin 512) : k0_pay14 (F := Ideal) h w (ix2 i e) = sigmoid (mm h w i e) := by
  rw [← zero_sub_sigmoid]; pointwise [k0_pay14, mm]
theorem pay12_apply (i e : Fin 512) : k0_pay12 (F := Ideal) (k0_pay10 h w) k0_pay11 (ix2 i e) = sigmoid (mm h w i e) := by
  rw [← zero_sub_sigmoid]; pointwise [k0_pay12, k0_pay10, k0_pay11, mm]
theorem pay7_eq : k0_pay7 (F := Ideal) x0 x1 w = k0_pay8 (k0_pay3 x0 x1) w := rfl
theorem pay29_apply (w' : FVec Ideal S1x1024x512 .bf16) (i e : Fin 512) :
    k0_pay29 (F := Ideal) h w w' (ix2 i e) = mm h w i e * sigmoid (mm h w' i e) := by
  rw [← zero_sub_sigmoid]; pointwise [k0_pay29, mm]

/-! ## The rotations: four slices of 128 columns, each with its partner columns brought by two rolls -/

variable (cs sn : FVec Ideal S512x128 .f32) (q : FVec Ideal S512x512 .f32)

theorem half_bit : ∀ l : Fin 128, IntOp.cmpi .eq (IntOp.andi (BitVec.ofNat 32 l.val) 32#32) 0#32 = if l.val / 32 % 2 = 0 then 1#1 else 0#1 := by
  decide +kernel

theorem rolled (i : Fin 512) (o : ℕ) (ho : o % 128 = 0) (l : Fin 128) (e : Fin 512) (he : e.val = o + l.val) (p r : Fin 512)
    (hp : p.val = o + (l.val + 128 - 96) % 128) (hr : r.val = o + (l.val + 128 - 32) % 128) :
    (Scalar.select (IntOp.cmpi .eq (IntOp.andi (BitVec.ofNat 32 l.val) 32#32) 0#32) (q (ix2 i p)) (q (ix2 i r)) : EReal) = q (ix2 i (partner e)) := by
  rw [half_bit, partner]
  by_cases h0 : l.val / 32 % 2 = 0
  · rw [if_pos h0, dif_pos (by omega), Scalar.select, if_pos (by decide)]
    congr 2; apply Fin.ext; simp only; omega
  · rw [if_neg h0, dif_neg (by omega), Scalar.select, if_neg (by decide)]
    congr 2; apply Fin.ext; simp only; omega

theorem pay17_apply (i : Fin 512) (l : Fin 128) : k0_pay17 (F := Ideal) cs sn k0_pay6 q (ix2 i l)
    = turn (fun e => q (ix2 i e)) ⟨0 + l.val, by omega⟩ (cs (ix2 i l)) (sn (ix2 i l)) * qscale := by
  rw [turn]
  pointwise [k0_pay17, k0_pay6]
  rw [rolled q i 0 (by decide) l ⟨0 + l.val, by omega⟩ rfl _ _ (by simp) (by simp)]
  simp

theorem pay19_apply (i : Fin 512) (l : Fin 128) : k0_pay19 (F := Ideal) cs sn k0_pay6 q (ix2 i l)
    = turn (fun e => q (ix2 i e)) ⟨128 + l.val, by omega⟩ (cs (ix2 i l)) (sn (ix2 i l)) * qscale := by
  rw [turn]
  pointwise [k0_pay19, k0_pay6]
  rw [rolled q i 128 (by decide) l ⟨128 + l.val, by omega⟩ rfl _ _ (by simp) (by simp)]

theorem pay22_apply (i : Fin 512) (l : Fin 128) : k0_pay22 (F := Ideal) cs sn k0_pay6 q (ix2 i l)
    = turn (fun e => q (ix2 i e)) ⟨256 + l.val, by omega⟩ (cs (ix2 i l)) (sn (ix2 i l)) * qscale := by
  rw [turn]
  pointwise [k0_pay22, k0_pay6]
  rw [rolled q i 256 (by decide) l ⟨256 + l.val, by omega⟩ rfl _ _ (by simp) (by simp)]

theorem pay27_apply (i : Fin 512) (l : Fin 128) : k0_pay27 (F := Ideal) (k0_pay25 cs q) (k0_pay26 sn k0_pay6 q) (ix2 i l)
    = turn (fun e => q (ix2 i e)) ⟨384 + l.val, by omega⟩ (cs (ix2 i l)) (sn (ix2 i l)) * qscale := by
  rw [turn]
  pointwise [k0_pay27, k0_pay25, k0_pay26, k0_pay24, k0_pay6]
  rw [rolled q i 384 (by decide) l ⟨384 + l.val, by omega⟩ rfl _ _ (by simp) (by simp)]

theorem pay18_apply (i : Fin 512) (l : Fin 128) : k0_pay18 (F := Ideal) h cs sn k0_pay6 w (ix3 0 l i)
    = turn (fun e => k0_pay16 (F := Ideal) h w (ix2 i e)) ⟨0 + l.val, by omega⟩ (cs (ix2 i l)) (sn (ix2 i l)) := by
  rw [turn]
  unfold k0_pay18
  generalize k0_pay16 (F := Ideal) h w = q
  pointwise [k0_pay18, k0_pay6]
  rw [rolled q i 0 (by decide) l ⟨0 + l.val, by omega⟩ rfl _ _ (by simp) (by simp)]
  simp

theorem pay21_apply (i : Fin 512) (l : Fin 128) : k0_pay21 (F := Ideal) cs sn k0_pay6 (k0_pay20 h w) (ix3 0 l i)
    = turn (fun e => k0_pay16 (F := Ideal) h w (ix2 i e)) ⟨128 + l.val, by omega⟩ (cs (ix2 i l)) (sn (ix2 i l)) := by
  rw [turn]
  unfold k0_pay20
  generalize k0_pay16 (F := Ideal) h w = q
  pointwise [k0_pay21, k0_pay20, k0_pay6]
  rw [rolled q i 128 (by decide) l ⟨128 + l.val, by omega⟩ rfl _ _ (by simp) (by simp)]

theorem pay23_apply (i : Fin 512) (l : Fin 128) : k0_pay23 (F := Ideal) cs sn k0_pay6 q (ix3 0 l i)
    = turn (fun e => q (ix2 i e)) ⟨256 + l.val, by omega⟩ (cs (ix2 i l)) (sn (ix2 i l)) := by
  rw [turn]
  pointwise [k0_pay23, k0_pay6]
  rw [rolled q i 256 (by decide) l ⟨256 + l.val, by omega⟩ rfl _ _ (by simp) (by simp)]

theorem pay28_apply (i : Fin 512) (l : Fin 128) : k0_pay28 (F := Ideal) cs sn k0_pay6 q (ix3 0 l i)
    = turn (fun e => q (ix2 i e)) ⟨384 + l.val, by omega⟩ (cs (ix2 i l)) (sn (ix2 i l)) := by
  rw [turn]
  pointwise [k0_pay28, k0_pay6]
  rw [rolled q i 384 (by decide) l ⟨384 + l.val, by omega⟩ rfl _ _ (by simp) (by simp)]

theorem pay31_apply (i : Fin 512) (l : Fin 128) : k0_pay31 (F := Ideal) h w (ix3 0 l i) = mm h w i ⟨0 + l.val, by omega⟩ := by
  refine Eq.trans ?_ (pay30_apply h w i _)
  pointwise [k0_pay31]

theorem pay32_apply (i : Fin 512) (l : Fin 128) : k0_pay32 (F := Ideal) h w (ix3 0 l i) = mm h w i ⟨128 + l.val, by omega⟩ := by
  refine Eq.trans ?_ (pay30_apply h w i _)
  pointwise [k0_pay32]

theorem pay33_apply (i : Fin 512) (l : Fin 128) : k0_pay33 (F := Ideal) h w (ix3 0 l i) = mm h w i ⟨256 + l.val, by omega⟩ := by
  refine Eq.trans ?_ (pay30_apply h w i _)
  pointwise [k0_pay33]

theorem pay34_apply (i : Fin 512) (l : Fin 128) : k0_pay34 (F := Ideal) h w (ix3 0 l i) = mm h w i ⟨384 + l.val, by omega⟩ := by
  refine Eq.trans ?_ (pay30_apply h w i _)
  pointwise [k0_pay34]

end Cert.Proj

end
-- ==== Proof.ProjOut.lean ====
/- What the body leaves in each of its eight blocks, as functions of the blocks it reads. -/
module

public import proofs.«01_k».proof.Proof.ProjBlock
public import proofs.«01_k».proof.Proof.Gen.Kernel3Ideal.Frame
public import Idealize.ShloMosaic.Lib.Pipeline.ValueKit

@[expose] public section

set_option maxRecDepth 16384

noncomputable section

namespace Cert.Proj

open Idealize.ShloMosaic.Pipeline Cert.Kernel3Ideal Cert.Kernel3Ideal.Gen Idealize.ShloMosaic Idealize.ShloMosaic.TcCoe Idealize.SL.Sem

variable (x0 : Vec Ideal S512x1024 .f32) (x1 : Vec Ideal S1x1x1024 .f32) (x2 : Vec Ideal S1x1024x7168 .bf16)
variable (x3 x4 : Vec Ideal S512x128 .f32)

/-- Column `j` of row `i` of the block's projection. -/
def proj (i : Fin 512) (j : Fin 7168) : EReal :=
  inProj (fun b => x0 (ix2 i b)) (fun b => x1 (ix3 0 0 b)) (fun a e => x2 (ix3 0 a e)) j

theorem r27_idx (x : S512x512.Idx) : r0_27.idx x = x := by
  funext a; apply Fin.ext; fin_cases a <;> simp [Rect.idx_unit_val]

theorem at_ix2 {m n : ℕ} (x : (⟨2, ![m, n]⟩ : Shape).Idx) : ∃ (i : Fin m) (l : Fin n), x = ix2 i l := ⟨x 0, x 1, eq_ix2 x⟩
theorem at_ix3 (x : S1x128x512.Idx) : ∃ (l : Fin 128) (i : Fin 512), x = ix3 0 l i :=
  ⟨x 1, x 2, (eq_ix3 x).trans (by rw [show x 0 = (0 : Fin 1) from Subsingleton.elim (α := Fin 1) _ _])⟩

theorem ld_x : View.ld x0 r0_0 = x0 := by
  funext y; refine congrArg x0 ?_; funext a; apply Fin.ext; fin_cases a <;> simp [Rect.idx_unit_val]
theorem ld_g : View.ld x1 r0_1 = x1 := by
  funext y; refine congrArg x1 ?_; funext a; apply Fin.ext; fin_cases a <;> simp [Rect.idx_unit_val]
theorem ld_t : View.ld x3 r0_2 = x3 := by
  funext y; refine congrArg x3 ?_; funext a; apply Fin.ext; fin_cases a <;> simp [Rect.idx_unit_val]

theorem pay4_eq : k0_pay4 (F := Ideal) x3 = x3 := by
  funext y; obtain ⟨i, l, rfl⟩ := at_ix2 y; pointwise [k0_pay4]
theorem pay5_eq : k0_pay5 (F := Ideal) x3 = x3 := by
  funext y; obtain ⟨i, l, rfl⟩ := at_ix2 y; pointwise [k0_pay5]

/-- The product with the 512 columns from column `o` on. -/
theorem mm_cols (o : ℕ) (ho : o + 512 ≤ 7168) (inb) (i e : Fin 512) :
    mm (k0_pay3 (F := Ideal) x0 x1) (View.ld x2 (Rect.unit (s := S1x1024x7168) ![0, 0, o] S1x1024x512.size inb)) i e
      = proj x0 x1 x2 i ⟨o + e.val, by omega⟩ := by
  rw [mm, proj, inProj]
  refine Finset.sum_congr rfl fun a _ => ?_
  rw [normed_apply]
  refine congrArg (rowNorm _ _ a * ·) (congrArg x2 ?_)
  funext b; apply Fin.ext; fin_cases b <;> simp [Rect.idx_unit_val]

theorem out7_apply (i e : Fin 512) : out0_7 (F := Ideal) x0 x1 x2 x3 x4 (ix2 i e) = proj x0 x1 x2 i ⟨1024 + e.val, by omega⟩ := by
  rw [out0_7, k0_pay36, ld_x, ld_g]
  refine (View.canon_apply_of_pieces (Val := Elt Ideal) (k0_pay1 (F := Ideal) (k0_pay3 x0 x1) (View.ld x2 r0_30)) _ ?_ _ (cover0_7 _ _)).trans ?_
  · intro p hp x
    obtain rfl := List.mem_singleton.mp hp
    exact congrArg _ (r27_idx x).symm
  · rw [pay1_apply, mm_cols x0 x1 x2 1024 (by omega)]

theorem out8_apply (i e : Fin 512) : out0_8 (F := Ideal) x0 x1 x2 x3 x4 (ix2 i e) = proj x0 x1 x2 i ⟨1536 + e.val, by omega⟩ * sigmoid (proj x0 x1 x2 i ⟨2048 + e.val, by omega⟩) := by
  rw [out0_8, k0_pay36, ld_x, ld_g]
  refine (View.canon_apply_of_pieces (Val := Elt Ideal) (k0_pay29 (F := Ideal) (k0_pay3 x0 x1) (View.ld x2 r0_25) (View.ld x2 r0_26)) _ ?_ _ (cover0_8 _ _)).trans ?_
  · intro p hp x
    obtain rfl := List.mem_singleton.mp hp
    exact congrArg _ (r27_idx x).symm
  · rw [pay29_apply, mm_cols x0 x1 x2 1536 (by omega), mm_cols x0 x1 x2 2048 (by omega)]

theorem out9_apply (i e : Fin 512) : out0_9 (F := Ideal) x0 x1 x2 x3 x4 (ix2 i e) = proj x0 x1 x2 i ⟨2560 + e.val, by omega⟩ * qscale := by
  rw [out0_9, k0_pay36, ld_x, ld_g]
  refine (View.canon_apply_of_pieces (Val := Elt Ideal) (k0_pay35 (F := Ideal) (k0_pay3 x0 x1) (View.ld x2 r0_29)) _ ?_ _ (cover0_9 _ _)).trans ?_
  · intro p hp x
    obtain rfl := List.mem_singleton.mp hp
    exact congrArg _ (r27_idx x).symm
  · rw [pay35_apply, mm_cols x0 x1 x2 2560 (by omega)]

theorem out11_apply (i e : Fin 512) : out0_11 (F := Ideal) x0 x1 x2 x3 x4 (ix2 i e) = proj x0 x1 x2 i ⟨3584 + e.val, by omega⟩ := by
  rw [out0_11, k0_pay36, ld_x, ld_g]
  refine (View.canon_apply_of_pieces (Val := Elt Ideal) (k0_pay2 (F := Ideal) (k0_pay3 x0 x1) (View.ld x2 r0_31)) _ ?_ _ (cover0_11 _ _)).trans ?_
  · intro p hp x
    obtain rfl := List.mem_singleton.mp hp
    exact congrArg _ (r27_idx x).symm
  · rw [pay2_apply, mm_cols x0 x1 x2 3584 (by omega)]

/-- The queries before the rotation. -/
abbrev qs (i e : Fin 512) : EReal := proj x0 x1 x2 i ⟨0 + e.val, by omega⟩
/-- The keys before the rotation. -/
abbrev ks (i e : Fin 512) : EReal := proj x0 x1 x2 i ⟨512 + e.val, by omega⟩

theorem lane_eq (o : ℕ) (e : Fin 512) (l : Fin 128) (he : e.val = o + l.val) (ho : o % 128 = 0) : (⟨e.val % 128, Nat.mod_lt _ (by decide)⟩ : Fin 128) = l :=
  Fin.ext (by show e.val % 128 = l.val; omega)

theorem rect2_idx (o : ℕ) (inb) (i : Fin 512) (l : Fin 128) (ho : o + 128 ≤ 512) :
    (Rect.unit (s := S512x512) ![0, o] S512x128.size inb).idx (ix2 i l) = ix2 i ⟨o + l.val, by omega⟩ := by
  funext a; apply Fin.ext; fin_cases a <;> simp [Rect.idx_unit_val]
theorem rect3_idx (o : ℕ) (inb) (i : Fin 512) (l : Fin 128) (ho : o + 128 ≤ 512) :
    (Rect.unit (s := S1x512x512) ![0, o, 0] S1x128x512.size inb).idx (ix3 0 l i) = ix3 0 ⟨o + l.val, by omega⟩ i := by
  funext a; apply Fin.ext; fin_cases a <;> simp [Rect.idx_unit_val]
theorem rect12_idx (o : ℕ) (inb) (i e : Fin 512) (ho : o + 512 ≤ 3072) :
    (Rect.unit (s := S512x3072) ![0, o] S512x512.size inb).idx (ix2 i e) = ix2 i ⟨o + e.val, by omega⟩ := by
  funext a; apply Fin.ext; fin_cases a <;> simp [Rect.idx_unit_val]

/-- The rotated queries. -/
def e5 (y : S512x512.Idx) : EReal :=
  turn (qs x0 x1 x2 (y 0)) (y 1) (x3 (ix2 (y 0) ⟨(y 1).val % 128, Nat.mod_lt _ (by decide)⟩)) (x4 (ix2 (y 0) ⟨(y 1).val % 128, Nat.mod_lt _ (by decide)⟩)) * qscale
/-- The rotated keys, transposed. -/
def e6 (y : S1x512x512.Idx) : EReal :=
  turn (ks x0 x1 x2 (y 2)) (y 1) (x3 (ix2 (y 2) ⟨(y 1).val % 128, Nat.mod_lt _ (by decide)⟩)) (x4 (ix2 (y 2) ⟨(y 1).val % 128, Nat.mod_lt _ (by decide)⟩))
/-- The third branch's keys, transposed. -/
def e10 (y : S1x512x512.Idx) : EReal := proj x0 x1 x2 (y 2) ⟨3072 + (y 1).val, by have : (y 1).val < 512 := (y 1).isLt; omega⟩
/-- The gates. -/
def e12 (y : S512x3072.Idx) : EReal := sigmoid (proj x0 x1 x2 (y 0) ⟨4096 + (y 1).val, by have : (y 1).val < 3072 := (y 1).isLt; omega⟩)

theorem e5_at (o : ℕ) (ho : o % 128 = 0) (h' : o + 128 ≤ 512) (i : Fin 512) (l : Fin 128) : e5 x0 x1 x2 x3 x4 (ix2 i ⟨o + l.val, by omega⟩)
    = turn (qs x0 x1 x2 i) ⟨o + l.val, by omega⟩ (x3 (ix2 i l)) (x4 (ix2 i l)) * qscale := by
  have := lane_eq o ⟨o + l.val, by omega⟩ l rfl ho
  show turn _ _ (x3 (ix2 i ⟨(o + l.val) % 128, _⟩)) (x4 (ix2 i ⟨(o + l.val) % 128, _⟩)) * qscale = _
  rw [this]; rfl
theorem e6_at (o : ℕ) (ho : o % 128 = 0) (h' : o + 128 ≤ 512) (i : Fin 512) (l : Fin 128) : e6 x0 x1 x2 x3 x4 (ix3 0 ⟨o + l.val, by omega⟩ i)
    = turn (ks x0 x1 x2 i) ⟨o + l.val, by omega⟩ (x3 (ix2 i l)) (x4 (ix2 i l)) := by
  have := lane_eq o ⟨o + l.val, by omega⟩ l rfl ho
  show turn _ _ (x3 (ix2 i ⟨(o + l.val) % 128, _⟩)) (x4 (ix2 i ⟨(o + l.val) % 128, _⟩)) = _
  rw [this]; rfl

theorem qs_eq : (fun i e => k0_pay15 (F := Ideal) (k0_pay3 x0 x1) (View.ld x2 r0_15) (ix2 i e)) = qs x0 x1 x2 := by
  funext i e; rw [pay15_apply, mm_cols x0 x1 x2 0 (by omega)]
theorem ks_eq : (fun i e => k0_pay16 (F := Ideal) (k0_pay3 x0 x1) (View.ld x2 r0_16) (ix2 i e)) = ks x0 x1 x2 := by
  funext i e; rw [pay16_apply, mm_cols x0 x1 x2 512 (by omega)]

theorem out5_eq (y : S512x512.Idx) : out0_5 (F := Ideal) x0 x1 x2 x3 x4 y = e5 x0 x1 x2 x3 x4 y := by
  rw [out0_5, k0_pay40, k0_pay39, k0_pay38, k0_pay37, k0_pay36, ld_x, ld_g, ld_t, ld_t, pay4_eq, pay5_eq]
  refine View.canon_apply_of_pieces (Val := Elt Ideal) (e5 x0 x1 x2 x3 x4) _ ?_ _ (cover0_5 _ _ _ _ _)
  have hq := qs_eq x0 x1 x2
  intro p hp x
  simp only [List.mem_cons, List.not_mem_nil, or_false] at hp
  rcases hp with rfl | rfl | rfl | rfl <;> obtain ⟨i, l, rfl⟩ := at_ix2 x
  · exact (pay27_apply _ _ _ i l).trans ((congrArg (fun f => turn f _ _ _ * qscale) (congrFun hq i)).trans ((e5_at x0 x1 x2 x3 x4 384 rfl (by omega) i l).symm.trans (congrArg (e5 x0 x1 x2 x3 x4) (rect2_idx 384 inb_S512x512_S512x128_0_384 i l (by omega)).symm)))
  · exact (pay22_apply _ _ _ i l).trans ((congrArg (fun f => turn f _ _ _ * qscale) (congrFun hq i)).trans ((e5_at x0 x1 x2 x3 x4 256 rfl (by omega) i l).symm.trans (congrArg (e5 x0 x1 x2 x3 x4) (rect2_idx 256 inb_S512x512_S512x128_0_256 i l (by omega)).symm)))
  · exact (pay19_apply _ _ _ i l).trans ((congrArg (fun f => turn f _ _ _ * qscale) (congrFun hq i)).trans ((e5_at x0 x1 x2 x3 x4 128 rfl (by omega) i l).symm.trans (congrArg (e5 x0 x1 x2 x3 x4) (rect2_idx 128 inb_S512x512_S512x128_0_128 i l (by omega)).symm)))
  · exact (pay17_apply _ _ _ i l).trans ((congrArg (fun f => turn f _ _ _ * qscale) (congrFun hq i)).trans ((e5_at x0 x1 x2 x3 x4 0 rfl (by omega) i l).symm.trans (congrArg (e5 x0 x1 x2 x3 x4) (rect2_idx 0 inb_S512x512_S512x128_0_0 i l (by omega)).symm)))

theorem out6_eq (y : S1x512x512.Idx) : out0_6 (F := Ideal) x0 x1 x2 x3 x4 y = e6 x0 x1 x2 x3 x4 y := by
  rw [out0_6, k0_pay41, k0_pay39, k0_pay38, k0_pay37, k0_pay36, ld_x, ld_g, ld_t, ld_t, pay4_eq, pay5_eq]
  refine View.canon_apply_of_pieces (Val := Elt Ideal) (e6 x0 x1 x2 x3 x4) _ ?_ _ (cover0_6 _ _ _ _ _)
  have hq := ks_eq x0 x1 x2
  intro p hp x
  simp only [List.mem_cons, List.not_mem_nil, or_false] at hp
  rcases hp with rfl | rfl | rfl | rfl <;> obtain ⟨l, i, rfl⟩ := at_ix3 x
  · exact (pay28_apply _ _ _ i l).trans ((congrArg (fun f => turn f _ _ _) (congrFun hq i)).trans ((e6_at x0 x1 x2 x3 x4 384 rfl (by omega) i l).symm.trans (congrArg (e6 x0 x1 x2 x3 x4) (rect3_idx 384 inb_S1x512x512_S1x128x512_0_384_0 i l (by omega)).symm)))
  · exact (pay23_apply _ _ _ i l).trans ((congrArg (fun f => turn f _ _ _) (congrFun hq i)).trans ((e6_at x0 x1 x2 x3 x4 256 rfl (by omega) i l).symm.trans (congrArg (e6 x0 x1 x2 x3 x4) (rect3_idx 256 inb_S1x512x512_S1x128x512_0_256_0 i l (by omega)).symm)))
  · exact (pay21_apply _ _ _ _ i l).trans ((congrArg (fun f => turn f _ _ _) (congrFun hq i)).trans ((e6_at x0 x1 x2 x3 x4 128 rfl (by omega) i l).symm.trans (congrArg (e6 x0 x1 x2 x3 x4) (rect3_idx 128 inb_S1x512x512_S1x128x512_0_128_0 i l (by omega)).symm)))
  · exact (pay18_apply _ _ _ _ i l).trans ((congrArg (fun f => turn f _ _ _) (congrFun hq i)).trans ((e6_at x0 x1 x2 x3 x4 0 rfl (by omega) i l).symm.trans (congrArg (e6 x0 x1 x2 x3 x4) (rect3_idx 0 inb_S1x512x512_S1x128x512_0_0_0 i l (by omega)).symm)))

theorem e10_at (o : ℕ) (h' : o + 128 ≤ 512) (i : Fin 512) (l : Fin 128) :
    proj x0 x1 x2 i ⟨3072 + (⟨o + l.val, by omega⟩ : Fin 512).val, by simp only; omega⟩ = e10 x0 x1 x2 (ix3 0 ⟨o + l.val, by omega⟩ i) := rfl

theorem out10_eq (y : S1x512x512.Idx) : out0_10 (F := Ideal) x0 x1 x2 x3 x4 y = e10 x0 x1 x2 y := by
  rw [out0_10, k0_pay36, ld_x, ld_g]
  refine View.canon_apply_of_pieces (Val := Elt Ideal) (e10 x0 x1 x2) _ ?_ _ (cover0_10 _ _ _ _ _)
  intro p hp x
  simp only [List.mem_cons, List.not_mem_nil, or_false] at hp
  rcases hp with rfl | rfl | rfl | rfl <;> obtain ⟨l, i, rfl⟩ := at_ix3 x
  · exact (pay34_apply _ _ i l).trans ((mm_cols x0 x1 x2 3072 (by omega) _ i _).trans ((e10_at x0 x1 x2 384 (by omega) i l).trans (congrArg (e10 x0 x1 x2) (rect3_idx 384 inb_S1x512x512_S1x128x512_0_384_0 i l (by omega)).symm)))
  · exact (pay33_apply _ _ i l).trans ((mm_cols x0 x1 x2 3072 (by omega) _ i _).trans ((e10_at x0 x1 x2 256 (by omega) i l).trans (congrArg (e10 x0 x1 x2) (rect3_idx 256 inb_S1x512x512_S1x128x512_0_256_0 i l (by omega)).symm)))
  · exact (pay32_apply _ _ i l).trans ((mm_cols x0 x1 x2 3072 (by omega) _ i _).trans ((e10_at x0 x1 x2 128 (by omega) i l).trans (congrArg (e10 x0 x1 x2) (rect3_idx 128 inb_S1x512x512_S1x128x512_0_128_0 i l (by omega)).symm)))
  · exact (pay31_apply _ _ i l).trans ((mm_cols x0 x1 x2 3072 (by omega) _ i _).trans ((e10_at x0 x1 x2 0 (by omega) i l).trans (congrArg (e10 x0 x1 x2) (rect3_idx 0 inb_S1x512x512_S1x128x512_0_0_0 i l (by omega)).symm)))

theorem e12_at (o : ℕ) (h' : o + 512 ≤ 3072) (o' : ℕ) (hh : o' = 4096 + o) (i e : Fin 512) :
    sigmoid (proj x0 x1 x2 i ⟨o' + e.val, by omega⟩) = e12 x0 x1 x2 (ix2 i ⟨o + e.val, by omega⟩) := by
  rw [e12]; refine congrArg sigmoid (congrArg (proj x0 x1 x2 i) (Fin.ext ?_)); show o' + e.val = 4096 + (o + e.val); omega

theorem out12_eq (y : S512x3072.Idx) : out0_12 (F := Ideal) x0 x1 x2 x3 x4 y = e12 x0 x1 x2 y := by
  rw [out0_12, k0_pay36, ld_x, ld_g, pay7_eq]
  refine View.canon_apply_of_pieces (Val := Elt Ideal) (e12 x0 x1 x2) _ ?_ _ (cover0_12 _ _ _ _ _ _ _)
  intro p hp x
  simp only [List.mem_cons, List.not_mem_nil, or_false] at hp
  rcases hp with rfl | rfl | rfl | rfl | rfl | rfl <;> obtain ⟨i, e, rfl⟩ := at_ix2 x
  · exact (pay14_apply _ _ i e).trans ((congrArg sigmoid (mm_cols x0 x1 x2 6656 (by omega) _ i e)).trans ((e12_at x0 x1 x2 2560 (by omega) 6656 rfl i e).trans (congrArg (e12 x0 x1 x2) (rect12_idx 2560 inb_S512x3072_S512x512_0_2560 i e (by omega)).symm)))
  · exact (pay13_apply _ _ i e).trans ((congrArg sigmoid (mm_cols x0 x1 x2 6144 (by omega) _ i e)).trans ((e12_at x0 x1 x2 2048 (by omega) 6144 rfl i e).trans (congrArg (e12 x0 x1 x2) (rect12_idx 2048 inb_S512x3072_S512x512_0_2048 i e (by omega)).symm)))
  · exact (pay12_apply _ _ i e).trans ((congrArg sigmoid (mm_cols x0 x1 x2 5632 (by omega) _ i e)).trans ((e12_at x0 x1 x2 1536 (by omega) 5632 rfl i e).trans (congrArg (e12 x0 x1 x2) (rect12_idx 1536 inb_S512x3072_S512x512_0_1536 i e (by omega)).symm)))
  · exact (pay9_apply _ _ i e).trans ((congrArg sigmoid (mm_cols x0 x1 x2 5120 (by omega) _ i e)).trans ((e12_at x0 x1 x2 1024 (by omega) 5120 rfl i e).trans (congrArg (e12 x0 x1 x2) (rect12_idx 1024 inb_S512x3072_S512x512_0_1024 i e (by omega)).symm)))
  · exact (pay8_apply _ _ i e).trans ((congrArg sigmoid (mm_cols x0 x1 x2 4608 (by omega) _ i e)).trans ((e12_at x0 x1 x2 512 (by omega) 4608 rfl i e).trans (congrArg (e12 x0 x1 x2) (rect12_idx 512 inb_S512x3072_S512x512_0_512 i e (by omega)).symm)))
  · exact (pay8_apply _ _ i e).trans ((congrArg sigmoid (mm_cols x0 x1 x2 4096 (by omega) _ i e)).trans ((e12_at x0 x1 x2 0 (by omega) 4096 rfl i e).trans (congrArg (e12 x0 x1 x2) (rect12_idx 0 inb_S512x3072_S512x512_0_0 i e (by omega)).symm)))

end Cert.Proj

end
-- ==== Proof.ProjReads.lean ====
/- Where each grid point's blocks of the projection lie in the arguments: point `t` is batch `t / 8` and rows
   `512 (t mod 8)` on. -/
module

public import proofs.«01_k».proof.Proof.ProjMath
public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.Proj

open Idealize.ShloMosaic.Pipeline Cert.Kernel3Ideal Cert.Kernel3Ideal.Gen Idealize.ShloMosaic Idealize.ShloMosaic.TcCoe Idealize.SL.Sem

variable (m : (ℓ : Loc nD τ sig) → Buf (Elt Ideal) ℓ) (c : Dev nD)

theorem t_lt (t : Fin cfg0.N) : t.val < 32 := t.isLt

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, ∀ a, win0_1.index t a = 0 := (by decide +kernel : ∀ t : Fin grid0.N, ∀ a, win0_1.index t a = 0)
theorem idx2 : ∀ t : Fin cfg0.N, ∀ a, win0_2.index t a = 0 := (by decide +kernel : ∀ t : Fin grid0.N, ∀ a, win0_2.index t a = 0)
theorem idx3 : ∀ t : Fin cfg0.N, win0_3.index t 0 = t.val % 8 ∧ win0_3.index t 1 = 0 :=
  (by decide +kernel : ∀ t : Fin grid0.N, win0_3.index t 0 = t.val % 8 ∧ win0_3.index t 1 = 0)
theorem idx4 : ∀ t : Fin cfg0.N, win0_4.index t 0 = t.val % 8 ∧ win0_4.index t 1 = 0 :=
  (by decide +kernel : ∀ t : Fin grid0.N, win0_4.index t 0 = t.val % 8 ∧ win0_4.index t 1 = 0)

theorem x_read (t : Fin cfg0.N) (i : Fin 512) (a : Fin 1024) :
    (iblk m c 0 t : Vec Ideal S512x1024 .f32) (ix2 i a)
      = m ((c : Thread nD τ).loc main_arg0) (ix3 ⟨t.val / 8, by have := t_lt t; omega⟩ ⟨t.val % 8 * 512 + i.val, by omega⟩ a) := by
  have e0 := idx0 t
  have := t_lt t
  blk_simp [iblk]; entry_read; pointwise; blk_ext [e0.1, e0.2]

theorem g_read (t : Fin cfg0.N) (a : Fin 1024) :
    (iblk m c 1 t : Vec Ideal S1x1x1024 .f32) (ix3 0 0 a) = m ((c : Thread nD τ).loc main_arg1) (ix2 0 a) := by
  blk_simp [iblk]; entry_read; pointwise; blk_ext [idx1 t]

theorem w_read (t : Fin cfg0.N) (a : Fin 1024) (j : Fin 7168) :
    (iblk m c 2 t : Vec Ideal S1x1024x7168 .bf16) (ix3 0 a j) = m ((c : Thread nD τ).loc main_arg2) (ix3 0 a j) := by
  blk_simp [iblk]; entry_read; pointwise; blk_ext [idx2 t]

theorem cos_read (t : Fin cfg0.N) (i : Fin 512) (l : Fin 128) :
    (iblk m c 3 t : Vec Ideal S512x128 .f32) (ix2 i l) = cosAt (t.val % 8 * 512 + i.val) l.val := by
  have e0 := idx3 t
  rw [cosAt, ang]
  blk_simp [iblk]; entry_read; pointwise; blk_simp [e0.1, e0.2]

theorem sin_read (t : Fin cfg0.N) (i : Fin 512) (l : Fin 128) :
    (iblk m c 4 t : Vec Ideal S512x128 .f32) (ix2 i l) = sinAt (t.val % 8 * 512 + i.val) l.val := by
  have e0 := idx4 t
  rw [sinAt, ang, ang]
  blk_simp [iblk]; entry_read; pointwise; blk_simp [e0.1, e0.2]
  exact dite_eq_ite

end Cert.Proj

end
-- ==== Proof.ProjArray.lean ====
/- The projection's eight result arrays. -/
module

public import proofs.«01_k».proof.Proof.ProjOut
public import proofs.«01_k».proof.Proof.ProjReads
public import proofs.«01_k».proof.Proof.Gen.Kernel3Ideal.Value

@[expose] public section

set_option maxRecDepth 16384

noncomputable section

namespace Cert.Proj

open Idealize.ShloMosaic.Pipeline Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The projection of every row, from the arguments. -/
def P (b : Fin 4) (s : Fin 4096) (j : Fin 7168) : EReal :=
  inProj (fun a => m ((c : Thread nD τ).loc main_arg0) (ix3 b s a)) (fun a => m ((c : Thread nD τ).loc main_arg1) (ix2 0 a))
    (fun a e => m ((c : Thread nD τ).loc main_arg2) (ix3 0 a e)) j

theorem proj_read (t : Fin cfg0.N) (i : Fin 512) :
    proj (iblk m c 0 t) (iblk m c 1 t) (iblk m c 2 t) i = P m c ⟨t.val / 8, by have := t_lt t; omega⟩ ⟨t.val % 8 * 512 + i.val, by omega⟩ := by
  funext j
  rw [proj, P]
  congr 1
  · funext a; exact x_read m c t i a
  · funext a; exact g_read m c t a
  · funext a e; exact w_read m c t a e

theorem row_read (t : Fin cfg0.N) (i : Fin 512) (r : Fin 16384) (hr : r.val = t.val * 512 + i.val) :
    proj (iblk m c 0 t) (iblk m c 1 t) (iblk m c 2 t) i = at' (P m c) r := by
  rw [proj_read, at']
  congr 1 <;> apply Fin.ext <;> simp only <;> omega

theorem col_read (t : Fin cfg0.N) (i : Fin 512) (b : Fin 4) (s : Fin 4096) (hb : b.val = t.val / 8) (hs : s.val = t.val % 8 * 512 + i.val) :
    proj (iblk m c 0 t) (iblk m c 1 t) (iblk m c 2 t) i = P m c b s := by
  rw [proj_read]
  congr 1 <;> apply Fin.ext <;> simp only <;> omega

theorem mod_cos (s e : ℕ) : cosAt s (e % 128) = cosAt s e := by rw [cosAt, cosAt, show e % 128 % 32 = e % 32 from by omega]
theorem mod_sin (s e : ℕ) : sinAt s (e % 128) = sinAt s e := by rw [sinAt, sinAt, show e % 128 % 64 = e % 64 from by omega]

theorem idx5 : ∀ t : Fin cfg0.N, win0_5.index t 0 = t.val ∧ win0_5.index t 1 = 0 :=
  (by decide +kernel : ∀ t : Fin grid0.N, win0_5.index t 0 = t.val ∧ win0_5.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx6 : ∀ t : Fin cfg0.N, win0_6.index t 0 = t.val / 8 ∧ win0_6.index t 1 = 0 ∧ win0_6.index t 2 = t.val % 8 :=
  (by decide +kernel : ∀ t : Fin grid0.N, win0_6.index t 0 = t.val / 8 ∧ win0_6.index t 1 = 0 ∧ win0_6.index t 2 = t.val % 8)
theorem idx10 : ∀ t : Fin cfg0.N, win0_10.index t 0 = t.val / 8 ∧ win0_10.index t 1 = 0 ∧ win0_10.index t 2 = t.val % 8 :=
  (by decide +kernel : ∀ t : Fin grid0.N, win0_10.index t 0 = t.val / 8 ∧ win0_10.index t 1 = 0 ∧ win0_10.index t 2 = t.val % 8)

theorem block5 (t : Fin cfg0.N) (y : S512x512.Idx) (r : Fin 16384) (e : Fin 512) (hr : r.val = t.val * 512 + (y 0).val) (he : e.val = (y 1).val) :
    out0_5 (F := Ideal) (iblk m c 0 t) (iblk m c 1 t) (iblk m c 2 t) (iblk m c 3 t) (iblk m c 4 t) y = queries (P m c) r e := by
  obtain rfl : e = y 1 := Fin.ext he
  have h := row_read m c t (y 0) r hr
  have hy : (y 0).val < 512 := (y 0).isLt
  have hs : t.val % 8 * 512 + (y 0).val = r.val % 4096 := by omega
  have hq : qs (iblk m c 0 t) (iblk m c 1 t) (iblk m c 2 t) (y 0) = fun e => at' (P m c) r ⟨0 + e.val, by omega⟩ := funext fun e => congrFun h _
  rw [out5_eq, e5, hq]
  have hc := cos_read m c t (y 0) ⟨(y 1).val % 128, Nat.mod_lt _ (by decide)⟩
  have hn := sin_read m c t (y 0) ⟨(y 1).val % 128, Nat.mod_lt _ (by decide)⟩
  rw [hs, mod_cos] at hc
  rw [hs, mod_sin] at hn
  rw [hc, hn]
  rfl

theorem array5 : (dats m 0 c).arrAt 5 cfg0.N = fun y : S16384x512.Idx => queries (P m c) (y 0) (y 1) := by
  refine (dats m 0 c).arrAt_eq_of_covers 5 _ (by decide +kernel) fun t hf y => ?_
  have e := idx5 t
  blk_simp
  rw [after0_5]
  refine block5 m c t y _ _ ?_ ?_
  · blk_simp [e.1]
  · blk_simp [e.2]

theorem block7 (t : Fin cfg0.N) (y : S512x512.Idx) (r : Fin 16384) (e : Fin 512) (hr : r.val = t.val * 512 + (y 0).val) (he : e.val = (y 1).val) :
    out0_7 (F := Ideal) (iblk m c 0 t) (iblk m c 1 t) (iblk m c 2 t) (iblk m c 3 t) (iblk m c 4 t) y = values (P m c) r e := by
  obtain rfl : e = y 1 := Fin.ext he
  have h := row_read m c t (y 0) r hr
  have hy : (y 0).val < 512 := (y 0).isLt
  have hs : t.val % 8 * 512 + (y 0).val = r.val % 4096 := by omega
  rw [eq_ix2 y]
  exact (out7_apply _ _ _ _ _ (y 0) (y 1)).trans (by rw [h]; rfl)

theorem array7 : (dats m 0 c).arrAt 7 cfg0.N = fun y : S16384x512.Idx => values (P m c) (y 0) (y 1) := by
  refine (dats m 0 c).arrAt_eq_of_covers 7 _ (by decide +kernel) fun t hf y => ?_
  have e := idx7 t
  blk_simp
  rw [after0_7]
  refine block7 m c t y _ _ ?_ ?_
  · blk_simp [e.1]
  · blk_simp [e.2]

theorem block8 (t : Fin cfg0.N) (y : S512x512.Idx) (r : Fin 16384) (e : Fin 512) (hr : r.val = t.val * 512 + (y 0).val) (he : e.val = (y 1).val) :
    out0_8 (F := Ideal) (iblk m c 0 t) (iblk m c 1 t) (iblk m c 2 t) (iblk m c 3 t) (iblk m c 4 t) y = gated (P m c) r e := by
  obtain rfl : e = y 1 := Fin.ext he
  have h := row_read m c t (y 0) r hr
  have hy : (y 0).val < 512 := (y 0).isLt
  have hs : t.val % 8 * 512 + (y 0).val = r.val % 4096 := by omega
  rw [eq_ix2 y]
  exact (out8_apply _ _ _ _ _ (y 0) (y 1)).trans (by rw [h]; rfl)

theorem array8 : (dats m 0 c).arrAt 8 cfg0.N = fun y : S16384x512.Idx => gated (P m c) (y 0) (y 1) := by
  refine (dats m 0 c).arrAt_eq_of_covers 8 _ (by decide +kernel) fun t hf y => ?_
  have e := idx8 t
  blk_simp
  rw [after0_8]
  refine block8 m c t y _ _ ?_ ?_
  · blk_simp [e.1]
  · blk_simp [e.2]

theorem block9 (t : Fin cfg0.N) (y : S512x512.Idx) (r : Fin 16384) (e : Fin 512) (hr : r.val = t.val * 512 + (y 0).val) (he : e.val = (y 1).val) :
    out0_9 (F := Ideal) (iblk m c 0 t) (iblk m c 1 t) (iblk m c 2 t) (iblk m c 3 t) (iblk m c 4 t) y = queries' (P m c) r e := by
  obtain rfl : e = y 1 := Fin.ext he
  have h := row_read m c t (y 0) r hr
  have hy : (y 0).val < 512 := (y 0).isLt
  have hs : t.val % 8 * 512 + (y 0).val = r.val % 4096 := by omega
  rw [eq_ix2 y]
  exact (out9_apply _ _ _ _ _ (y 0) (y 1)).trans (by rw [h]; rfl)

theorem array9 : (dats m 0 c).arrAt 9 cfg0.N = fun y : S16384x512.Idx => queries' (P m c) (y 0) (y 1) := by
  refine (dats m 0 c).arrAt_eq_of_covers 9 _ (by decide +kernel) fun t hf y => ?_
  have e := idx9 t
  blk_simp
  rw [after0_9]
  refine block9 m c t y _ _ ?_ ?_
  · blk_simp [e.1]
  · blk_simp [e.2]

theorem block11 (t : Fin cfg0.N) (y : S512x512.Idx) (r : Fin 16384) (e : Fin 512) (hr : r.val = t.val * 512 + (y 0).val) (he : e.val = (y 1).val) :
    out0_11 (F := Ideal) (iblk m c 0 t) (iblk m c 1 t) (iblk m c 2 t) (iblk m c 3 t) (iblk m c 4 t) y = values' (P m c) r e := by
  obtain rfl : e = y 1 := Fin.ext he
  have h := row_read m c t (y 0) r hr
  have hy : (y 0).val < 512 := (y 0).isLt
  have hs : t.val % 8 * 512 + (y 0).val = r.val % 4096 := by omega
  rw [eq_ix2 y]
  exact (out11_apply _ _ _ _ _ (y 0) (y 1)).trans (by rw [h]; rfl)

theorem array11 : (dats m 0 c).arrAt 11 cfg0.N = fun y : S16384x512.Idx => values' (P m c) (y 0) (y 1) := by
  refine (dats m 0 c).arrAt_eq_of_covers 11 _ (by decide +kernel) fun t hf y => ?_
  have e := idx11 t
  blk_simp
  rw [after0_11]
  refine block11 m c t y _ _ ?_ ?_
  · blk_simp [e.1]
  · blk_simp [e.2]

theorem block12 (t : Fin cfg0.N) (y : S512x3072.Idx) (r : Fin 16384) (e : Fin 3072) (hr : r.val = t.val * 512 + (y 0).val) (he : e.val = (y 1).val) :
    out0_12 (F := Ideal) (iblk m c 0 t) (iblk m c 1 t) (iblk m c 2 t) (iblk m c 3 t) (iblk m c 4 t) y = gates (P m c) r e := by
  obtain rfl : e = y 1 := Fin.ext he
  have h := row_read m c t (y 0) r hr
  have hy : (y 0).val < 512 := (y 0).isLt
  have hs : t.val % 8 * 512 + (y 0).val = r.val % 4096 := by omega
  rw [out12_eq, e12, h]
  rfl

theorem array12 : (dats m 0 c).arrAt 12 cfg0.N = fun y : S16384x3072.Idx => gates (P m c) (y 0) (y 1) := by
  refine (dats m 0 c).arrAt_eq_of_covers 12 _ (by decide +kernel) fun t hf y => ?_
  have e := idx12 t
  blk_simp
  rw [after0_12]
  refine block12 m c t y _ _ ?_ ?_
  · blk_simp [e.1]
  · blk_simp [e.2]

theorem block6 (t : Fin cfg0.N) (y : S1x512x512.Idx) (b : Fin 4) (e : Fin 512) (s : Fin 4096) (hb : b.val = t.val / 8) (he : e.val = (y 1).val)
    (hs : s.val = t.val % 8 * 512 + (y 2).val) :
    out0_6 (F := Ideal) (iblk m c 0 t) (iblk m c 1 t) (iblk m c 2 t) (iblk m c 3 t) (iblk m c 4 t) y = keys (P m c) b e s := by
  obtain rfl : e = y 1 := Fin.ext he
  have h := col_read m c t (y 2) b s hb hs
  have hq : ks (iblk m c 0 t) (iblk m c 1 t) (iblk m c 2 t) (y 2) = fun e => P m c b s ⟨512 + e.val, by omega⟩ := funext fun e => congrFun h _
  rw [out6_eq, e6, hq]
  have hc := cos_read m c t (y 2) ⟨(y 1).val % 128, Nat.mod_lt _ (by decide)⟩
  have hn := sin_read m c t (y 2) ⟨(y 1).val % 128, Nat.mod_lt _ (by decide)⟩
  rw [← hs, mod_cos] at hc
  rw [← hs, mod_sin] at hn
  rw [hc, hn]
  rfl

theorem array6 : (dats m 0 c).arrAt 6 cfg0.N = fun y : S4x512x4096.Idx => keys (P m c) (y 0) (y 1) (y 2) := by
  refine (dats m 0 c).arrAt_eq_of_covers 6 _ (by decide +kernel) fun t hf y => ?_
  have e := idx6 t
  have y0 : (y 0).val < 1 := (y 0).isLt
  blk_simp
  rw [after0_6]
  refine block6 m c t y _ _ _ ?_ ?_ ?_
  · blk_simp [e.1]
  · blk_simp [e.2.1]
  · blk_simp [e.2.2]

theorem block10 (t : Fin cfg0.N) (y : S1x512x512.Idx) (b : Fin 4) (e : Fin 512) (s : Fin 4096) (hb : b.val = t.val / 8) (he : e.val = (y 1).val)
    (hs : s.val = t.val % 8 * 512 + (y 2).val) :
    out0_10 (F := Ideal) (iblk m c 0 t) (iblk m c 1 t) (iblk m c 2 t) (iblk m c 3 t) (iblk m c 4 t) y = keys' (P m c) b e s := by
  obtain rfl : e = y 1 := Fin.ext he
  have h := col_read m c t (y 2) b s hb hs
  rw [out10_eq, e10, h]
  rfl

theorem array10 : (dats m 0 c).arrAt 10 cfg0.N = fun y : S4x512x4096.Idx => keys' (P m c) (y 0) (y 1) (y 2) := by
  refine (dats m 0 c).arrAt_eq_of_covers 10 _ (by decide +kernel) fun t hf y => ?_
  have e := idx10 t
  have y0 : (y 0).val < 1 := (y 0).isLt
  blk_simp
  rw [after0_10]
  refine block10 m c t y _ _ _ ?_ ?_ ?_
  · blk_simp [e.1]
  · blk_simp [e.2.1]
  · blk_simp [e.2.2]

end Cert.Proj

end
-- ==== Proof.ProjRef.lean ====
/- The reference's projection, entry by entry. -/
module

public import proofs.«01_k».proof.Proof.ProjMath
public import proofs.«01_k».proof.Proof.Gen.Reference3Ideal.Run
public import Idealize.ShloMosaic.Lib.Pointwise

@[expose] public section

set_option maxRecDepth 16384

noncomputable section

namespace Cert.Proj.Ref

open Cert.Reference3Ideal Cert.Reference3Ideal.Gen Idealize.ShloMosaic Idealize.ShloMosaic.TcCoe Idealize.SL.Sem

variable (X : FVec Ideal S4x4096x1024 .f32) (G : FVec Ideal S2x1024 .f32) (W : FVec Ideal S2x1024x7168 .f32)

/-- The projection of every row. -/
def all : FVec Ideal S4x4096x7168 .f32 :=
  Host.dotGeneral dot_S4x4096x1024_S1024x7168_S4x4096x7168_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ (extractStridedSlice S1x1024 ![0, 0] G slices_S2x1024_S1x1024_0_0) shapeCasts_S1x1024_S1024)))) (shapeCast _ (extractStridedSlice S1x1024x7168 ![0, 0, 0] W slices_S2x1024x7168_S1x1024x7168_0_0_0) shapeCasts_S1x1024x7168_S1024x7168)

theorem all_apply (b : Fin 4) (s : Fin 4096) (j : Fin 7168) : all X G W (ix3 b s j)
    = inProj (fun a => X (ix3 b s a)) (fun a => G (ix2 0 a)) (fun a e => W (ix3 0 a e)) j := by
  pointwise [all, inProj, rowNorm]

/-- The half table of angles. -/
def half : FVec Ideal S4096x32 .f32 := mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

theorem half_apply (s : Fin 4096) (k : Fin 32) : half (ix2 s k) = ang s.val k.val := by
  pointwise [half, ang]

/-- The whole table: the half table twice. -/
def whole (H : FVec Ideal S4096x32 .f32) : FVec Ideal S4096x64 .f32 := concatenate S4096x64 1 [⟨S4096x32, H⟩, ⟨S4096x32, H⟩] concatenates_S4096x32_S4096x32_S4096x64_d1

theorem whole_apply (H : FVec Ideal S4096x32 .f32) (s : Fin 4096) (d : Fin 64) : whole H (ix2 s d) = H (ix2 s ⟨d.val % 32, by omega⟩) := by
  pointwise [whole]
  by_cases h : d.val < 32
  · rw [dif_pos h]; refine congrArg H (congrArg (ix2 s) (Fin.ext ?_)); show d.val = d.val % 32; omega
  · rw [dif_neg h]; refine congrArg H (congrArg (ix2 s) (Fin.ext ?_)); show d.val - 32 = d.val % 32; omega

/-- Heads before positions. -/
def heads (T : FVec Ideal S4x4096x512 .f32) : FVec Ideal S4x4x2x4096x64 .f32 :=
  transpose S4x4x2x4096x64 [0, 2, 3, 1, 4] (shapeCast _ T shapeCasts_S4x4096x512_S4x4096x4x2x64) transposes_S4x4096x4x2x64_S4x4x2x4096x64_0_2_3_1_4

theorem heads_apply (T : FVec Ideal S4x4096x512 .f32) (b : Fin 4) (h : Fin 4) (z : Fin 2) (s : Fin 4096) (d : Fin 64) :
    heads T (ix5 b h z s d) = T (ix3 b s ⟨h.val * 128 + z.val * 64 + d.val, by omega⟩) := by
  pointwise [heads]

/-- The rotation of every head, and the heads' columns side by side again. -/
def rot (U : FVec Ideal S4x4x2x4096x64 .f32) (C S : FVec Ideal S4096x64 .f32) : FVec Ideal S4x4096x512 .f32 :=
  shapeCast _ (transpose S4x4096x4x2x64 [0, 3, 1, 2, 4] (addf (mulf U (broadcastInDim S4x4x2x4096x64 ![0, 1, 2, 3, 4] bcast_S1x1x1x4096x64_S4x4x2x4096x64_0_1_2_3_4 (broadcastInDim S1x1x1x4096x64 ![3, 4] bcast_S4096x64_S1x1x1x4096x64_3_4 C))) (mulf (concatenate S4x4x2x4096x64 4 [⟨S4x4x2x4096x32, (Host.negf (extractStridedSlice S4x4x2x4096x32 ![0, 0, 0, 0, 32] U slices_S4x4x2x4096x64_S4x4x2x4096x32_0_0_0_0_32))⟩, ⟨S4x4x2x4096x32, (extractStridedSlice S4x4x2x4096x32 ![0, 0, 0, 0, 0] U slices_S4x4x2x4096x64_S4x4x2x4096x32_0_0_0_0_0)⟩] concatenates_S4x4x2x4096x32_S4x4x2x4096x32_S4x4x2x4096x64_d4) (broadcastInDim S4x4x2x4096x64 ![0, 1, 2, 3, 4] bcast_S1x1x1x4096x64_S4x4x2x4096x64_0_1_2_3_4 (broadcastInDim S1x1x1x4096x64 ![3, 4] bcast_S4096x64_S1x1x1x4096x64_3_4 S)))) transposes_S4x4x2x4096x64_S4x4096x4x2x64_0_3_1_2_4) shapeCasts_S4x4096x4x2x64_S4x4096x512

theorem rot_apply (U : FVec Ideal S4x4x2x4096x64 .f32) (C S : FVec Ideal S4096x64 .f32) (b : Fin 4) (s : Fin 4096) (e : Fin 512) :
    rot U C S (ix3 b s e) = U (ix5 b ⟨e.val / 128, by omega⟩ ⟨e.val / 64 % 2, by omega⟩ s ⟨e.val % 64, by omega⟩) * C (ix2 s ⟨e.val % 64, by omega⟩)
      + (if h : e.val % 64 < 32 then -U (ix5 b ⟨e.val / 128, by omega⟩ ⟨e.val / 64 % 2, by omega⟩ s ⟨32 + e.val % 64, by omega⟩)
          else U (ix5 b ⟨e.val / 128, by omega⟩ ⟨e.val / 64 % 2, by omega⟩ s ⟨e.val % 64 - 32, by omega⟩)) * S (ix2 s ⟨e.val % 64, by omega⟩) := by
  pointwise [rot]

variable (A : FVec Ideal S4x4096x7168 .f32)

/-- The projection as a function of batch, position and column. -/
abbrev cols (b : Fin 4) (s : Fin 4096) (j : Fin 7168) : EReal := A (ix3 b s j)

theorem partner_lo (e : Fin 512) (h : e.val % 64 < 32) : (partner e).val = e.val / 128 * 128 + e.val / 64 % 2 * 64 + (32 + e.val % 64) := by
  rw [partner, dif_pos (by omega)]; show e.val + 32 = _; omega
theorem partner_hi (e : Fin 512) (h : ¬ e.val % 64 < 32) : (partner e).val = e.val / 128 * 128 + e.val / 64 % 2 * 64 + (e.val % 64 - 32) := by
  rw [partner, dif_neg (by omega)]; show e.val - 32 = _; omega

/-- Columns `o` on of the projection, rotated. -/
theorem rot_cols (o : ℕ) (ho : o + 512 ≤ 7168) (T : FVec Ideal S4x4096x512 .f32) (hT : ∀ b s (e : Fin 512), T (ix3 b s e) = A (ix3 b s ⟨o + e.val, by omega⟩))
    (b : Fin 4) (s : Fin 4096) (e : Fin 512) :
    rot (heads T) (Host.cos (whole half)) (Host.sin (whole half)) (ix3 b s e) = rotated (cols A b s) s.val o ho e := by
  rw [rot_apply]
  simp only [heads_apply, hT]
  rw [show (Host.cos (whole half) : FVec Ideal S4096x64 .f32) (ix2 s ⟨e.val % 64, by omega⟩) = Ideal.cos (ang s.val (e.val % 64 % 32)) from
      congrArg Ideal.cos ((whole_apply half s _).trans (half_apply s _)),
    show (Host.sin (whole half) : FVec Ideal S4096x64 .f32) (ix2 s ⟨e.val % 64, by omega⟩) = Ideal.sin (ang s.val (e.val % 64 % 32)) from
      congrArg Ideal.sin ((whole_apply half s _).trans (half_apply s _))]
  rw [← rotated_eq (cols A b s) s.val o ho e _ rfl]
  have h1 : (⟨o + (e.val / 128 * 128 + e.val / 64 % 2 * 64 + e.val % 64), by omega⟩ : Fin 7168) = ⟨o + e.val, by omega⟩ := Fin.ext (by show o + _ = o + _; omega)
  by_cases h : e.val % 64 < 32
  · have h2 := partner_lo e h
    rw [dif_pos h, if_pos h]
    simp only [h1, h2]
  · have h2 := partner_hi e h
    rw [dif_neg h, if_neg h]
    simp only [h1, h2]

theorem q_apply (b : Fin 4) (s : Fin 4096) (e : Fin 512) : (extractStridedSlice S4x4096x512 ![0, 0, 0] A slices_S4x4096x7168_S4x4096x512_0_0_0) (ix3 b s e) = A (ix3 b s ⟨0 + e.val, by omega⟩) := by
  pointwise
theorem k_apply (b : Fin 4) (s : Fin 4096) (e : Fin 512) : (extractStridedSlice S4x4096x512 ![0, 0, 512] A slices_S4x4096x7168_S4x4096x512_0_0_512) (ix3 b s e) = A (ix3 b s ⟨512 + e.val, by omega⟩) := by
  pointwise

theorem scaled_rows (T : FVec Ideal S4x4096x512 .f32) (r : Fin 16384) (e : Fin 512) :
    (truncf .bf16 (shapeCast S16384x512 (mulf T (broadcastInDim S4x4096x512 ![] bcast_S_S4x4096x512 (constant S_ .f32 0x3E38AA3B#32))) shapeCasts_S4x4096x512_S16384x512) bitsLt_bf16_f32 : FVec Ideal S16384x512 .bf16) (ix2 r e)
      = T (ix3 ⟨r.val / 4096, by omega⟩ ⟨r.val % 4096, by omega⟩ e) * qscale := by
  pointwise
theorem turned (T : FVec Ideal S4x4096x512 .f32) (b : Fin 4) (e : Fin 512) (s : Fin 4096) :
    (truncf .bf16 (transpose S4x512x4096 [0, 2, 1] T transposes_S4x4096x512_S4x512x4096_0_2_1) bitsLt_bf16_f32 : FVec Ideal S4x512x4096 .bf16) (ix3 b e s) = T (ix3 b s e) := by
  pointwise

theorem res0 (r : Fin 16384) (e : Fin 512) : (truncf .bf16 (shapeCast S16384x512 (mulf (rot (heads (extractStridedSlice S4x4096x512 ![0, 0, 0] A slices_S4x4096x7168_S4x4096x512_0_0_0)) (Host.cos (whole half)) (Host.sin (whole half))) (broadcastInDim S4x4096x512 ![] bcast_S_S4x4096x512 (constant S_ .f32 0x3E38AA3B#32))) shapeCasts_S4x4096x512_S16384x512) bitsLt_bf16_f32 : FVec Ideal S16384x512 .bf16) (ix2 r e) = queries (cols A) r e := by
  rw [scaled_rows, rot_cols A 0 (by omega) _ (q_apply A), queries]
theorem res1 (b : Fin 4) (e : Fin 512) (s : Fin 4096) : (truncf .bf16 (transpose S4x512x4096 [0, 2, 1] (rot (heads (extractStridedSlice S4x4096x512 ![0, 0, 512] A slices_S4x4096x7168_S4x4096x512_0_0_512)) (Host.cos (whole half)) (Host.sin (whole half))) transposes_S4x4096x512_S4x512x4096_0_2_1) bitsLt_bf16_f32 : FVec Ideal S4x512x4096 .bf16) (ix3 b e s) = keys (cols A) b e s := by
  rw [turned, rot_cols A 512 (by omega) _ (k_apply A), keys]
theorem res2 (r : Fin 16384) (e : Fin 512) : (truncf .bf16 (shapeCast S16384x512 (extractStridedSlice S4x4096x512 ![0, 0, 1024] A slices_S4x4096x7168_S4x4096x512_0_0_1024) shapeCasts_S4x4096x512_S16384x512) bitsLt_bf16_f32 : FVec Ideal S16384x512 .bf16) (ix2 r e) = values (cols A) r e := by
  pointwise [values]
theorem res3 (r : Fin 16384) (e : Fin 512) : (shapeCast S16384x512 (mulf (extractStridedSlice S4x4096x512 ![0, 0, 0] (extractStridedSlice S4x4096x1024 ![0, 0, 1536] A slices_S4x4096x7168_S4x4096x1024_0_0_1536) slices_S4x4096x1024_S4x4096x512_0_0_0) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (extractStridedSlice S4x4096x512 ![0, 0, 512] (extractStridedSlice S4x4096x1024 ![0, 0, 1536] A slices_S4x4096x7168_S4x4096x1024_0_0_1536) slices_S4x4096x1024_S4x4096x512_0_0_512)))))) shapeCasts_S4x4096x512_S16384x512 : FVec Ideal S16384x512 .f32) (ix2 r e) = gated (cols A) r e := by
  have h : (⟨1536 + (512 + e.val), by omega⟩ : Fin 7168) = ⟨2048 + e.val, by omega⟩ := Fin.ext (by show 1536 + (512 + e.val) = 2048 + e.val; omega)
  pointwise [gated, sigmoid]
  rw [h]
theorem res4 (r : Fin 16384) (e : Fin 512) : (truncf .bf16 (shapeCast S16384x512 (mulf (extractStridedSlice S4x4096x512 ![0, 0, 2560] A slices_S4x4096x7168_S4x4096x512_0_0_2560) (broadcastInDim S4x4096x512 ![] bcast_S_S4x4096x512 (constant S_ .f32 0x3E38AA3B#32))) shapeCasts_S4x4096x512_S16384x512) bitsLt_bf16_f32 : FVec Ideal S16384x512 .bf16) (ix2 r e) = queries' (cols A) r e := by
  pointwise [queries']
theorem res5 (b : Fin 4) (e : Fin 512) (s : Fin 4096) : (truncf .bf16 (transpose S4x512x4096 [0, 2, 1] (extractStridedSlice S4x4096x512 ![0, 0, 3072] A slices_S4x4096x7168_S4x4096x512_0_0_3072) transposes_S4x4096x512_S4x512x4096_0_2_1) bitsLt_bf16_f32 : FVec Ideal S4x512x4096 .bf16) (ix3 b e s) = keys' (cols A) b e s := by
  pointwise [keys']
theorem res6 (r : Fin 16384) (e : Fin 512) : (truncf .bf16 (shapeCast S16384x512 (extractStridedSlice S4x4096x512 ![0, 0, 3584] A slices_S4x4096x7168_S4x4096x512_0_0_3584) shapeCasts_S4x4096x512_S16384x512) bitsLt_bf16_f32 : FVec Ideal S16384x512 .bf16) (ix2 r e) = values' (cols A) r e := by
  pointwise [values']
theorem res7 (r : Fin 16384) (e : Fin 3072) : (truncf .bf16 (shapeCast S16384x3072 (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf (extractStridedSlice S4x4096x3072 ![0, 0, 4096] A slices_S4x4096x7168_S4x4096x3072_0_0_4096))))) shapeCasts_S4x4096x3072_S16384x3072) bitsLt_bf16_f32 : FVec Ideal S16384x3072 .bf16) (ix2 r e) = gates (cols A) r e := by
  pointwise [gates, sigmoid]

end Cert.Proj.Ref

end
-- ==== Proof.ProjEqual.lean ====
/- The projection's kernel and reference leave the same eight arrays. -/
module

public import proofs.«01_k».proof.Defs
public import proofs.«01_k».proof.Proof.ProjArray
public import proofs.«01_k».proof.Proof.ProjRef
public import Idealize.ShloMosaic.Adequacy
public import Idealize.ShloMosaic.Init

@[expose] public section

set_option maxRecDepth 16384

noncomputable section

namespace Cert.Proj

open Idealize.ShloMosaic Idealize.SL.Sem

/-- An array of rows is known by its entries. -/
theorem rows_ext {n0 n1 : ℕ} (u v : (⟨2, ![n0, n1]⟩ : Shape).Idx → EReal) (h : ∀ (i : Fin n0) (j : Fin n1), u (ix2 i j) = v (ix2 i j)) : u = v := by
  funext y; rw [eq_ix2 y]; exact h _ _
/-- An array of batches is known by its entries. -/
theorem batches_ext {n0 n1 n2 : ℕ} (u v : (⟨3, ![n0, n1, n2]⟩ : Shape).Idx → EReal)
    (h : ∀ (i : Fin n0) (j : Fin n1) (k : Fin n2), u (ix3 i j k) = v (ix3 i j k)) : u = v := by
  funext y; rw [eq_ix3 y]; exact h _ _ _

/-- The kernel and the reference of the projection leave the same arrays when their arguments agree. -/
theorem same : Cert.algebraic_Kernel3Ideal_Reference3Ideal (hKernel3Ideal := Cert.Kernel3Ideal.Gen.facts)
    (hReference3Ideal := Cert.Reference3Ideal.Gen.facts) := by
  intro m g m' g' hpre hagree
  refine ⟨_, _, _, _, _, _, _, _, Cert.Kernel3Ideal.Value.run_blocks m g, ?_⟩
  refine (θ_run _ _ _).mono (fun r h c => ?_) (Cert.Reference3Ideal.Value.run m' g')
  obtain ⟨e0, e1, e2⟩ := hagree c
  obtain ⟨h0, h1, h2, h3, h4, h5, h6, h7, hk⟩ := h c
  have hP : Ref.cols (Ref.all (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))) = P m c := by
    rw [e0, e1, e2]
    funext b s j
    exact Ref.all_apply _ _ _ b s j
  refine ⟨h0.trans ?_, h1.trans ?_, h2.trans ?_, h3.trans ?_, h4.trans ?_, h5.trans ?_, h6.trans ?_, h7.trans ?_, hk⟩
  · rw [array5]
    refine rows_ext _ _ fun r e => ?_
    exact (Ref.res0 _ r e).trans (congrArg (fun p => queries p r e) hP)
  · rw [array6]
    refine batches_ext _ _ fun b e s => ?_
    exact (Ref.res1 _ b e s).trans (congrArg (fun p => keys p b e s) hP)
  · rw [array7]
    refine rows_ext _ _ fun r e => ?_
    exact (Ref.res2 _ r e).trans (congrArg (fun p => values p r e) hP)
  · rw [array8]
    refine rows_ext _ _ fun r e => ?_
    exact (Ref.res3 _ r e).trans (congrArg (fun p => gated p r e) hP)
  · rw [array9]
    refine rows_ext _ _ fun r e => ?_
    exact (Ref.res4 _ r e).trans (congrArg (fun p => queries' p r e) hP)
  · rw [array10]
    refine batches_ext _ _ fun b e s => ?_
    exact (Ref.res5 _ b e s).trans (congrArg (fun p => keys' p b e s) hP)
  · rw [array11]
    refine rows_ext _ _ fun r e => ?_
    exact (Ref.res6 _ r e).trans (congrArg (fun p => values' p r e) hP)
  · rw [array12]
    refine rows_ext _ _ fun r e => ?_
    exact (Ref.res7 _ r e).trans (congrArg (fun p => gates p r e) hP)

/-- The projection's reference runs, keeps its arguments and leaves every counter at zero: it declares none. -/
theorem frame_reference : Cert.quiescent_Reference3Ideal (hReference3Ideal := Cert.Reference3Ideal.Gen.facts) := fun m ρ _ =>
  (θ_run Cert.Reference3Ideal.defs _ _).mono (fun r h => ⟨fun c => (h c).2.2.2.2.2.2.2.2, sem_eq_zero_of_no_sems (by decide) r.2⟩)
    (Cert.Reference3Ideal.Value.run m ρ)

end Cert.Proj

end
-- ==== Proof.PostRun.lean ====
/- The run of the last call with its output array named. -/
module

public import proofs.«01_k».proof.Proof.PostFrame
public import Idealize.ShloMosaic.Lib.Pipeline.Value

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the run, the output array is the array of its blocks. -/
theorem post27 (r : PUnit × MemSt nD τ sig (Elt F)) (h : Pipeline.FramePost cfgs (dats m) 0 (V m) r) (c : Dev nD) :
    r.2.mem ((c : Thread nD τ).loc main_v18) = (dats m 0 c).arrAt 27 cfg0.N :=
  (h c).1 27

/-- After the run, argument `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run, argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the run, argument `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run, argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the run, argument `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the run, argument `main_arg5` is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the run, argument `main_arg6` is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the run, argument `main_arg7` is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the run, argument `main_arg8` is as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the run, argument `main_arg9` is as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the run, argument `main_arg10` is as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the run, argument `main_arg11` is as launched. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the run, argument `main_arg12` is as launched. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the run, argument `main_arg13` is as launched. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the run, argument `main_arg14` is as launched. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the run, argument `main_arg15` is as launched. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the run, argument `main_arg16` is as launched. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the run, argument `main_arg17` is as launched. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the run, argument `main_arg18` is as launched. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the run, argument `main_arg19` is as launched. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the run, argument `main_arg20` is as launched. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the run, argument `main_arg21` is as launched. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- The run with its output array named, and the arguments as launched. -/
theorem run_blocks : θ_run defs (onTc (τ := τ) (main (F := F))) ⟨m, fun _ => 0, ρ⟩ fun r => ∀ c : Dev nD,
      r.2.mem ((c : Thread nD τ).loc main_v18) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨post27 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c⟩)
    (run_main m ρ)

end Cert.Kernel2Ideal.Value

end
-- ==== Proof.PostConv.lean ====
/- The convolution tile of the last call, in the kernel's own operations: 31 shifted products summed by residues modulo
   eight, the bias, and for every eight rows their layer norm and its silu. Then the rest of the call on one tile. -/
module

public import proofs.«01_k».proof.Proof.PostFrame

@[expose] public section

set_option maxRecDepth 16384

noncomputable section

namespace Cert.Post

open Cert.Kernel2Ideal Cert.Kernel2Ideal.Gen Idealize.ShloMosaic Idealize.ShloMosaic.TcCoe Idealize.SL.Sem

variable {F : FTy → Type} [FloatOps F]

theorem inb_b (n lh : ℕ) : ∀ a, (![8 * (n % 28), 256 * (lh % 2)] : Fin 2 → ℕ) a + S72x256.size a ≤ S288x512.size a := by
  intro a
  fin_cases a
  · show 8 * (n % 28) + 72 ≤ 288; omega
  · show 256 * (lh % 2) + 256 ≤ 512; omega

theorem inb_w (j lh : ℕ) : ∀ a, (![0, j % 31, 256 * (lh % 2)] : Fin 3 → ℕ) a + S1x1x256.size a ≤ S1x31x512.size a := by
  intro a
  fin_cases a
  · show 0 + 1 ≤ 1; omega
  · show j % 31 + 1 ≤ 31; omega
  · show 256 * (lh % 2) + 256 ≤ 512; omega

theorem inb_y (k : Fin 32) : ∀ a, (![8 * k.val, 0] : Fin 2 → ℕ) a + S8x512.size a ≤ S256x512.size a := by
  intro a
  have := k.isLt
  fin_cases a
  · show 8 * k.val + 8 ≤ 256; omega
  · show 0 + 512 ≤ 512; omega

theorem slices_row (s : ℕ) : S64x512.Slices ![8 * (s % 8), 0] S8x512 := by
  have h : s % 8 < 8 := Nat.mod_lt _ (by decide)
  match s % 8, h with
  | 0, _ => exact slices_S64x512_o0_0_S8x512
  | 1, _ => exact slices_S64x512_o8_0_S8x512
  | 2, _ => exact slices_S64x512_o16_0_S8x512
  | 3, _ => exact slices_S64x512_o24_0_S8x512
  | 4, _ => exact slices_S64x512_o32_0_S8x512
  | 5, _ => exact slices_S64x512_o40_0_S8x512
  | 6, _ => exact slices_S64x512_o48_0_S8x512
  | 7, _ => exact slices_S64x512_o56_0_S8x512

/-- The buffer's rows `8n … 8n + 71`, half `lh` of the columns. -/
abbrev rectB (n lh : ℕ) : Rect S288x512 := Rect.unit (s := S288x512) ![8 * (n % 28), 256 * (lh % 2)] S72x256.size (inb_b n lh)
/-- Tap `j` of the weights, half `lh` of the columns. -/
abbrev rectW (j lh : ℕ) : Rect S1x31x512 := Rect.unit (s := S1x31x512) ![0, j % 31, 256 * (lh % 2)] S1x1x256.size (inb_w j lh)
/-- The eight rows that piece `k` of a tile's result covers. -/
abbrev rectY (k : Fin 32) : Rect S256x512 := Rect.unit (s := S256x512) ![8 * k.val, 0] S8x512.size (inb_y k)

/-- One tap's products on 72 rows. -/
def term (b : Vec F S72x256 .f32) (w : Vec F S1x1x256 .f32) : FVec F S72x256 .f32 :=
  mulf b (broadcastTo S72x256 (shapeCast S1x256 w shapeCasts_S1x1x256_S1x256) broadcasts_S1x256_S72x256)

/-- The taps of one residue other than zero, before their shift. -/
def four (b : ℕ → Vec F S72x256 .f32) (w : ℕ → Vec F S1x1x256 .f32) (r j : ℕ) : FVec F S72x256 .f32 :=
  addf (addf (addf (term (b (8 * r)) (w j)) (term (b (8 * r + 1)) (w (j + 8)))) (term (b (8 * r + 2)) (w (j + 16))))
    (term (b (8 * r + 3)) (w (j + 24)))

/-- The taps of residue zero. -/
def three (b : ℕ → Vec F S72x256 .f32) (w : ℕ → Vec F S1x1x256 .f32) (r : ℕ) : FVec F S72x256 .f32 :=
  addf (addf (term (b (8 * r + 1)) (w 7)) (term (b (8 * r + 2)) (w 15))) (term (b (8 * r + 3)) (w 23))

/-- The 31 taps on 64 rows of half the columns. -/
def taps (b : ℕ → Vec F S72x256 .f32) (w : ℕ → Vec F S1x1x256 .f32) (r : ℕ) : FVec F S64x256 .f32 :=
  addf (addf (addf (addf (addf (addf (addf
    (extractStridedSlice S64x256 ![0, 0] (three b w r) slices_S72x256_o0_0_S64x256)
    (extractStridedSlice S64x256 ![1, 0] (four b w r 0) slices_S72x256_o1_0_S64x256))
    (extractStridedSlice S64x256 ![2, 0] (four b w r 1) slices_S72x256_o2_0_S64x256))
    (extractStridedSlice S64x256 ![3, 0] (four b w r 2) slices_S72x256_o3_0_S64x256))
    (extractStridedSlice S64x256 ![4, 0] (four b w r 3) slices_S72x256_o4_0_S64x256))
    (extractStridedSlice S64x256 ![5, 0] (four b w r 4) slices_S72x256_o5_0_S64x256))
    (extractStridedSlice S64x256 ![6, 0] (four b w r 5) slices_S72x256_o6_0_S64x256))
    (extractStridedSlice S64x256 ![7, 0] (four b w r 6) slices_S72x256_o7_0_S64x256)

/-- The convolution with its bias, 64 rows. -/
def conv (b : ℕ → ℕ → Vec F S72x256 .f32) (w : ℕ → ℕ → Vec F S1x1x256 .f32) (bias : Vec F S1x1x512 .f32) (r : ℕ) : FVec F S64x512 .f32 :=
  addf
    (concatenate S64x512 1 [⟨S64x256, taps (fun n => b n 0) (fun j => w j 0) r⟩, ⟨S64x256, taps (fun n => b n 1) (fun j => w j 1) r⟩]
      concatenates_S64x256_S64x256_S64x512_d1)
    (broadcastTo S64x512 (shapeCast S1x512 bias shapeCasts_S1x1x512_S1x512) broadcasts_S1x512_S64x512)

/-- Eight rows less their mean. -/
def centred (y : FVec F S8x512 .f32) : FVec F S8x512 .f32 :=
  subf y
    (broadcastTo S8x512
      (divf (shapeCast S8x1 (multiReduction .add [1] S8 y 0x00000000#32 reduces_S8x512_S8 (.inl rfl) rfl) shapeCasts_S8_S8x1)
        (broadcast S8x1 (Scalar.ofBits .f32 0x44000000#32)))
      broadcasts_S8x1_S8x512)

/-- Centred rows over their deviation, with gain and shift. -/
def scaled (d : FVec F S8x512 .f32) (g β : Vec F S1x1x512 .f32) : FVec F S8x512 .f32 :=
  addf
    (mulf
      (mulf d
        (broadcastTo S8x512
          (rsqrt
            (addf
              (divf
                (shapeCast S8x1 (multiReduction .add [1] S8 (mulf d d) 0x00000000#32 reduces_S8x512_S8 (.inl rfl) rfl) shapeCasts_S8_S8x1)
                (broadcast S8x1 (Scalar.ofBits .f32 0x44000000#32)))
              (broadcast S8x1 (Scalar.ofBits .f32 0x358637BD#32))))
          broadcasts_S8x1_S8x512))
      (broadcastTo S8x512 (shapeCast S1x512 g shapeCasts_S1x1x512_S1x512) broadcasts_S1x512_S8x512))
    (broadcastTo S8x512 (shapeCast S1x512 β shapeCasts_S1x1x512_S1x512) broadcasts_S1x512_S8x512)

/-- An entry times its sigmoid. -/
def silu8 (y : FVec F S8x512 .f32) : FVec F S8x512 .bf16 :=
  shapeCast S8x512
    (truncf .bf16
      (mulf y
        (divf (broadcast S8x512 (Scalar.ofBits .f32 0x3F800000#32))
          (addf (broadcast S8x512 (Scalar.ofBits .f32 0x3F800000#32))
            (exp (subf (broadcast S8x512 (Scalar.ofBits .f32 0x00000000#32)) y)))))
      bitsLt_bf16_f32)
    shapeCasts_S8x512_S8x512

/-- Rows `8s … 8s + 7` of 64. -/
def rows8 (y : FVec F S64x512 .f32) (s : ℕ) : FVec F S8x512 .f32 := extractStridedSlice S8x512 ![8 * (s % 8), 0] y (slices_row s)

/-- The zero that links a group of rows to the one before it. -/
def zero8 : FVec F S8x1 .f32 := bitcastToFloat .f32 (constantI S8x1 32 0#32)

/-- What piece `k` of a tile's result holds. -/
def piece (b : ℕ → ℕ → Vec F S72x256 .f32) (w : ℕ → ℕ → Vec F S1x1x256 .f32) (bias g β : Vec F S1x1x512 .f32) (k : ℕ) : FVec F S8x512 .bf16 :=
  silu8 (scaled (centred (rows8 (conv b w bias (k / 8)) k)) g β)

/-- The same with the link to the piece before it. -/
def linked (b : ℕ → ℕ → Vec F S72x256 .f32) (w : ℕ → ℕ → Vec F S1x1x256 .f32) (bias g β : Vec F S1x1x512 .f32) : ℕ → FVec F S8x512 .bf16
  | 0 => piece b w bias g β 0
  | k + 1 => silu8 (scaled (centred (addf (rows8 (conv b w bias ((k + 1) / 8)) (k + 1)) (broadcastTo S8x512 zero8 broadcasts_S8x1_S8x512))) g β)

/-- The stored pieces, last first. -/
def pieces (q : ℕ → FVec F S8x512 .bf16) : List (View.Piece (Elt F) S256x512 .bf16) :=
  [31, 30, 29, 28, 27, 26, 25, 24, 23, 22, 21, 20, 19, 18, 17, 16, 15, 14, 13, 12, 11, 10, 9, 8, 7, 6, 5, 4, 3, 2, 1, 0].map
    fun k : Fin 32 => ⟨rectY k, q k.val⟩

/-- The three pieces of the buffer, last first. -/
def bufPieces (p : FVec F S16x512 .f32) (z : FVec F S256x512 .f32) (n : FVec F S16x512 .f32) : List (View.Piece (Elt F) S288x512 .f32) :=
  [⟨Rect.unit (s := S288x512) ![272, 0] S16x512.size inb_S288x512_S16x512_272_0, n⟩,
   ⟨Rect.unit (s := S288x512) ![16, 0] S256x512.size inb_S288x512_S256x512_16_0, z⟩,
   ⟨Rect.unit (s := S288x512) ![0, 0] S16x512.size inb_S288x512_S16x512_0_0, p⟩]

/-- The rest of the call on one tile: from the stream's rows, the branches and their gates, the convolution's rows and the weights. -/
def tail (x : Vec F S256x1024 .f32) (ya yb yc : Vec F S256x512 .bf16) (ga gb gc : Vec F S256x1024 .bf16) (wa wb wc : Vec F S1x512x1024 .bf16)
    (wo : Vec F S1x1024x1024 .bf16) (nf : Vec F S1x1x1024 .f32) (g0 u0 : Vec F S1x1024x1536 .bf16) (d0 : Vec F S1x1536x1024 .bf16)
    (g1 u1 : Vec F S1x1024x1280 .bf16) (d1 : Vec F S1x1280x1024 .bf16) (np : Vec F S1x1x1024 .f32) (wg : Vec F S1x1024x1024 .bf16)
    (p : Vec F S1x256x256 .f32) (wi : Vec F S1x256x1024 .bf16) (nl : Vec F S1x1024 .f32) : FVec F S256x1024 .f32 :=
  let merged := k0_pay345 yb ga ya wa gb wb gc yc wc
  let x1 := k0_pay346 x merged wo
  let h := k0_pay347 x merged wo nf
  let act := k0_pay348 x merged wo nf g0 u0
  let x2 := k0_pay350 x1 h act (k0_pay349 d0) g1 u1 d1
  let h2 := k0_pay351 x1 h act (k0_pay349 d0) g1 u1 d1
  k0_pay1 (k0_pay353 x2 h2 (k0_pay352 zero8 np) wg p wi) nl

end Cert.Post

end
-- ==== Proof.PostPiecesA.lean ====
/- What the first point stores: the convolution of its own tile and of the tile after it, piece by piece, and the rest of the call on its tile. -/
module

public import proofs.«01_k».proof.Proof.PostConv

@[expose] public section

set_option maxRecDepth 16384

noncomputable section

namespace Cert.Post

open Cert.Kernel2Ideal Cert.Kernel2Ideal.Gen Idealize.ShloMosaic Idealize.ShloMosaic.TcCoe Idealize.SL.Sem

variable {F : FTy → Type} [FloatOps F]

set_option maxHeartbeats 8000000 in
/-- The 32 pieces of the next tile's convolution over the 32 of the first tile's. -/
theorem pieces_A
    (c : Dev nD) (i : grid0.Coords) (arg1 : Memref sig .tc .vmem S256x1024 .f32) (harg1 : arg1.IsWhole) (arg2 : Memref sig .tc .vmem S256x512 .bf16)
      (harg2 : arg2.IsWhole) (arg3 : Memref sig .tc .vmem S256x512 .bf16) (harg3 : arg3.IsWhole) (arg4 : Memref sig .tc .vmem S256x3072 .bf16) (harg4
      : arg4.IsWhole) (arg5 : Memref sig .tc .vmem S1x256x256 .f32) (harg5 : arg5.IsWhole) (arg6 : Memref sig .tc .vmem S1x16x512 .f32) (harg6 :
      arg6.IsWhole) (arg7 : Memref sig .tc .vmem S1x256x512 .f32) (harg7 : arg7.IsWhole) (arg8 : Memref sig .tc .vmem S1x16x512 .f32) (harg8 :
      arg8.IsWhole) (arg9 : Memref sig .tc .vmem S1x16x512 .f32) (harg9 : arg9.IsWhole) (arg10 : Memref sig .tc .vmem S1x256x512 .f32) (harg10 :
      arg10.IsWhole) (arg11 : Memref sig .tc .vmem S1x16x512 .f32) (harg11 : arg11.IsWhole) (arg12 : Memref sig .tc .vmem S1x31x512 .f32) (harg12 :
      arg12.IsWhole) (arg13 : Memref sig .tc .vmem S1x1x512 .f32) (harg13 : arg13.IsWhole) (arg14 : Memref sig .tc .vmem S1x1x512 .f32) (harg14 :
      arg14.IsWhole) (arg15 : Memref sig .tc .vmem S1x1x512 .f32) (harg15 : arg15.IsWhole) (arg16 : Memref sig .tc .vmem S1x512x1024 .bf16) (harg16 :
      arg16.IsWhole) (arg17 : Memref sig .tc .vmem S1x512x1024 .bf16) (harg17 : arg17.IsWhole) (arg18 : Memref sig .tc .vmem S1x512x1024 .bf16)
      (harg18 : arg18.IsWhole) (arg19 : Memref sig .tc .vmem S1x1024x1024 .bf16) (harg19 : arg19.IsWhole) (arg20 : Memref sig .tc .vmem S1x1x1024
      .f32) (harg20 : arg20.IsWhole) (arg21 : Memref sig .tc .vmem S1x1024x2816 .bf16) (harg21 : arg21.IsWhole) (arg22 : Memref sig .tc .vmem
      S1x1024x2816 .bf16) (harg22 : arg22.IsWhole) (arg23 : Memref sig .tc .vmem S1x2816x1024 .bf16) (harg23 : arg23.IsWhole) (arg24 : Memref sig .tc
      .vmem S1x1x1024 .f32) (harg24 : arg24.IsWhole) (arg25 : Memref sig .tc .vmem S1x1024x1024 .bf16) (harg25 : arg25.IsWhole) (arg26 : Memref sig
      .tc .vmem S1x256x1024 .bf16) (harg26 : arg26.IsWhole) (arg27 : Memref sig .tc .vmem S1x1024 .f32) (harg27 : arg27.IsWhole) (arg28 : Memref sig
      .tc .vmem S256x1024 .f32) (harg28 : arg28.IsWhole) (arg29 : Memref sig .tc .vmem S288x512 .f32) (harg29 : arg29.IsWhole) (arg30 : Memref sig
      .tc .vmem S256x512 .bf16) (harg30 : arg30.IsWhole) (hc0 : cond0_0 i)
    (x0 : Vec F S256x1024 .f32) (x1 : Vec F S256x512 .bf16) (x2 : Vec F S256x512 .bf16) (x3 : Vec F S256x3072 .bf16) (x4 : Vec F S1x256x256 .f32) (x5
      : Vec F S1x16x512 .f32) (x6 : Vec F S1x256x512 .f32) (x7 : Vec F S1x16x512 .f32) (x8 : Vec F S1x16x512 .f32) (x9 : Vec F S1x256x512 .f32) (x10
      : Vec F S1x16x512 .f32) (x11 : Vec F S1x31x512 .f32) (x12 : Vec F S1x1x512 .f32) (x13 : Vec F S1x1x512 .f32) (x14 : Vec F S1x1x512 .f32) (x15 :
      Vec F S1x512x1024 .bf16) (x16 : Vec F S1x512x1024 .bf16) (x17 : Vec F S1x512x1024 .bf16) (x18 : Vec F S1x1024x1024 .bf16) (x19 : Vec F
      S1x1x1024 .f32) (x20 : Vec F S1x1024x2816 .bf16) (x21 : Vec F S1x1024x2816 .bf16) (x22 : Vec F S1x2816x1024 .bf16) (x23 : Vec F S1x1x1024 .f32)
      (x24 : Vec F S1x1024x1024 .bf16) (x25 : Vec F S1x256x1024 .bf16) (x26 : Vec F S1x1024 .f32) :
      (kernelRun0_A c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22
        harg22 arg23 harg23 arg24 harg24 arg25 harg25 arg26 harg26 arg27 harg27 arg28 harg28 arg29 harg29 arg30 harg30 hc0 x0 x1 x2 x3 x4 x5 x6 x7 x8
        x9 x10 x11 x12 x13 x14 x15 x16 x17 x18 x19 x20 x21 x22 x23 x24 x25 x26).2.1
        = pieces (linked (fun n lh => arg29.view.readCov ((bufPieces (k0_pay181 i (View.readAt (Elt F) arg9.view (Rect.unit (s := S1x16x512) ![0, 0,
          0] S1x16x512.size inb_S1x16x512_S1x16x512_0_0_0).toLoadRect (harg9.unread x8))) (k0_pay182 (View.readAt (Elt F) arg10.view (Rect.unit (s :=
          S1x256x512) ![0, 0, 0] S1x256x512.size inb_S1x256x512_S1x256x512_0_0_0).toLoadRect (harg10.unread x9))) (k0_pay183 (kernelRun0_A.sl.v17 i)
          (View.readAt (Elt F) arg11.view (Rect.unit (s := S1x16x512) ![0, 0, 0] S1x16x512.size inb_S1x16x512_S1x16x512_0_0_0).toLoadRect
          (harg11.unread x10)))) ++ (bufPieces (k0_pay2 (View.readAt (Elt F) arg6.view (Rect.unit (s := S1x16x512) ![0, 0, 0] S1x16x512.size
          inb_S1x16x512_S1x16x512_0_0_0).toLoadRect (harg6.unread x5))) (k0_pay3 (View.readAt (Elt F) arg7.view (Rect.unit (s := S1x256x512) ![0, 0,
          0] S1x256x512.size inb_S1x256x512_S1x256x512_0_0_0).toLoadRect (harg7.unread x6))) (k0_pay4 (View.readAt (Elt F) arg8.view (Rect.unit (s :=
          S1x16x512) ![0, 0, 0] S1x16x512.size inb_S1x16x512_S1x16x512_0_0_0).toLoadRect (harg8.unread x7))))) (rectB n lh).toLoadRect) (fun j lh =>
          (View.readAt (Elt F) arg12.view (rectW j lh).toLoadRect (harg12.unread x11))) (View.readAt (Elt F) arg13.view (Rect.unit (s := S1x1x512)
          ![0, 0, 0] S1x1x512.size inb_S1x1x512_S1x1x512_0_0_0).toLoadRect (harg13.unread x12)) (View.readAt (Elt F) arg14.view (Rect.unit (s :=
          S1x1x512) ![0, 0, 0] S1x1x512.size inb_S1x1x512_S1x1x512_0_0_0).toLoadRect (harg14.unread x13)) (View.readAt (Elt F) arg15.view (Rect.unit
          (s := S1x1x512) ![0, 0, 0] S1x1x512.size inb_S1x1x512_S1x1x512_0_0_0).toLoadRect (harg15.unread x14))) ++ pieces (piece (fun n lh =>
          arg29.view.readCov (bufPieces (k0_pay2 (View.readAt (Elt F) arg6.view (Rect.unit (s := S1x16x512) ![0, 0, 0] S1x16x512.size
          inb_S1x16x512_S1x16x512_0_0_0).toLoadRect (harg6.unread x5))) (k0_pay3 (View.readAt (Elt F) arg7.view (Rect.unit (s := S1x256x512) ![0, 0,
          0] S1x256x512.size inb_S1x256x512_S1x256x512_0_0_0).toLoadRect (harg7.unread x6))) (k0_pay4 (View.readAt (Elt F) arg8.view (Rect.unit (s :=
          S1x16x512) ![0, 0, 0] S1x16x512.size inb_S1x16x512_S1x16x512_0_0_0).toLoadRect (harg8.unread x7)))) (rectB n lh).toLoadRect) (fun j lh =>
          (View.readAt (Elt F) arg12.view (rectW j lh).toLoadRect (harg12.unread x11))) (View.readAt (Elt F) arg13.view (Rect.unit (s := S1x1x512)
          ![0, 0, 0] S1x1x512.size inb_S1x1x512_S1x1x512_0_0_0).toLoadRect (harg13.unread x12)) (View.readAt (Elt F) arg14.view (Rect.unit (s :=
          S1x1x512) ![0, 0, 0] S1x1x512.size inb_S1x1x512_S1x1x512_0_0_0).toLoadRect (harg14.unread x13)) (View.readAt (Elt F) arg15.view (Rect.unit
          (s := S1x1x512) ![0, 0, 0] S1x1x512.size inb_S1x1x512_S1x1x512_0_0_0).toLoadRect (harg15.unread x14))) := by
  rfl

set_option maxHeartbeats 8000000 in
/-- The tile's result. -/
theorem result_A
    (c : Dev nD) (i : grid0.Coords) (arg1 : Memref sig .tc .vmem S256x1024 .f32) (harg1 : arg1.IsWhole) (arg2 : Memref sig .tc .vmem S256x512 .bf16)
      (harg2 : arg2.IsWhole) (arg3 : Memref sig .tc .vmem S256x512 .bf16) (harg3 : arg3.IsWhole) (arg4 : Memref sig .tc .vmem S256x3072 .bf16) (harg4
      : arg4.IsWhole) (arg5 : Memref sig .tc .vmem S1x256x256 .f32) (harg5 : arg5.IsWhole) (arg6 : Memref sig .tc .vmem S1x16x512 .f32) (harg6 :
      arg6.IsWhole) (arg7 : Memref sig .tc .vmem S1x256x512 .f32) (harg7 : arg7.IsWhole) (arg8 : Memref sig .tc .vmem S1x16x512 .f32) (harg8 :
      arg8.IsWhole) (arg9 : Memref sig .tc .vmem S1x16x512 .f32) (harg9 : arg9.IsWhole) (arg10 : Memref sig .tc .vmem S1x256x512 .f32) (harg10 :
      arg10.IsWhole) (arg11 : Memref sig .tc .vmem S1x16x512 .f32) (harg11 : arg11.IsWhole) (arg12 : Memref sig .tc .vmem S1x31x512 .f32) (harg12 :
      arg12.IsWhole) (arg13 : Memref sig .tc .vmem S1x1x512 .f32) (harg13 : arg13.IsWhole) (arg14 : Memref sig .tc .vmem S1x1x512 .f32) (harg14 :
      arg14.IsWhole) (arg15 : Memref sig .tc .vmem S1x1x512 .f32) (harg15 : arg15.IsWhole) (arg16 : Memref sig .tc .vmem S1x512x1024 .bf16) (harg16 :
      arg16.IsWhole) (arg17 : Memref sig .tc .vmem S1x512x1024 .bf16) (harg17 : arg17.IsWhole) (arg18 : Memref sig .tc .vmem S1x512x1024 .bf16)
      (harg18 : arg18.IsWhole) (arg19 : Memref sig .tc .vmem S1x1024x1024 .bf16) (harg19 : arg19.IsWhole) (arg20 : Memref sig .tc .vmem S1x1x1024
      .f32) (harg20 : arg20.IsWhole) (arg21 : Memref sig .tc .vmem S1x1024x2816 .bf16) (harg21 : arg21.IsWhole) (arg22 : Memref sig .tc .vmem
      S1x1024x2816 .bf16) (harg22 : arg22.IsWhole) (arg23 : Memref sig .tc .vmem S1x2816x1024 .bf16) (harg23 : arg23.IsWhole) (arg24 : Memref sig .tc
      .vmem S1x1x1024 .f32) (harg24 : arg24.IsWhole) (arg25 : Memref sig .tc .vmem S1x1024x1024 .bf16) (harg25 : arg25.IsWhole) (arg26 : Memref sig
      .tc .vmem S1x256x1024 .bf16) (harg26 : arg26.IsWhole) (arg27 : Memref sig .tc .vmem S1x1024 .f32) (harg27 : arg27.IsWhole) (arg28 : Memref sig
      .tc .vmem S256x1024 .f32) (harg28 : arg28.IsWhole) (arg29 : Memref sig .tc .vmem S288x512 .f32) (harg29 : arg29.IsWhole) (arg30 : Memref sig
      .tc .vmem S256x512 .bf16) (harg30 : arg30.IsWhole) (hc0 : cond0_0 i)
    (x0 : Vec F S256x1024 .f32) (x1 : Vec F S256x512 .bf16) (x2 : Vec F S256x512 .bf16) (x3 : Vec F S256x3072 .bf16) (x4 : Vec F S1x256x256 .f32) (x5
      : Vec F S1x16x512 .f32) (x6 : Vec F S1x256x512 .f32) (x7 : Vec F S1x16x512 .f32) (x8 : Vec F S1x16x512 .f32) (x9 : Vec F S1x256x512 .f32) (x10
      : Vec F S1x16x512 .f32) (x11 : Vec F S1x31x512 .f32) (x12 : Vec F S1x1x512 .f32) (x13 : Vec F S1x1x512 .f32) (x14 : Vec F S1x1x512 .f32) (x15 :
      Vec F S1x512x1024 .bf16) (x16 : Vec F S1x512x1024 .bf16) (x17 : Vec F S1x512x1024 .bf16) (x18 : Vec F S1x1024x1024 .bf16) (x19 : Vec F
      S1x1x1024 .f32) (x20 : Vec F S1x1024x2816 .bf16) (x21 : Vec F S1x1024x2816 .bf16) (x22 : Vec F S1x2816x1024 .bf16) (x23 : Vec F S1x1x1024 .f32)
      (x24 : Vec F S1x1024x1024 .bf16) (x25 : Vec F S1x256x1024 .bf16) (x26 : Vec F S1x1024 .f32) :
      (kernelRun0_A c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22
        harg22 arg23 harg23 arg24 harg24 arg25 harg25 arg26 harg26 arg27 harg27 arg28 harg28 arg29 harg29 arg30 harg30 hc0 x0 x1 x2 x3 x4 x5 x6 x7 x8
        x9 x10 x11 x12 x13 x14 x15 x16 x17 x18 x19 x20 x21 x22 x23 x24 x25 x26).1
        = [⟨Rect.unit (s := S256x1024) ![0, 0] ![256, 1024] inb_S256x1024_S256x1024_0_0, (tail (View.readAt (Elt F) arg1.view (Rect.unit (s :=
          S256x1024) ![0, 0] S256x1024.size inb_S256x1024_S256x1024_0_0).toLoadRect (harg1.unread x0)) (View.readAt (Elt F) arg2.view (Rect.unit (s
          := S256x512) ![0, 0] S256x512.size inb_S256x512_S256x512_0_0).toLoadRect (harg2.unread x1)) (arg30.view.readCov (pieces (piece (fun n lh =>
          arg29.view.readCov (bufPieces (k0_pay2 (View.readAt (Elt F) arg6.view (Rect.unit (s := S1x16x512) ![0, 0, 0] S1x16x512.size
          inb_S1x16x512_S1x16x512_0_0_0).toLoadRect (harg6.unread x5))) (k0_pay3 (View.readAt (Elt F) arg7.view (Rect.unit (s := S1x256x512) ![0, 0,
          0] S1x256x512.size inb_S1x256x512_S1x256x512_0_0_0).toLoadRect (harg7.unread x6))) (k0_pay4 (View.readAt (Elt F) arg8.view (Rect.unit (s :=
          S1x16x512) ![0, 0, 0] S1x16x512.size inb_S1x16x512_S1x16x512_0_0_0).toLoadRect (harg8.unread x7)))) (rectB n lh).toLoadRect) (fun j lh =>
          (View.readAt (Elt F) arg12.view (rectW j lh).toLoadRect (harg12.unread x11))) (View.readAt (Elt F) arg13.view (Rect.unit (s := S1x1x512)
          ![0, 0, 0] S1x1x512.size inb_S1x1x512_S1x1x512_0_0_0).toLoadRect (harg13.unread x12)) (View.readAt (Elt F) arg14.view (Rect.unit (s :=
          S1x1x512) ![0, 0, 0] S1x1x512.size inb_S1x1x512_S1x1x512_0_0_0).toLoadRect (harg14.unread x13)) (View.readAt (Elt F) arg15.view (Rect.unit
          (s := S1x1x512) ![0, 0, 0] S1x1x512.size inb_S1x1x512_S1x1x512_0_0_0).toLoadRect (harg15.unread x14)))) (Rect.unit (s := S256x512) ![0, 0]
          S256x512.size inb_S256x512_S256x512_0_0).toLoadRect) (View.readAt (Elt F) arg3.view (Rect.unit (s := S256x512) ![0, 0] S256x512.size
          inb_S256x512_S256x512_0_0).toLoadRect (harg3.unread x2)) (View.readAt (Elt F) arg4.view (Rect.unit (s := S256x3072) ![0, 0] S256x1024.size
          inb_S256x3072_S256x1024_0_0).toLoadRect (harg4.unread x3)) (View.readAt (Elt F) arg4.view (Rect.unit (s := S256x3072) ![0, 1024]
          S256x1024.size inb_S256x3072_S256x1024_0_1024).toLoadRect (harg4.unread x3)) (View.readAt (Elt F) arg4.view (Rect.unit (s := S256x3072)
          ![0, 2048] S256x1024.size inb_S256x3072_S256x1024_0_2048).toLoadRect (harg4.unread x3)) (View.readAt (Elt F) arg16.view (Rect.unit (s :=
          S1x512x1024) ![0, 0, 0] S1x512x1024.size inb_S1x512x1024_S1x512x1024_0_0_0).toLoadRect (harg16.unread x15)) (View.readAt (Elt F) arg17.view
          (Rect.unit (s := S1x512x1024) ![0, 0, 0] S1x512x1024.size inb_S1x512x1024_S1x512x1024_0_0_0).toLoadRect (harg17.unread x16)) (View.readAt
          (Elt F) arg18.view (Rect.unit (s := S1x512x1024) ![0, 0, 0] S1x512x1024.size inb_S1x512x1024_S1x512x1024_0_0_0).toLoadRect (harg18.unread
          x17)) (View.readAt (Elt F) arg19.view (Rect.unit (s := S1x1024x1024) ![0, 0, 0] S1x1024x1024.size
          inb_S1x1024x1024_S1x1024x1024_0_0_0).toLoadRect (harg19.unread x18)) (View.readAt (Elt F) arg20.view (Rect.unit (s := S1x1x1024) ![0, 0, 0]
          S1x1x1024.size inb_S1x1x1024_S1x1x1024_0_0_0).toLoadRect (harg20.unread x19)) (View.readAt (Elt F) arg21.view (Rect.unit (s :=
          S1x1024x2816) ![0, 0, 0] S1x1024x1536.size inb_S1x1024x2816_S1x1024x1536_0_0_0).toLoadRect (harg21.unread x20)) (View.readAt (Elt F)
          arg22.view (Rect.unit (s := S1x1024x2816) ![0, 0, 0] S1x1024x1536.size inb_S1x1024x2816_S1x1024x1536_0_0_0).toLoadRect (harg22.unread x21))
          (View.readAt (Elt F) arg23.view (Rect.unit (s := S1x2816x1024) ![0, 0, 0] S1x1536x1024.size inb_S1x2816x1024_S1x1536x1024_0_0_0).toLoadRect
          (harg23.unread x22)) (View.readAt (Elt F) arg21.view (Rect.unit (s := S1x1024x2816) ![0, 0, 1536] S1x1024x1280.size
          inb_S1x1024x2816_S1x1024x1280_0_0_1536).toLoadRect (harg21.unread x20)) (View.readAt (Elt F) arg22.view (Rect.unit (s := S1x1024x2816) ![0,
          0, 1536] S1x1024x1280.size inb_S1x1024x2816_S1x1024x1280_0_0_1536).toLoadRect (harg22.unread x21)) (View.readAt (Elt F) arg23.view
          (Rect.unit (s := S1x2816x1024) ![0, 1536, 0] S1x1280x1024.size inb_S1x2816x1024_S1x1280x1024_0_1536_0).toLoadRect (harg23.unread x22))
          (View.readAt (Elt F) arg24.view (Rect.unit (s := S1x1x1024) ![0, 0, 0] S1x1x1024.size inb_S1x1x1024_S1x1x1024_0_0_0).toLoadRect
          (harg24.unread x23)) (View.readAt (Elt F) arg25.view (Rect.unit (s := S1x1024x1024) ![0, 0, 0] S1x1024x1024.size
          inb_S1x1024x1024_S1x1024x1024_0_0_0).toLoadRect (harg25.unread x24)) (View.readAt (Elt F) arg5.view (Rect.unit (s := S1x256x256) ![0, 0, 0]
          S1x256x256.size inb_S1x256x256_S1x256x256_0_0_0).toLoadRect (harg5.unread x4)) (View.readAt (Elt F) arg26.view (Rect.unit (s :=
          S1x256x1024) ![0, 0, 0] S1x256x1024.size inb_S1x256x1024_S1x256x1024_0_0_0).toLoadRect (harg26.unread x25)) (View.readAt (Elt F) arg27.view
          (Rect.unit (s := S1x1024) ![0, 0] S1x1024.size inb_S1x1024_S1x1024_0_0).toLoadRect (harg27.unread x26)))⟩] := by
  rfl

end Cert.Post

end
-- ==== Proof.PostPiecesB.lean ====
/- What a point that finds the scratch filled stores: the convolution of the tile after this one, piece by piece, and the rest of the call on this tile. -/
module

public import proofs.«01_k».proof.Proof.PostConv

@[expose] public section

set_option maxRecDepth 16384

noncomputable section

namespace Cert.Post

open Cert.Kernel2Ideal Cert.Kernel2Ideal.Gen Idealize.ShloMosaic Idealize.ShloMosaic.TcCoe Idealize.SL.Sem

variable {F : FTy → Type} [FloatOps F]

set_option maxHeartbeats 8000000 in
/-- The 32 pieces of the next tile's convolution. -/
theorem pieces_B
    (c : Dev nD) (i : grid0.Coords) (arg1 : Memref sig .tc .vmem S256x1024 .f32) (harg1 : arg1.IsWhole) (arg2 : Memref sig .tc .vmem S256x512 .bf16)
      (harg2 : arg2.IsWhole) (arg3 : Memref sig .tc .vmem S256x512 .bf16) (harg3 : arg3.IsWhole) (arg4 : Memref sig .tc .vmem S256x3072 .bf16) (harg4
      : arg4.IsWhole) (arg5 : Memref sig .tc .vmem S1x256x256 .f32) (harg5 : arg5.IsWhole) (arg6 : Memref sig .tc .vmem S1x16x512 .f32) (harg6 :
      arg6.IsWhole) (arg7 : Memref sig .tc .vmem S1x256x512 .f32) (harg7 : arg7.IsWhole) (arg8 : Memref sig .tc .vmem S1x16x512 .f32) (harg8 :
      arg8.IsWhole) (arg9 : Memref sig .tc .vmem S1x16x512 .f32) (harg9 : arg9.IsWhole) (arg10 : Memref sig .tc .vmem S1x256x512 .f32) (harg10 :
      arg10.IsWhole) (arg11 : Memref sig .tc .vmem S1x16x512 .f32) (harg11 : arg11.IsWhole) (arg12 : Memref sig .tc .vmem S1x31x512 .f32) (harg12 :
      arg12.IsWhole) (arg13 : Memref sig .tc .vmem S1x1x512 .f32) (harg13 : arg13.IsWhole) (arg14 : Memref sig .tc .vmem S1x1x512 .f32) (harg14 :
      arg14.IsWhole) (arg15 : Memref sig .tc .vmem S1x1x512 .f32) (harg15 : arg15.IsWhole) (arg16 : Memref sig .tc .vmem S1x512x1024 .bf16) (harg16 :
      arg16.IsWhole) (arg17 : Memref sig .tc .vmem S1x512x1024 .bf16) (harg17 : arg17.IsWhole) (arg18 : Memref sig .tc .vmem S1x512x1024 .bf16)
      (harg18 : arg18.IsWhole) (arg19 : Memref sig .tc .vmem S1x1024x1024 .bf16) (harg19 : arg19.IsWhole) (arg20 : Memref sig .tc .vmem S1x1x1024
      .f32) (harg20 : arg20.IsWhole) (arg21 : Memref sig .tc .vmem S1x1024x2816 .bf16) (harg21 : arg21.IsWhole) (arg22 : Memref sig .tc .vmem
      S1x1024x2816 .bf16) (harg22 : arg22.IsWhole) (arg23 : Memref sig .tc .vmem S1x2816x1024 .bf16) (harg23 : arg23.IsWhole) (arg24 : Memref sig .tc
      .vmem S1x1x1024 .f32) (harg24 : arg24.IsWhole) (arg25 : Memref sig .tc .vmem S1x1024x1024 .bf16) (harg25 : arg25.IsWhole) (arg26 : Memref sig
      .tc .vmem S1x256x1024 .bf16) (harg26 : arg26.IsWhole) (arg27 : Memref sig .tc .vmem S1x1024 .f32) (harg27 : arg27.IsWhole) (arg28 : Memref sig
      .tc .vmem S256x1024 .f32) (harg28 : arg28.IsWhole) (arg29 : Memref sig .tc .vmem S288x512 .f32) (harg29 : arg29.IsWhole) (arg30 : Memref sig
      .tc .vmem S256x512 .bf16) (harg30 : arg30.IsWhole) (hc0 : ¬cond0_0 i)
    (x0 : Vec F S256x1024 .f32) (x1 : Vec F S256x512 .bf16) (x2 : Vec F S256x512 .bf16) (x3 : Vec F S256x3072 .bf16) (x4 : Vec F S1x256x256 .f32) (x5
      : Vec F S1x16x512 .f32) (x6 : Vec F S1x256x512 .f32) (x7 : Vec F S1x16x512 .f32) (x8 : Vec F S1x16x512 .f32) (x9 : Vec F S1x256x512 .f32) (x10
      : Vec F S1x16x512 .f32) (x11 : Vec F S1x31x512 .f32) (x12 : Vec F S1x1x512 .f32) (x13 : Vec F S1x1x512 .f32) (x14 : Vec F S1x1x512 .f32) (x15 :
      Vec F S1x512x1024 .bf16) (x16 : Vec F S1x512x1024 .bf16) (x17 : Vec F S1x512x1024 .bf16) (x18 : Vec F S1x1024x1024 .bf16) (x19 : Vec F
      S1x1x1024 .f32) (x20 : Vec F S1x1024x2816 .bf16) (x21 : Vec F S1x1024x2816 .bf16) (x22 : Vec F S1x2816x1024 .bf16) (x23 : Vec F S1x1x1024 .f32)
      (x24 : Vec F S1x1024x1024 .bf16) (x25 : Vec F S1x256x1024 .bf16) (x26 : Vec F S1x1024 .f32) (xs1 : Vec F S256x512 .bf16) :
      (kernelRun0_B c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22
        harg22 arg23 harg23 arg24 harg24 arg25 harg25 arg26 harg26 arg27 harg27 arg28 harg28 arg29 harg29 arg30 harg30 hc0 x0 x1 x2 x3 x4 x5 x6 x7 x8
        x9 x10 x11 x12 x13 x14 x15 x16 x17 x18 x19 x20 x21 x22 x23 x24 x25 x26 xs1).2.1
        = pieces (linked (fun n lh => arg29.view.readCov (bufPieces (k0_pay181 i (View.readAt (Elt F) arg9.view (Rect.unit (s := S1x16x512) ![0, 0,
          0] S1x16x512.size inb_S1x16x512_S1x16x512_0_0_0).toLoadRect (harg9.unread x8))) (k0_pay182 (View.readAt (Elt F) arg10.view (Rect.unit (s :=
          S1x256x512) ![0, 0, 0] S1x256x512.size inb_S1x256x512_S1x256x512_0_0_0).toLoadRect (harg10.unread x9))) (k0_pay183 (kernelRun0_B.sl.v17 i)
          (View.readAt (Elt F) arg11.view (Rect.unit (s := S1x16x512) ![0, 0, 0] S1x16x512.size inb_S1x16x512_S1x16x512_0_0_0).toLoadRect
          (harg11.unread x10)))) (rectB n lh).toLoadRect) (fun j lh => (View.readAt (Elt F) arg12.view (rectW j lh).toLoadRect (harg12.unread x11)))
          (View.readAt (Elt F) arg13.view (Rect.unit (s := S1x1x512) ![0, 0, 0] S1x1x512.size inb_S1x1x512_S1x1x512_0_0_0).toLoadRect (harg13.unread
          x12)) (View.readAt (Elt F) arg14.view (Rect.unit (s := S1x1x512) ![0, 0, 0] S1x1x512.size inb_S1x1x512_S1x1x512_0_0_0).toLoadRect
          (harg14.unread x13)) (View.readAt (Elt F) arg15.view (Rect.unit (s := S1x1x512) ![0, 0, 0] S1x1x512.size
          inb_S1x1x512_S1x1x512_0_0_0).toLoadRect (harg15.unread x14))) := by
  rfl

set_option maxHeartbeats 8000000 in
/-- The tile's result. -/
theorem result_B
    (c : Dev nD) (i : grid0.Coords) (arg1 : Memref sig .tc .vmem S256x1024 .f32) (harg1 : arg1.IsWhole) (arg2 : Memref sig .tc .vmem S256x512 .bf16)
      (harg2 : arg2.IsWhole) (arg3 : Memref sig .tc .vmem S256x512 .bf16) (harg3 : arg3.IsWhole) (arg4 : Memref sig .tc .vmem S256x3072 .bf16) (harg4
      : arg4.IsWhole) (arg5 : Memref sig .tc .vmem S1x256x256 .f32) (harg5 : arg5.IsWhole) (arg6 : Memref sig .tc .vmem S1x16x512 .f32) (harg6 :
      arg6.IsWhole) (arg7 : Memref sig .tc .vmem S1x256x512 .f32) (harg7 : arg7.IsWhole) (arg8 : Memref sig .tc .vmem S1x16x512 .f32) (harg8 :
      arg8.IsWhole) (arg9 : Memref sig .tc .vmem S1x16x512 .f32) (harg9 : arg9.IsWhole) (arg10 : Memref sig .tc .vmem S1x256x512 .f32) (harg10 :
      arg10.IsWhole) (arg11 : Memref sig .tc .vmem S1x16x512 .f32) (harg11 : arg11.IsWhole) (arg12 : Memref sig .tc .vmem S1x31x512 .f32) (harg12 :
      arg12.IsWhole) (arg13 : Memref sig .tc .vmem S1x1x512 .f32) (harg13 : arg13.IsWhole) (arg14 : Memref sig .tc .vmem S1x1x512 .f32) (harg14 :
      arg14.IsWhole) (arg15 : Memref sig .tc .vmem S1x1x512 .f32) (harg15 : arg15.IsWhole) (arg16 : Memref sig .tc .vmem S1x512x1024 .bf16) (harg16 :
      arg16.IsWhole) (arg17 : Memref sig .tc .vmem S1x512x1024 .bf16) (harg17 : arg17.IsWhole) (arg18 : Memref sig .tc .vmem S1x512x1024 .bf16)
      (harg18 : arg18.IsWhole) (arg19 : Memref sig .tc .vmem S1x1024x1024 .bf16) (harg19 : arg19.IsWhole) (arg20 : Memref sig .tc .vmem S1x1x1024
      .f32) (harg20 : arg20.IsWhole) (arg21 : Memref sig .tc .vmem S1x1024x2816 .bf16) (harg21 : arg21.IsWhole) (arg22 : Memref sig .tc .vmem
      S1x1024x2816 .bf16) (harg22 : arg22.IsWhole) (arg23 : Memref sig .tc .vmem S1x2816x1024 .bf16) (harg23 : arg23.IsWhole) (arg24 : Memref sig .tc
      .vmem S1x1x1024 .f32) (harg24 : arg24.IsWhole) (arg25 : Memref sig .tc .vmem S1x1024x1024 .bf16) (harg25 : arg25.IsWhole) (arg26 : Memref sig
      .tc .vmem S1x256x1024 .bf16) (harg26 : arg26.IsWhole) (arg27 : Memref sig .tc .vmem S1x1024 .f32) (harg27 : arg27.IsWhole) (arg28 : Memref sig
      .tc .vmem S256x1024 .f32) (harg28 : arg28.IsWhole) (arg29 : Memref sig .tc .vmem S288x512 .f32) (harg29 : arg29.IsWhole) (arg30 : Memref sig
      .tc .vmem S256x512 .bf16) (harg30 : arg30.IsWhole) (hc0 : ¬cond0_0 i)
    (x0 : Vec F S256x1024 .f32) (x1 : Vec F S256x512 .bf16) (x2 : Vec F S256x512 .bf16) (x3 : Vec F S256x3072 .bf16) (x4 : Vec F S1x256x256 .f32) (x5
      : Vec F S1x16x512 .f32) (x6 : Vec F S1x256x512 .f32) (x7 : Vec F S1x16x512 .f32) (x8 : Vec F S1x16x512 .f32) (x9 : Vec F S1x256x512 .f32) (x10
      : Vec F S1x16x512 .f32) (x11 : Vec F S1x31x512 .f32) (x12 : Vec F S1x1x512 .f32) (x13 : Vec F S1x1x512 .f32) (x14 : Vec F S1x1x512 .f32) (x15 :
      Vec F S1x512x1024 .bf16) (x16 : Vec F S1x512x1024 .bf16) (x17 : Vec F S1x512x1024 .bf16) (x18 : Vec F S1x1024x1024 .bf16) (x19 : Vec F
      S1x1x1024 .f32) (x20 : Vec F S1x1024x2816 .bf16) (x21 : Vec F S1x1024x2816 .bf16) (x22 : Vec F S1x2816x1024 .bf16) (x23 : Vec F S1x1x1024 .f32)
      (x24 : Vec F S1x1024x1024 .bf16) (x25 : Vec F S1x256x1024 .bf16) (x26 : Vec F S1x1024 .f32) (xs1 : Vec F S256x512 .bf16) :
      (kernelRun0_B c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22
        harg22 arg23 harg23 arg24 harg24 arg25 harg25 arg26 harg26 arg27 harg27 arg28 harg28 arg29 harg29 arg30 harg30 hc0 x0 x1 x2 x3 x4 x5 x6 x7 x8
        x9 x10 x11 x12 x13 x14 x15 x16 x17 x18 x19 x20 x21 x22 x23 x24 x25 x26 xs1).1
        = [⟨Rect.unit (s := S256x1024) ![0, 0] ![256, 1024] inb_S256x1024_S256x1024_0_0, (tail (View.readAt (Elt F) arg1.view (Rect.unit (s :=
          S256x1024) ![0, 0] S256x1024.size inb_S256x1024_S256x1024_0_0).toLoadRect (harg1.unread x0)) (View.readAt (Elt F) arg2.view (Rect.unit (s
          := S256x512) ![0, 0] S256x512.size inb_S256x512_S256x512_0_0).toLoadRect (harg2.unread x1)) (View.readAt (Elt F) arg30.view (Rect.unit (s
          := S256x512) ![0, 0] S256x512.size inb_S256x512_S256x512_0_0).toLoadRect (harg30.unread xs1)) (View.readAt (Elt F) arg3.view (Rect.unit (s
          := S256x512) ![0, 0] S256x512.size inb_S256x512_S256x512_0_0).toLoadRect (harg3.unread x2)) (View.readAt (Elt F) arg4.view (Rect.unit (s :=
          S256x3072) ![0, 0] S256x1024.size inb_S256x3072_S256x1024_0_0).toLoadRect (harg4.unread x3)) (View.readAt (Elt F) arg4.view (Rect.unit (s
          := S256x3072) ![0, 1024] S256x1024.size inb_S256x3072_S256x1024_0_1024).toLoadRect (harg4.unread x3)) (View.readAt (Elt F) arg4.view
          (Rect.unit (s := S256x3072) ![0, 2048] S256x1024.size inb_S256x3072_S256x1024_0_2048).toLoadRect (harg4.unread x3)) (View.readAt (Elt F)
          arg16.view (Rect.unit (s := S1x512x1024) ![0, 0, 0] S1x512x1024.size inb_S1x512x1024_S1x512x1024_0_0_0).toLoadRect (harg16.unread x15))
          (View.readAt (Elt F) arg17.view (Rect.unit (s := S1x512x1024) ![0, 0, 0] S1x512x1024.size inb_S1x512x1024_S1x512x1024_0_0_0).toLoadRect
          (harg17.unread x16)) (View.readAt (Elt F) arg18.view (Rect.unit (s := S1x512x1024) ![0, 0, 0] S1x512x1024.size
          inb_S1x512x1024_S1x512x1024_0_0_0).toLoadRect (harg18.unread x17)) (View.readAt (Elt F) arg19.view (Rect.unit (s := S1x1024x1024) ![0, 0,
          0] S1x1024x1024.size inb_S1x1024x1024_S1x1024x1024_0_0_0).toLoadRect (harg19.unread x18)) (View.readAt (Elt F) arg20.view (Rect.unit (s :=
          S1x1x1024) ![0, 0, 0] S1x1x1024.size inb_S1x1x1024_S1x1x1024_0_0_0).toLoadRect (harg20.unread x19)) (View.readAt (Elt F) arg21.view
          (Rect.unit (s := S1x1024x2816) ![0, 0, 0] S1x1024x1536.size inb_S1x1024x2816_S1x1024x1536_0_0_0).toLoadRect (harg21.unread x20))
          (View.readAt (Elt F) arg22.view (Rect.unit (s := S1x1024x2816) ![0, 0, 0] S1x1024x1536.size inb_S1x1024x2816_S1x1024x1536_0_0_0).toLoadRect
          (harg22.unread x21)) (View.readAt (Elt F) arg23.view (Rect.unit (s := S1x2816x1024) ![0, 0, 0] S1x1536x1024.size
          inb_S1x2816x1024_S1x1536x1024_0_0_0).toLoadRect (harg23.unread x22)) (View.readAt (Elt F) arg21.view (Rect.unit (s := S1x1024x2816) ![0, 0,
          1536] S1x1024x1280.size inb_S1x1024x2816_S1x1024x1280_0_0_1536).toLoadRect (harg21.unread x20)) (View.readAt (Elt F) arg22.view (Rect.unit
          (s := S1x1024x2816) ![0, 0, 1536] S1x1024x1280.size inb_S1x1024x2816_S1x1024x1280_0_0_1536).toLoadRect (harg22.unread x21)) (View.readAt
          (Elt F) arg23.view (Rect.unit (s := S1x2816x1024) ![0, 1536, 0] S1x1280x1024.size inb_S1x2816x1024_S1x1280x1024_0_1536_0).toLoadRect
          (harg23.unread x22)) (View.readAt (Elt F) arg24.view (Rect.unit (s := S1x1x1024) ![0, 0, 0] S1x1x1024.size
          inb_S1x1x1024_S1x1x1024_0_0_0).toLoadRect (harg24.unread x23)) (View.readAt (Elt F) arg25.view (Rect.unit (s := S1x1024x1024) ![0, 0, 0]
          S1x1024x1024.size inb_S1x1024x1024_S1x1024x1024_0_0_0).toLoadRect (harg25.unread x24)) (View.readAt (Elt F) arg5.view (Rect.unit (s :=
          S1x256x256) ![0, 0, 0] S1x256x256.size inb_S1x256x256_S1x256x256_0_0_0).toLoadRect (harg5.unread x4)) (View.readAt (Elt F) arg26.view
          (Rect.unit (s := S1x256x1024) ![0, 0, 0] S1x256x1024.size inb_S1x256x1024_S1x256x1024_0_0_0).toLoadRect (harg26.unread x25)) (View.readAt
          (Elt F) arg27.view (Rect.unit (s := S1x1024) ![0, 0] S1x1024.size inb_S1x1024_S1x1024_0_0).toLoadRect (harg27.unread x26)))⟩] := by
  rfl

end Cert.Post

end
-- ==== Proof.PostMath.lean ====
/- One row of the last call, on the extended reals: the convolution with its norm, the merge of the branches, the
   feed-forward part, the per-layer embedding, the final norm. -/
module

public import proofs.«01_k».proof.Proof.ProjMath

@[expose] public section

noncomputable section

namespace Cert.Post

open Idealize.ShloMosaic Cert.Proj

/-- The mean of 512 entries. -/
def mean (y : Fin 512 → EReal) : EReal := Ideal.div (∑ l, y l) (Ideal.ofBits .f32 0x44000000#32)

/-- A row less its mean, over its deviation, with gain and shift. -/
def layerNorm (y g β : Fin 512 → EReal) (l : Fin 512) : EReal :=
  (y l - mean y) * Ideal.rsqrt (mean (fun k => (y k - mean y) * (y k - mean y)) + Ideal.ofBits .f32 0x358637BD#32) * g l + β l

/-- The silu of the layer norm. -/
def normed (y g β : Fin 512 → EReal) (l : Fin 512) : EReal := layerNorm y g β l * sigmoid (layerNorm y g β l)

/-- 31 taps and the bias; `z j` is the input row under tap `j`. -/
def convRow (z w : ℕ → Fin 512 → EReal) (b : Fin 512 → EReal) (l : Fin 512) : EReal := ∑ j : Fin 31, z j.val l * w j.val l + b l

/-- The gated sum of the three branches. -/
def merge (ya yb yc : Fin 512 → EReal) (ga gb gc : Fin 1024 → EReal) (wa wb wc : Fin 512 → Fin 1024 → EReal) (e : Fin 1024) : EReal :=
  ga e * (∑ a, ya a * wa a e) + gb e * (∑ a, yb a * wb a e) + gc e * (∑ a, yc a * wc a e)

/-- The stream after the output projection. -/
def stream (x mg : Fin 1024 → EReal) (wo : Fin 1024 → Fin 1024 → EReal) (e : Fin 1024) : EReal := x e + ∑ a, mg a * wo a e

/-- One hidden entry of the feed-forward part. -/
def hidden (h : Fin 1024 → EReal) (wg wu : Fin 1024 → Fin 2816 → EReal) (f : Fin 2816) : EReal :=
  (∑ a, h a * wg a f) * sigmoid (∑ a, h a * wg a f) * ∑ a, h a * wu a f

/-- The stream after the feed-forward part. -/
def fed (x nf : Fin 1024 → EReal) (wg wu : Fin 1024 → Fin 2816 → EReal) (wd : Fin 2816 → Fin 1024 → EReal) (e : Fin 1024) : EReal :=
  x e + ∑ f, hidden (rowNorm x nf) wg wu f * wd f e

/-- The stream after the per-layer embedding. -/
def embedded (x np : Fin 1024 → EReal) (wg : Fin 1024 → Fin 1024 → EReal) (p : Fin 256 → EReal) (wi : Fin 256 → Fin 1024 → EReal) (e : Fin 1024) : EReal :=
  x e + sigmoid (∑ a, rowNorm x np a * wg a e) * ∑ a, p a * wi a e

/-- A sum over the hidden entries is the sum over the first 1536 and the sum over the last 1280. -/
theorem sum_hidden (f : Fin 2816 → EReal) :
    ∑ k, f k = (∑ k : Fin 1536, f ⟨k.val, by omega⟩) + ∑ k : Fin 1280, f ⟨1536 + k.val, by omega⟩ :=
  Fin.sum_univ_add (a := 1536) (b := 1280) f

theorem sum_four (f : ℕ → EReal) : ∑ j : Fin 31, f j.val
    = ((((((((f 7 + f 15) + f 23) + (((f 0 + f 8) + f 16) + f 24)) + (((f 1 + f 9) + f 17) + f 25)) + (((f 2 + f 10) + f 18) + f 26))
      + (((f 3 + f 11) + f 19) + f 27)) + (((f 4 + f 12) + f 20) + f 28)) + (((f 5 + f 13) + f 21) + f 29)) + (((f 6 + f 14) + f 22) + f 30) := by
  rw [Fin.sum_univ_eq_sum_range (fun j => f j) 31]
  simp only [Finset.sum_range_succ, Finset.sum_range_zero, zero_add]
  abel

theorem ofBits_zero : Ideal.ofBits .f32 0x00000000#32 = (0 : EReal) := by simp [Ideal.ofBits, Ideal.ieee]

end Cert.Post

end
-- ==== Proof.PostRows.lean ====
/- The convolution tile at an entry: 31 taps on rows of the buffer, the bias, the layer norm and its silu. -/
module

public import proofs.«01_k».proof.Proof.PostConv
public import proofs.«01_k».proof.Proof.PostMath
public import Idealize.ShloMosaic.Lib.Pointwise

@[expose] public section

set_option maxRecDepth 16384

noncomputable section

namespace Cert.Post

open Cert.Kernel2Ideal Cert.Kernel2Ideal.Gen Idealize.ShloMosaic Idealize.ShloMosaic.TcCoe Idealize.SL.Sem Cert.Proj

theorem slice_at (o : ℕ) (ho : o < 9) (x : FVec Ideal S72x256 .f32) (h : S72x256.Slices ![o, 0] S64x256) (i : Fin 64) (e : Fin 256) :
    extractStridedSlice S64x256 ![o, 0] x h (ix2 i e) = x (ix2 ⟨o + i.val, by omega⟩ e) := by
  pointwise

theorem term_at (b : Vec Ideal S72x256 .f32) (w : Vec Ideal S1x1x256 .f32) (q : Fin 72) (e : Fin 256) :
    term b w (ix2 q e) = b (ix2 q e) * w (ix3 0 0 e) := by
  pointwise [term]

theorem rows8_at (y : FVec Ideal S64x512 .f32) (k : ℕ) (s : Fin 8) (l : Fin 512) :
    rows8 y k (ix2 s l) = y (ix2 ⟨8 * (k % 8) + s.val, by omega⟩ l) := by
  pointwise [rows8]

theorem centred_at (y : FVec Ideal S8x512 .f32) (s : Fin 8) (l : Fin 512) :
    centred y (ix2 s l) = y (ix2 s l) - mean (fun k => y (ix2 s k)) := by
  pointwise [centred, mean]

theorem scaled_at (d : FVec Ideal S8x512 .f32) (g β : Vec Ideal S1x1x512 .f32) (s : Fin 8) (l : Fin 512) :
    scaled d g β (ix2 s l) = d (ix2 s l) * Ideal.rsqrt (mean (fun k => d (ix2 s k) * d (ix2 s k)) + Ideal.ofBits .f32 0x358637BD#32)
      * g (ix3 0 0 l) + β (ix3 0 0 l) := by
  pointwise [scaled, mean]

theorem silu8_at (y : FVec Ideal S8x512 .f32) (s : Fin 8) (l : Fin 512) : silu8 y (ix2 s l) = y (ix2 s l) * sigmoid (y (ix2 s l)) := by
  rw [← zero_sub_sigmoid]
  pointwise [silu8]

theorem link_at (y : FVec Ideal S8x512 .f32) (s : Fin 8) (l : Fin 512) :
    addf y (broadcastTo S8x512 (zero8 (F := Ideal)) broadcasts_S8x1_S8x512) (ix2 s l) = y (ix2 s l) := by
  refine Eq.trans ?_ (add_zero _)
  pointwise [zero8]

/-- Eight rows through the norm and the silu. -/
theorem rows_at (y : FVec Ideal S8x512 .f32) (g β : Vec Ideal S1x1x512 .f32) (s : Fin 8) (l : Fin 512) :
    silu8 (scaled (centred y) g β) (ix2 s l) = normed (fun k => y (ix2 s k)) (fun k => g (ix3 0 0 k)) (fun k => β (ix3 0 0 k)) l := by
  rw [silu8_at, scaled_at, normed, layerNorm]
  simp only [centred_at]

section
variable (b : ℕ → ℕ → Vec Ideal S72x256 .f32) (w : ℕ → ℕ → Vec Ideal S1x1x256 .f32) (bias g β : Vec Ideal S1x1x512 .f32)
variable (B W : ℕ → ℕ → EReal)
variable (hb : ∀ n lh, n < 28 → lh < 2 → ∀ (q : Fin 72) (e : Fin 256), b n lh (ix2 q e) = B (8 * n + q.val) (256 * lh + e.val))
variable (hw : ∀ j lh, j < 31 → lh < 2 → ∀ e : Fin 256, w j lh (ix3 0 0 e) = W j (256 * lh + e.val))
include hb hw

theorem tap_at (r k j o lh : ℕ) (hr : r < 4) (hk : k < 4) (hj : j < 31) (hl : lh < 2) (ho : o < 9) (hjo : j + 1 = 8 * k + o) (i : Fin 64) (e : Fin 256) :
    term (b (8 * r + k) lh) (w j lh) (ix2 ⟨o + i.val, by omega⟩ e)
      = B (64 * r + i.val + 1 + j) (256 * lh + e.val) * W j (256 * lh + e.val) := by
  rw [term_at, hb _ _ (by omega) hl, hw _ _ hj hl]
  exact congrArg (fun n => B n _ * _) (by show 8 * (8 * r + k) + (o + i.val) = _; omega)

theorem four_at (r j lh : ℕ) (hr : r < 4) (hj : j < 7) (hl : lh < 2) (i : Fin 64) (e : Fin 256) :
    four (fun n => b n lh) (fun j => w j lh) r j (ix2 ⟨j + 1 + i.val, by omega⟩ e)
      = ((B (64 * r + i.val + 1 + j) (256 * lh + e.val) * W j (256 * lh + e.val)
        + B (64 * r + i.val + 1 + (j + 8)) (256 * lh + e.val) * W (j + 8) (256 * lh + e.val))
        + B (64 * r + i.val + 1 + (j + 16)) (256 * lh + e.val) * W (j + 16) (256 * lh + e.val))
        + B (64 * r + i.val + 1 + (j + 24)) (256 * lh + e.val) * W (j + 24) (256 * lh + e.val) := by
  rw [← tap_at b w B W hb hw r 0 j (j + 1) lh hr (by omega) (by omega) hl (by omega) (by omega),
    ← tap_at b w B W hb hw r 1 (j + 8) (j + 1) lh hr (by omega) (by omega) hl (by omega) (by omega),
    ← tap_at b w B W hb hw r 2 (j + 16) (j + 1) lh hr (by omega) (by omega) hl (by omega) (by omega),
    ← tap_at b w B W hb hw r 3 (j + 24) (j + 1) lh hr (by omega) (by omega) hl (by omega) (by omega)]
  rfl

theorem three_at (r lh : ℕ) (hr : r < 4) (hl : lh < 2) (i : Fin 64) (e : Fin 256) :
    three (fun n => b n lh) (fun j => w j lh) r (ix2 ⟨0 + i.val, by omega⟩ e)
      = (B (64 * r + i.val + 1 + 7) (256 * lh + e.val) * W 7 (256 * lh + e.val)
        + B (64 * r + i.val + 1 + 15) (256 * lh + e.val) * W 15 (256 * lh + e.val))
        + B (64 * r + i.val + 1 + 23) (256 * lh + e.val) * W 23 (256 * lh + e.val) := by
  rw [← tap_at b w B W hb hw r 1 7 0 lh hr (by omega) (by omega) hl (by omega) (by omega),
    ← tap_at b w B W hb hw r 2 15 0 lh hr (by omega) (by omega) hl (by omega) (by omega),
    ← tap_at b w B W hb hw r 3 23 0 lh hr (by omega) (by omega) hl (by omega) (by omega)]
  rfl

theorem taps_at (r lh : ℕ) (hr : r < 4) (hl : lh < 2) (i : Fin 64) (e : Fin 256) :
    taps (fun n => b n lh) (fun j => w j lh) r (ix2 i e)
      = ∑ j : Fin 31, B (64 * r + i.val + 1 + j.val) (256 * lh + e.val) * W j.val (256 * lh + e.val) := by
  rw [sum_four (fun j => B (64 * r + i.val + 1 + j) (256 * lh + e.val) * W j (256 * lh + e.val))]
  have h := fun j hj => four_at b w B W hb hw r j lh hr hj hl i e
  have h3 := three_at b w B W hb hw r lh hr hl i e
  have a : ∀ (u v : FVec Ideal S64x256 .f32) (y : S64x256.Idx), addf u v y = u y + v y := fun _ _ _ => rfl
  rw [taps, a, a, a, a, a, a, a, slice_at 0 (by omega), slice_at 1 (by omega), slice_at 2 (by omega), slice_at 3 (by omega), slice_at 4 (by omega),
    slice_at 5 (by omega), slice_at 6 (by omega), slice_at 7 (by omega), h3]
  exact congrArg₂ (· + ·) (congrArg₂ (· + ·) (congrArg₂ (· + ·) (congrArg₂ (· + ·) (congrArg₂ (· + ·) (congrArg₂ (· + ·) (congrArg₂ (· + ·) rfl
    (h 0 (by omega))) (h 1 (by omega))) (h 2 (by omega))) (h 3 (by omega))) (h 4 (by omega))) (h 5 (by omega))) (h 6 (by omega))

theorem conv_at (r : ℕ) (hr : r < 4) (i : Fin 64) (l : Fin 512) :
    conv b w bias r (ix2 i l) = convRow (fun j l => B (64 * r + i.val + 1 + j) l.val) (fun j l => W j l.val) (fun l => bias (ix3 0 0 l)) l := by
  have t := fun lh hl e => taps_at b w B W hb hw r lh hr hl i e
  pointwise [conv]
  rw [convRow]
  refine congrArg (· + _) ?_
  by_cases hl : l.val < 256
  · simp only [dif_pos hl]
    refine (t 0 (by omega) ⟨l.val, hl⟩).trans (Finset.sum_congr rfl fun j _ => ?_)
    rw [show 256 * 0 + l.val = l.val from by omega]
  · simp only [dif_neg hl]
    refine (t 1 (by omega) ⟨l.val - 256, by omega⟩).trans (Finset.sum_congr rfl fun j _ => ?_)
    rw [show 256 * 1 + (l.val - 256) = l.val from by omega]

theorem piece_at (k : ℕ) (hk : k < 32) (s : Fin 8) (l : Fin 512) :
    piece b w bias g β k (ix2 s l)
      = normed (convRow (fun j l => B (8 * k + s.val + 1 + j) l.val) (fun j l => W j l.val) (fun l => bias (ix3 0 0 l)))
          (fun l => g (ix3 0 0 l)) (fun l => β (ix3 0 0 l)) l := by
  rw [piece, rows_at]
  congr 1
  funext l
  rw [rows8_at, conv_at b w bias B W hb hw _ (by omega)]
  have e : ∀ j, 64 * (k / 8) + (8 * (k % 8) + s.val) + 1 + j = 8 * k + s.val + 1 + j := fun j => by omega
  simp only [e]

theorem linked_eq (k : ℕ) : linked b w bias g β k = piece b w bias g β k := by
  cases k with
  | zero => rfl
  | succ k =>
    rw [linked, piece]
    congr 3
    funext y
    rw [eq_ix2 y]
    exact link_at _ _ _
end

end Cert.Post

end
-- ==== Proof.PostBlock.lean ====
/- The block that one grid point leaves, and the tile of convolution rows that it leaves for the next point. -/
module

public import proofs.«01_k».proof.Proof.PostPiecesA
public import proofs.«01_k».proof.Proof.PostPiecesB
public import proofs.«01_k».proof.Proof.PostRows
public import Idealize.ShloMosaic.Lib.WholeRead
public import Idealize.ShloMosaic.Lib.Pipeline.ValueKit

@[expose] public section

set_option maxRecDepth 16384

noncomputable section

namespace Cert.Post

open Idealize.ShloMosaic.Pipeline Cert.Kernel2Ideal Cert.Kernel2Ideal.Gen Idealize.ShloMosaic Idealize.ShloMosaic.TcCoe Idealize.SL.Sem

/-- Pieces under a list that already covers an entry do not matter there. -/
theorem canon_over {s : Shape} {e : EltTy} (L L' : List (View.Piece (Elt Ideal) s e)) (y : s.Idx) (h : ∃ p ∈ L, y ∈ p.1.set) :
    View.canon (L ++ L') y = View.canon L y := by
  induction L with
  | nil => obtain ⟨p, hp, -⟩ := h; exact absurd hp (by simp)
  | cons p L ih =>
    obtain ⟨r, w⟩ := p
    by_cases hy : y ∈ r.set
    · obtain ⟨x, hx⟩ : ∃ x, r.emb x = y := r.toLoadRect.exists_idx_of_mem hy
      rw [← hx, List.cons_append, View.canon_cons_emb, View.canon_cons_emb]
    · rw [List.cons_append, View.canon_cons_of_not_mem _ _ hy, View.canon_cons_of_not_mem _ _ hy]
      refine ih ?_
      obtain ⟨q, hq, hm⟩ := h
      rcases List.mem_cons.mp hq with rfl | hq
      · exact absurd hm hy
      · exact ⟨q, hq, hm⟩

/-- The buffer's rows: the rows before the tile, the tile, the rows after it. -/
def bufVec (p : FVec Ideal S16x512 .f32) (z : FVec Ideal S256x512 .f32) (n : FVec Ideal S16x512 .f32) : Vec Ideal S288x512 .f32 := fun y =>
  if h : (y 0).val < 16 then p (ix2 ⟨(y 0).val, h⟩ (y 1))
  else if h' : (y 0).val < 272 then z (ix2 ⟨(y 0).val - 16, by omega⟩ (y 1))
  else n (ix2 ⟨(y 0).val - 272, by have : (y 0).val < 288 := (y 0).isLt; omega⟩ (y 1))

theorem mem_buf (p : FVec Ideal S16x512 .f32) (z : FVec Ideal S256x512 .f32) (n : FVec Ideal S16x512 .f32) (y : S288x512.Idx) :
    ∃ q ∈ bufPieces p z n, y ∈ q.1.set := by
  have hy : (y 0).val < 288 := (y 0).isLt
  by_cases h : (y 0).val < 16
  · refine ⟨_, List.mem_cons_of_mem _ (List.mem_cons_of_mem _ List.mem_cons_self), ?_⟩
    have e : y = (Rect.unit (s := S288x512) ![0, 0] S16x512.size inb_S288x512_S16x512_0_0).idx (ix2 (⟨(y 0).val, h⟩ : Fin 16) (y 1)) := by
      funext a; apply Fin.ext; fin_cases a <;> simp [Rect.idx_unit_val]
    rw [e]; exact LoadRect.idx_mem (Rect.toLoadRect _) _
  by_cases h' : (y 0).val < 272
  · refine ⟨_, List.mem_cons_of_mem _ List.mem_cons_self, ?_⟩
    have e : y = (Rect.unit (s := S288x512) ![16, 0] S256x512.size inb_S288x512_S256x512_16_0).idx (ix2 (⟨(y 0).val - 16, by omega⟩ : Fin 256) (y 1)) := by
      funext a; apply Fin.ext; fin_cases a <;> simp [Rect.idx_unit_val]; omega
    rw [e]; exact LoadRect.idx_mem (Rect.toLoadRect _) _
  · refine ⟨_, List.mem_cons_self, ?_⟩
    have e : y = (Rect.unit (s := S288x512) ![272, 0] S16x512.size inb_S288x512_S16x512_272_0).idx (ix2 (⟨(y 0).val - 272, by omega⟩ : Fin 16) (y 1)) := by
      funext a; apply Fin.ext; fin_cases a <;> simp [Rect.idx_unit_val]; omega
    rw [e]; exact LoadRect.idx_mem (Rect.toLoadRect _) _

theorem canon_buf (p : FVec Ideal S16x512 .f32) (z : FVec Ideal S256x512 .f32) (n : FVec Ideal S16x512 .f32) :
    View.canon (bufPieces p z n) = bufVec p z n := by
  funext y
  refine View.canon_apply_of_pieces (Val := Elt Ideal) (bufVec p z n) _ ?_ y (mem_buf p z n y)
  intro q hq x
  rcases List.mem_cons.mp hq with rfl | hq
  · have h0 : (((Rect.unit (s := S288x512) ![272, 0] S16x512.size inb_S288x512_S16x512_272_0).emb x) 0).val = 272 + (x 0).val := Rect.idx_unit_val ..
    have h1 : (((Rect.unit (s := S288x512) ![272, 0] S16x512.size inb_S288x512_S16x512_272_0).emb x) 1).val = 0 + (x 1).val := Rect.idx_unit_val ..
    show n x = bufVec p z n ((Rect.unit (s := S288x512) ![272, 0] S16x512.size inb_S288x512_S16x512_272_0).emb x)
    rw [bufVec, dif_neg (by omega), dif_neg (by omega)]
    refine congrArg n ?_
    funext a; apply Fin.ext; fin_cases a
    · show (x 0).val = _ - 272; omega
    · exact (h1.trans (Nat.zero_add _)).symm
  rcases List.mem_cons.mp hq with rfl | hq
  · have h0 : (((Rect.unit (s := S288x512) ![16, 0] S256x512.size inb_S288x512_S256x512_16_0).emb x) 0).val = 16 + (x 0).val := Rect.idx_unit_val ..
    have h1 : (((Rect.unit (s := S288x512) ![16, 0] S256x512.size inb_S288x512_S256x512_16_0).emb x) 1).val = 0 + (x 1).val := Rect.idx_unit_val ..
    have hx : (x 0).val < 256 := (x 0).isLt
    show z x = bufVec p z n ((Rect.unit (s := S288x512) ![16, 0] S256x512.size inb_S288x512_S256x512_16_0).emb x)
    rw [bufVec, dif_neg (by omega), dif_pos (by omega)]
    refine congrArg z ?_
    funext a; apply Fin.ext; fin_cases a
    · show (x 0).val = _ - 16; omega
    · exact (h1.trans (Nat.zero_add _)).symm
  · obtain rfl := List.mem_singleton.mp hq
    have h0 : (((Rect.unit (s := S288x512) ![0, 0] S16x512.size inb_S288x512_S16x512_0_0).emb x) 0).val = 0 + (x 0).val := Rect.idx_unit_val ..
    have h1 : (((Rect.unit (s := S288x512) ![0, 0] S16x512.size inb_S288x512_S16x512_0_0).emb x) 1).val = 0 + (x 1).val := Rect.idx_unit_val ..
    have hx : (x 0).val < 16 := (x 0).isLt
    show p x = bufVec p z n ((Rect.unit (s := S288x512) ![0, 0] S16x512.size inb_S288x512_S16x512_0_0).emb x)
    rw [bufVec, dif_pos (by omega)]
    refine congrArg p ?_
    funext a; apply Fin.ext; fin_cases a
    · exact (h0.trans (Nat.zero_add _)).symm
    · exact (h1.trans (Nat.zero_add _)).symm

theorem canon_buf_over (p : FVec Ideal S16x512 .f32) (z : FVec Ideal S256x512 .f32) (n : FVec Ideal S16x512 .f32)
    (L : List (View.Piece (Elt Ideal) S288x512 .f32)) : View.canon (bufPieces p z n ++ L) = bufVec p z n := by
  funext y
  rw [canon_over _ _ _ (mem_buf p z n y), canon_buf]

/-- An entry of the buffer, by row and column. -/
def entry (v : Vec Ideal S288x512 .f32) (n l : ℕ) : EReal := if h : n < 288 ∧ l < 512 then v (ix2 ⟨n, h.1⟩ ⟨l, h.2⟩) else 0
/-- An entry of the weights, by tap and column. -/
def tapAt (w : Vec Ideal S1x31x512 .f32) (j l : ℕ) : EReal := if h : j < 31 ∧ l < 512 then w (ix3 0 ⟨j, h.1⟩ ⟨l, h.2⟩) else 0

/-- A tile of convolution rows after their norm and silu, from the buffer. -/
def tileY (v : Vec Ideal S288x512 .f32) (w : Vec Ideal S1x31x512 .f32) (b g β : Vec Ideal S1x1x512 .f32) : Vec Ideal S256x512 .bf16 := fun y =>
  normed (convRow (fun j l => entry v ((y 0).val + 1 + j) l.val) (fun j l => tapAt w j l.val) (fun l => b (ix3 0 0 l)))
    (fun l => g (ix3 0 0 l)) (fun l => β (ix3 0 0 l)) (y 1)

theorem mem_tile (q : ℕ → FVec Ideal S8x512 .bf16) (y : S256x512.Idx) : ∃ p ∈ pieces q, y ∈ p.1.set := by
  have hy : (y 0).val < 256 := (y 0).isLt
  have hc : ∀ k : Fin 32, k ∈ [(31 : Fin 32), 30, 29, 28, 27, 26, 25, 24, 23, 22, 21, 20, 19, 18, 17, 16, 15, 14, 13, 12, 11, 10, 9, 8, 7, 6, 5, 4, 3, 2, 1, 0] := by decide
  refine ⟨_, List.mem_map.mpr ⟨⟨(y 0).val / 8, by omega⟩, hc _, rfl⟩, ?_⟩
  have e : (rectY ⟨(y 0).val / 8, by omega⟩).idx (ix2 (⟨(y 0).val % 8, Nat.mod_lt _ (by decide)⟩ : Fin 8) (y 1)) = y := by
    funext a; apply Fin.ext
    fin_cases a
    · simp [Rect.idx_unit_val]; omega
    · simp [Rect.idx_unit_val]
  have := (rectY ⟨(y 0).val / 8, by omega⟩).toLoadRect.idx_mem (ix2 (⟨(y 0).val % 8, Nat.mod_lt _ (by decide)⟩ : Fin 8) (y 1))
  rwa [e] at this

section
variable (b : ℕ → ℕ → Vec Ideal S72x256 .f32) (w : ℕ → ℕ → Vec Ideal S1x1x256 .f32) (bias g β : Vec Ideal S1x1x512 .f32)
variable (v : Vec Ideal S288x512 .f32) (ww : Vec Ideal S1x31x512 .f32)
variable (hb : ∀ n lh, b n lh = fun z => v ((rectB n lh).idx z)) (hw : ∀ j lh, w j lh = fun z => ww ((rectW j lh).idx z))
include hb hw

theorem piece_tile (k : ℕ) (hk : k < 32) (x : S8x512.Idx) (y : S256x512.Idx) (h0 : (y 0).val = 8 * k + (x 0).val) (h1 : (y 1).val = (x 1).val) :
    piece b w bias g β k x = tileY v ww bias g β y := by
  have hx : (x 0).val < 8 := (x 0).isLt
  have e := piece_at b w bias g β (entry v) (tapAt ww) ?_ ?_ k hk (x 0) (x 1)
  · refine (congrArg _ (eq_ix2 x)).trans (e.trans ?_)
    rw [tileY, h0, show y 1 = x 1 from Fin.ext h1]
  · intro n lh hn hl q e
    have hq := q.isLt
    have he := e.isLt
    rw [hb, entry, dif_pos ⟨by omega, by omega⟩]
    refine congrArg v ?_
    funext a; apply Fin.ext
    fin_cases a
    · simp [Rect.idx_unit_val]; omega
    · simp [Rect.idx_unit_val]; omega
  · intro j lh hj hl e
    have he := e.isLt
    rw [hw, tapAt, dif_pos ⟨by omega, by omega⟩]
    refine congrArg ww ?_
    funext a; apply Fin.ext
    fin_cases a
    · simp [Rect.idx_unit_val]
    · simp [Rect.idx_unit_val]; omega
    · simp [Rect.idx_unit_val]; omega

theorem canon_tile (q : ℕ → FVec Ideal S8x512 .bf16) (hq : ∀ k, q k = piece b w bias g β k) : View.canon (pieces q) = tileY v ww bias g β := by
  funext y
  refine View.canon_apply_of_pieces (Val := Elt Ideal) (tileY v ww bias g β) _ ?_ y (mem_tile q y)
  intro p hp x
  obtain ⟨k, -, rfl⟩ := List.mem_map.mp hp
  refine (congrFun (hq k.val) x).trans (piece_tile b w bias g β v ww hb hw k.val k.isLt x _ (Rect.idx_unit_val (inb := inb_y k) ..) ?_)
  exact (Rect.idx_unit_val (inb := inb_y k) ..).trans (Nat.zero_add _)

theorem canon_piece : View.canon (pieces (piece b w bias g β)) = tileY v ww bias g β :=
  canon_tile b w bias g β v ww hb hw _ fun _ => rfl

theorem canon_linked : View.canon (pieces (linked b w bias g β)) = tileY v ww bias g β :=
  canon_tile b w bias g β v ww hb hw _ fun k => linked_eq b w bias g β (entry v) (tapAt ww)
    (fun n lh hn hl q e => by
      have hq := q.isLt
      have he := e.isLt
      rw [hb, entry, dif_pos ⟨by omega, by omega⟩]
      refine congrArg v ?_
      funext a; apply Fin.ext
      fin_cases a
      · simp [Rect.idx_unit_val]; omega
      · simp [Rect.idx_unit_val]; omega)
    (fun j lh hj hl e => by
      have he := e.isLt
      rw [hw, tapAt, dif_pos ⟨by omega, by omega⟩]
      refine congrArg ww ?_
      funext a; apply Fin.ext
      fin_cases a
      · simp [Rect.idx_unit_val]
      · simp [Rect.idx_unit_val]; omega
      · simp [Rect.idx_unit_val]; omega) k
end

theorem canon_one (v : FVec Ideal S256x1024 .f32) :
    View.canon [(⟨Rect.unit (s := S256x1024) ![0, 0] ![256, 1024] inb_S256x1024_S256x1024_0_0, v⟩ : View.Piece (Elt Ideal) S256x1024 .f32)] = v := by
  funext y
  have e : (Rect.unit (s := S256x1024) ![0, 0] ![256, 1024] inb_S256x1024_S256x1024_0_0).emb y = y := by
    funext a; apply Fin.ext
    refine (Rect.idx_unit_val (inb := inb_S256x1024_S256x1024_0_0) ..).trans ?_
    fin_cases a <;> exact Nat.zero_add _
  have := View.canon_cons_emb (Val := Elt Ideal) (e := .f32) (Rect.unit (s := S256x1024) ![0, 0] ![256, 1024] inb_S256x1024_S256x1024_0_0) v [] y
  rw [e] at this
  exact this

/-- A load of a staged block through a rectangle. -/
theorem readAt_fun {sp : Space} {s : Shape} {e : EltTy} {M : Memref sig .tc sp s e} (h : M.IsWhole) (B : LoadRect s) (X : Vec Ideal s e) :
    View.readAt (Elt Ideal) M.view B (h.unread X) = fun x => X (B.idx x) :=
  funext fun x => h.readAt_unread X B x

theorem idx_whole {s : Shape} (off : Fin s.rank → ℕ) (ho : ∀ a, off a = 0) (inb) (x : s.Idx) : (Rect.unit (s := s) off s.size inb).idx x = x := by
  funext a; apply Fin.ext
  exact (Rect.idx_unit_val (inb := inb) ..).trans (by rw [ho, Nat.zero_add])

theorem readAt_whole {sp : Space} {s : Shape} {e : EltTy} {M : Memref sig .tc sp s e} (h : M.IsWhole) (off : Fin s.rank → ℕ) (ho : ∀ a, off a = 0)
    (inb) (X : Vec Ideal s e) : View.readAt (Elt Ideal) M.view (Rect.unit (s := s) off s.size inb).toLoadRect (h.unread X) = X :=
  funext fun x => (h.readAt_unread X _ x).trans (congrArg X (idx_whole off ho inb x))

/-- A load of a whole staged matrix. -/
theorem readAt_two {sp : Space} {m n : ℕ} {e : EltTy} {M : Memref sig .tc sp ⟨2, ![m, n]⟩ e} (h : M.IsWhole) (inb) (X : Vec Ideal ⟨2, ![m, n]⟩ e) :
    View.readAt (Elt Ideal) M.view (Rect.unit (s := ⟨2, ![m, n]⟩) ![0, 0] ![m, n] inb).toLoadRect (h.unread X) = X :=
  readAt_whole h ![0, 0] (by intro a; match a with | 0 => rfl | 1 => rfl) inb X

/-- A load of a whole staged array of three axes. -/
theorem readAt_three {sp : Space} {k m n : ℕ} {e : EltTy} {M : Memref sig .tc sp ⟨3, ![k, m, n]⟩ e} (h : M.IsWhole) (inb)
    (X : Vec Ideal ⟨3, ![k, m, n]⟩ e) :
    View.readAt (Elt Ideal) M.view (Rect.unit (s := ⟨3, ![k, m, n]⟩) ![0, 0, 0] ![k, m, n] inb).toLoadRect (h.unread X) = X :=
  readAt_whole h ![0, 0, 0] (by intro a; match a with | 0 => rfl | 1 => rfl | 2 => rfl) inb X

/-- The block of one grid point: the rest of the call on the point's blocks and a tile `yb` of convolution rows. -/
def blockOut (x0 : Vec Ideal S256x1024 .f32) (x1 : Vec Ideal S256x512 .bf16) (x2 : Vec Ideal S256x512 .bf16) (x3 : Vec Ideal S256x3072 .bf16) (x4 : Vec Ideal S1x256x256 .f32) (x15 : Vec Ideal S1x512x1024 .bf16) (x16 : Vec Ideal S1x512x1024 .bf16) (x17 : Vec Ideal S1x512x1024 .bf16) (x18 : Vec Ideal S1x1024x1024 .bf16) (x19 : Vec Ideal S1x1x1024 .f32) (x20 : Vec Ideal S1x1024x2816 .bf16) (x21 : Vec Ideal S1x1024x2816 .bf16) (x22 : Vec Ideal S1x2816x1024 .bf16) (x23 : Vec Ideal S1x1x1024 .f32) (x24 : Vec Ideal S1x1024x1024 .bf16) (x25 : Vec Ideal S1x256x1024 .bf16) (x26 : Vec Ideal S1x1024 .f32) (yb : Vec Ideal S256x512 .bf16) : Vec Ideal S256x1024 .f32 :=
  tail x0 x1 yb x2 (fun z => x3 ((Rect.unit (s := S256x3072) ![0, 0] S256x1024.size inb_S256x3072_S256x1024_0_0).idx z)) (fun z => x3 ((Rect.unit (s
    := S256x3072) ![0, 1024] S256x1024.size inb_S256x3072_S256x1024_0_1024).idx z)) (fun z => x3 ((Rect.unit (s := S256x3072) ![0, 2048]
    S256x1024.size inb_S256x3072_S256x1024_0_2048).idx z)) x15 x16 x17 x18 x19 (fun z => x20 ((Rect.unit (s := S1x1024x2816) ![0, 0, 0]
    S1x1024x1536.size inb_S1x1024x2816_S1x1024x1536_0_0_0).idx z)) (fun z => x21 ((Rect.unit (s := S1x1024x2816) ![0, 0, 0] S1x1024x1536.size
    inb_S1x1024x2816_S1x1024x1536_0_0_0).idx z)) (fun z => x22 ((Rect.unit (s := S1x2816x1024) ![0, 0, 0] S1x1536x1024.size
    inb_S1x2816x1024_S1x1536x1024_0_0_0).idx z)) (fun z => x20 ((Rect.unit (s := S1x1024x2816) ![0, 0, 1536] S1x1024x1280.size
    inb_S1x1024x2816_S1x1024x1280_0_0_1536).idx z)) (fun z => x21 ((Rect.unit (s := S1x1024x2816) ![0, 0, 1536] S1x1024x1280.size
    inb_S1x1024x2816_S1x1024x1280_0_0_1536).idx z)) (fun z => x22 ((Rect.unit (s := S1x2816x1024) ![0, 1536, 0] S1x1280x1024.size
    inb_S1x2816x1024_S1x1280x1024_0_1536_0).idx z)) x23 x24 x4 x25 x26

section
variable (c : Dev nD) (i : grid0.Coords)
variable (arg1 : Memref sig .tc .vmem S256x1024 .f32) (harg1 : arg1.IsWhole) (arg2 : Memref sig .tc .vmem S256x512 .bf16) (harg2 : arg2.IsWhole)
  (arg3 : Memref sig .tc .vmem S256x512 .bf16) (harg3 : arg3.IsWhole) (arg4 : Memref sig .tc .vmem S256x3072 .bf16) (harg4 : arg4.IsWhole) (arg5 :
  Memref sig .tc .vmem S1x256x256 .f32) (harg5 : arg5.IsWhole) (arg6 : Memref sig .tc .vmem S1x16x512 .f32) (harg6 : arg6.IsWhole) (arg7 : Memref sig
  .tc .vmem S1x256x512 .f32) (harg7 : arg7.IsWhole) (arg8 : Memref sig .tc .vmem S1x16x512 .f32) (harg8 : arg8.IsWhole) (arg9 : Memref sig .tc .vmem
  S1x16x512 .f32) (harg9 : arg9.IsWhole) (arg10 : Memref sig .tc .vmem S1x256x512 .f32) (harg10 : arg10.IsWhole) (arg11 : Memref sig .tc .vmem
  S1x16x512 .f32) (harg11 : arg11.IsWhole) (arg12 : Memref sig .tc .vmem S1x31x512 .f32) (harg12 : arg12.IsWhole) (arg13 : Memref sig .tc .vmem
  S1x1x512 .f32) (harg13 : arg13.IsWhole) (arg14 : Memref sig .tc .vmem S1x1x512 .f32) (harg14 : arg14.IsWhole) (arg15 : Memref sig .tc .vmem
  S1x1x512 .f32) (harg15 : arg15.IsWhole) (arg16 : Memref sig .tc .vmem S1x512x1024 .bf16) (harg16 : arg16.IsWhole) (arg17 : Memref sig .tc .vmem
  S1x512x1024 .bf16) (harg17 : arg17.IsWhole) (arg18 : Memref sig .tc .vmem S1x512x1024 .bf16) (harg18 : arg18.IsWhole) (arg19 : Memref sig .tc .vmem
  S1x1024x1024 .bf16) (harg19 : arg19.IsWhole) (arg20 : Memref sig .tc .vmem S1x1x1024 .f32) (harg20 : arg20.IsWhole) (arg21 : Memref sig .tc .vmem
  S1x1024x2816 .bf16) (harg21 : arg21.IsWhole) (arg22 : Memref sig .tc .vmem S1x1024x2816 .bf16) (harg22 : arg22.IsWhole) (arg23 : Memref sig .tc
  .vmem S1x2816x1024 .bf16) (harg23 : arg23.IsWhole) (arg24 : Memref sig .tc .vmem S1x1x1024 .f32) (harg24 : arg24.IsWhole) (arg25 : Memref sig .tc
  .vmem S1x1024x1024 .bf16) (harg25 : arg25.IsWhole) (arg26 : Memref sig .tc .vmem S1x256x1024 .bf16) (harg26 : arg26.IsWhole) (arg27 : Memref sig
  .tc .vmem S1x1024 .f32) (harg27 : arg27.IsWhole) (arg28 : Memref sig .tc .vmem S256x1024 .f32) (harg28 : arg28.IsWhole) (arg29 : Memref sig .tc
  .vmem S288x512 .f32) (harg29 : arg29.IsWhole) (arg30 : Memref sig .tc .vmem S256x512 .bf16) (harg30 : arg30.IsWhole)
variable (x0 : Vec Ideal S256x1024 .f32) (x1 : Vec Ideal S256x512 .bf16) (x2 : Vec Ideal S256x512 .bf16) (x3 : Vec Ideal S256x3072 .bf16) (x4 : Vec
  Ideal S1x256x256 .f32) (x5 : Vec Ideal S1x16x512 .f32) (x6 : Vec Ideal S1x256x512 .f32) (x7 : Vec Ideal S1x16x512 .f32) (x8 : Vec Ideal S1x16x512
  .f32) (x9 : Vec Ideal S1x256x512 .f32) (x10 : Vec Ideal S1x16x512 .f32) (x11 : Vec Ideal S1x31x512 .f32) (x12 : Vec Ideal S1x1x512 .f32) (x13 : Vec
  Ideal S1x1x512 .f32) (x14 : Vec Ideal S1x1x512 .f32) (x15 : Vec Ideal S1x512x1024 .bf16) (x16 : Vec Ideal S1x512x1024 .bf16) (x17 : Vec Ideal
  S1x512x1024 .bf16) (x18 : Vec Ideal S1x1024x1024 .bf16) (x19 : Vec Ideal S1x1x1024 .f32) (x20 : Vec Ideal S1x1024x2816 .bf16) (x21 : Vec Ideal
  S1x1024x2816 .bf16) (x22 : Vec Ideal S1x2816x1024 .bf16) (x23 : Vec Ideal S1x1x1024 .f32) (x24 : Vec Ideal S1x1024x1024 .bf16) (x25 : Vec Ideal
  S1x256x1024 .bf16) (x26 : Vec Ideal S1x1024 .f32)

theorem out_A (hc0 : cond0_0 i) :
    out0_A_27 c i arg1 harg1 arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21 arg22 harg22 arg23
      harg23 arg24 harg24 arg25 harg25 arg26 harg26 arg27 harg27 arg28 harg28 arg29 harg29 arg30 harg30 hc0 x0 x1 x2 x3 x4 x5 x6 x7 x8 x9 x10 x11 x12
      x13 x14 x15 x16 x17 x18 x19 x20 x21 x22 x23 x24 x25 x26 = blockOut x0 x1 x2 x3 x4 x15 x16 x17 x18 x19 x20 x21 x22 x23 x24 x25 x26 (tileY
      (bufVec (k0_pay2 x5) (k0_pay3 x6) (k0_pay4 x7)) x11 x12 x13 x14) := by
  unfold out0_A_27
  rw [View.read_writes_junk_eq_canon, result_A, canon_one, blockOut]
  simp only [readAt_two, readAt_three]
  simp only [readAt_fun, View.readCov_eq_canon']
  rw [canon_piece _ _ _ _ _ (bufVec (k0_pay2 x5) (k0_pay3 x6) (k0_pay4 x7)) x11 (fun n lh => by rw [canon_buf]) (fun j lh => rfl)]
  congr 1
  exact funext fun j => congrArg _ (idx_whole (s := S256x512) ![0, 0] (by intro a; match a with | 0 => rfl | 1 => rfl) _ j)

theorem out_B (hc0 : ¬cond0_0 i) (yb : Vec Ideal S256x512 .bf16) :
    out0_B_27 c i arg1 harg1 arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21 arg22 harg22 arg23
      harg23 arg24 harg24 arg25 harg25 arg26 harg26 arg27 harg27 arg28 harg28 arg29 harg29 arg30 harg30 hc0 x0 x1 x2 x3 x4 x5 x6 x7 x8 x9 x10 x11 x12
      x13 x14 x15 x16 x17 x18 x19 x20 x21 x22 x23 x24 x25 x26 yb = blockOut x0 x1 x2 x3 x4 x15 x16 x17 x18 x19 x20 x21 x22 x23 x24 x25 x26 yb := by
  unfold out0_B_27
  rw [View.read_writes_junk_eq_canon, result_B, canon_one, blockOut]
  simp only [readAt_two, readAt_three]
  simp only [readAt_fun]
  rfl

theorem scratch_A (hc0 : cond0_0 i) :
    sout0_A_1 c i arg1 harg1 arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21 arg22 harg22 arg23
      harg23 arg24 harg24 arg25 harg25 arg26 harg26 arg27 harg27 arg28 harg28 arg29 harg29 arg30 harg30 hc0 x0 x1 x2 x3 x4 x5 x6 x7 x8 x9 x10 x11 x12
      x13 x14 x15 x16 x17 x18 x19 x20 x21 x22 x23 x24 x25 x26 = (tileY (bufVec (k0_pay181 i x8) (k0_pay182 x9) (k0_pay183 (kernelRun0_A.sl.v17 i)
      x10)) x11 x12 x13 x14) := by
  unfold sout0_A_1
  rw [View.read_writes_junk_eq_canon, pieces_A]
  funext y
  rw [canon_over _ _ _ (mem_tile _ y)]
  simp only [readAt_two, readAt_three]
  simp only [readAt_fun, View.readCov_eq_canon']
  rw [canon_linked _ _ _ _ _ (bufVec (k0_pay181 i x8) (k0_pay182 x9) (k0_pay183 (kernelRun0_A.sl.v17 i) x10)) x11
    (fun n lh => by rw [canon_buf_over]) (fun j lh => rfl)]

theorem scratch_B (hc0 : ¬cond0_0 i) (yb : Vec Ideal S256x512 .bf16) :
    sout0_B_1 c i arg1 harg1 arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21 arg22 harg22 arg23
      harg23 arg24 harg24 arg25 harg25 arg26 harg26 arg27 harg27 arg28 harg28 arg29 harg29 arg30 harg30 hc0 x0 x1 x2 x3 x4 x5 x6 x7 x8 x9 x10 x11 x12
      x13 x14 x15 x16 x17 x18 x19 x20 x21 x22 x23 x24 x25 x26 yb = (tileY (bufVec (k0_pay181 i x8) (k0_pay182 x9) (k0_pay183 (kernelRun0_A.sl.v17 i)
      x10)) x11 x12 x13 x14) := by
  unfold sout0_B_1
  rw [View.read_writes_junk_eq_canon, pieces_B]
  simp only [readAt_two, readAt_three]
  simp only [readAt_fun, View.readCov_eq_canon']
  rw [canon_linked _ _ _ _ _ (bufVec (k0_pay181 i x8) (k0_pay182 x9) (k0_pay183 (kernelRun0_A.sl.v17 i) x10)) x11
    (fun n lh => by rw [canon_buf]; rfl) (fun j lh => rfl)]
end

end Cert.Post

end
-- ==== Proof.PostSpec.lean ====
/- What a row of the call's result is, from the arguments. -/
module

public import proofs.«01_k».proof.Proof.PostMath

@[expose] public section

noncomputable section

namespace Cert.Post

open Cert.Proj Idealize.ShloMosaic

/-- The input row under tap `j` of row `r`: 15 rows back for tap 0, and nothing across a sequence's ends. -/
def zAt (Z : Fin 16384 → Fin 512 → EReal) (r j : ℕ) (l : Fin 512) : EReal :=
  if h : 15 ≤ r % 4096 + j ∧ r % 4096 + j < 4111 ∧ r < 16384 then Z ⟨r + j - 15, by omega⟩ l else 0

/-- The tap weights by number. -/
def wAt (w : Fin 31 → Fin 512 → EReal) (j : ℕ) (l : Fin 512) : EReal := if h : j < 31 then w ⟨j, h⟩ l else 0

/-- Row `r` of the convolution after its norm and silu. -/
def convAt (Z : Fin 16384 → Fin 512 → EReal) (w : Fin 31 → Fin 512 → EReal) (b g β : Fin 512 → EReal) (r : ℕ) : Fin 512 → EReal :=
  normed (convRow (zAt Z r) (wAt w) b) g β

/-- The rest of the call on one row. -/
def lastRow (x : Fin 1024 → EReal) (ya yb yc : Fin 512 → EReal) (ga gb gc : Fin 1024 → EReal) (wa wb wc : Fin 512 → Fin 1024 → EReal)
    (wo : Fin 1024 → Fin 1024 → EReal) (nf : Fin 1024 → EReal) (wg wu : Fin 1024 → Fin 2816 → EReal) (wd : Fin 2816 → Fin 1024 → EReal)
    (np : Fin 1024 → EReal) (wp : Fin 1024 → Fin 1024 → EReal) (p : Fin 256 → EReal) (wi : Fin 256 → Fin 1024 → EReal) (nl : Fin 1024 → EReal) :
    Fin 1024 → EReal :=
  rowNorm (embedded (fed (stream x (merge ya yb yc ga gb gc wa wb wc) wo) nf wg wu wd) np wp p wi) nl

end Cert.Post

end
-- ==== Proof.PostReads.lean ====
/- Where each grid point's blocks of the last call lie in the arguments: point `t` takes rows `256 t` on, and the rows
   of the next tile for the convolution. -/
module

public import proofs.«01_k».proof.Proof.PostBlock
public import proofs.«01_k».proof.Proof.PostSpec
public import Idealize.ShloMosaic.Lib.Pointwise
public import Idealize.ShloMosaic.Lib.Pipeline.ValueKit

@[expose] public section

set_option maxRecDepth 16384

noncomputable section

namespace Cert.Post

open Idealize.ShloMosaic.Pipeline Cert.Kernel2Ideal Cert.Kernel2Ideal.Gen Idealize.ShloMosaic Idealize.ShloMosaic.TcCoe Idealize.SL.Sem

variable (m : (ℓ : Loc nD τ sig) → Buf (Elt Ideal) ℓ) (c : Dev nD)

theorem t_lt (t : Fin cfg0.N) : t.val < 64 := t.isLt

/-- The tile that a point's convolution prepares. -/
def nxt (t : ℕ) : ℕ := min (t + 1) 63

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 1 ∧ win0_4.index t 1 = t.val ∧ win0_4.index t 2 = 0 :=
  (by decide +kernel : ∀ t : Fin grid0.N, win0_4.index t 0 = 1 ∧ win0_4.index t 1 = t.val ∧ win0_4.index t 2 = 0)
theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem idx7 : ∀ t : Fin cfg0.N, win0_7.index t 0 = 0 ∧ win0_7.index t 1 = 16 ∧ win0_7.index t 2 = 0 :=
  (by decide +kernel : ∀ t : Fin grid0.N, win0_7.index t 0 = 0 ∧ win0_7.index t 1 = 16 ∧ win0_7.index t 2 = 0)
theorem idx8 : ∀ t : Fin cfg0.N, win0_8.index t 0 = nxt t.val / 16 ∧ win0_8.index t 1 = (nxt t.val % 16 * 16 - 1) ∧ win0_8.index t 2 = 0 :=
  (by decide +kernel : ∀ t : Fin grid0.N, win0_8.index t 0 = nxt t.val / 16 ∧ win0_8.index t 1 = (nxt t.val % 16 * 16 - 1) ∧ win0_8.index t 2 = 0)
theorem idx9 : ∀ t : Fin cfg0.N, win0_9.index t 0 = nxt t.val / 16 ∧ win0_9.index t 1 = nxt t.val % 16 ∧ win0_9.index t 2 = 0 :=
  (by decide +kernel : ∀ t : Fin grid0.N, win0_9.index t 0 = nxt t.val / 16 ∧ win0_9.index t 1 = nxt t.val % 16 ∧ win0_9.index t 2 = 0)
theorem idx10 : ∀ t : Fin cfg0.N, win0_10.index t 0 = nxt t.val / 16 ∧ win0_10.index t 1 = min ((nxt t.val % 16 + 1) * 16) 255 ∧ win0_10.index t 2 = 0 :=
  (by decide +kernel : ∀ t : Fin grid0.N, win0_10.index t 0 = nxt t.val / 16 ∧ win0_10.index t 1 = min ((nxt t.val % 16 + 1) * 16) 255 ∧ win0_10.index t 2 = 0)
theorem idx11 : ∀ t : Fin cfg0.N, win0_11.index t 0 = 1 ∧ win0_11.index t 1 = 0 ∧ win0_11.index t 2 = 0 :=
  (by decide +kernel : ∀ t : Fin grid0.N, win0_11.index t 0 = 1 ∧ win0_11.index t 1 = 0 ∧ win0_11.index t 2 = 0)
theorem idx12 : ∀ t : Fin cfg0.N, win0_12.index t 0 = 1 ∧ win0_12.index t 1 = 0 ∧ win0_12.index t 2 = 0 :=
  (by decide +kernel : ∀ t : Fin grid0.N, win0_12.index t 0 = 1 ∧ win0_12.index t 1 = 0 ∧ win0_12.index t 2 = 0)
theorem idx13 : ∀ t : Fin cfg0.N, win0_13.index t 0 = 1 ∧ win0_13.index t 1 = 0 ∧ win0_13.index t 2 = 0 :=
  (by decide +kernel : ∀ t : Fin grid0.N, win0_13.index t 0 = 1 ∧ win0_13.index t 1 = 0 ∧ win0_13.index t 2 = 0)
theorem idx14 : ∀ t : Fin cfg0.N, win0_14.index t 0 = 1 ∧ win0_14.index t 1 = 0 ∧ win0_14.index t 2 = 0 :=
  (by decide +kernel : ∀ t : Fin grid0.N, win0_14.index t 0 = 1 ∧ win0_14.index t 1 = 0 ∧ win0_14.index t 2 = 0)
theorem idx15 : ∀ t : Fin cfg0.N, win0_15.index t 0 = 1 ∧ win0_15.index t 1 = 0 ∧ win0_15.index t 2 = 0 :=
  (by decide +kernel : ∀ t : Fin grid0.N, win0_15.index t 0 = 1 ∧ win0_15.index t 1 = 0 ∧ win0_15.index t 2 = 0)
theorem idx16 : ∀ t : Fin cfg0.N, win0_16.index t 0 = 1 ∧ win0_16.index t 1 = 0 ∧ win0_16.index t 2 = 0 :=
  (by decide +kernel : ∀ t : Fin grid0.N, win0_16.index t 0 = 1 ∧ win0_16.index t 1 = 0 ∧ win0_16.index t 2 = 0)
theorem idx17 : ∀ t : Fin cfg0.N, win0_17.index t 0 = 1 ∧ win0_17.index t 1 = 0 ∧ win0_17.index t 2 = 0 :=
  (by decide +kernel : ∀ t : Fin grid0.N, win0_17.index t 0 = 1 ∧ win0_17.index t 1 = 0 ∧ win0_17.index t 2 = 0)
theorem idx18 : ∀ t : Fin cfg0.N, win0_18.index t 0 = 1 ∧ win0_18.index t 1 = 0 ∧ win0_18.index t 2 = 0 :=
  (by decide +kernel : ∀ t : Fin grid0.N, win0_18.index t 0 = 1 ∧ win0_18.index t 1 = 0 ∧ win0_18.index t 2 = 0)
theorem idx19 : ∀ t : Fin cfg0.N, win0_19.index t 0 = 1 ∧ win0_19.index t 1 = 0 ∧ win0_19.index t 2 = 0 :=
  (by decide +kernel : ∀ t : Fin grid0.N, win0_19.index t 0 = 1 ∧ win0_19.index t 1 = 0 ∧ win0_19.index t 2 = 0)
theorem idx20 : ∀ t : Fin cfg0.N, win0_20.index t 0 = 1 ∧ win0_20.index t 1 = 0 ∧ win0_20.index t 2 = 0 :=
  (by decide +kernel : ∀ t : Fin grid0.N, win0_20.index t 0 = 1 ∧ win0_20.index t 1 = 0 ∧ win0_20.index t 2 = 0)
theorem idx21 : ∀ t : Fin cfg0.N, win0_21.index t 0 = 1 ∧ win0_21.index t 1 = 0 ∧ win0_21.index t 2 = 0 :=
  (by decide +kernel : ∀ t : Fin grid0.N, win0_21.index t 0 = 1 ∧ win0_21.index t 1 = 0 ∧ win0_21.index t 2 = 0)
theorem idx22 : ∀ t : Fin cfg0.N, win0_22.index t 0 = 1 ∧ win0_22.index t 1 = 0 ∧ win0_22.index t 2 = 0 :=
  (by decide +kernel : ∀ t : Fin grid0.N, win0_22.index t 0 = 1 ∧ win0_22.index t 1 = 0 ∧ win0_22.index t 2 = 0)
theorem idx23 : ∀ t : Fin cfg0.N, win0_23.index t 0 = 1 ∧ win0_23.index t 1 = 0 ∧ win0_23.index t 2 = 0 :=
  (by decide +kernel : ∀ t : Fin grid0.N, win0_23.index t 0 = 1 ∧ win0_23.index t 1 = 0 ∧ win0_23.index t 2 = 0)
theorem idx24 : ∀ t : Fin cfg0.N, win0_24.index t 0 = 1 ∧ win0_24.index t 1 = 0 ∧ win0_24.index t 2 = 0 :=
  (by decide +kernel : ∀ t : Fin grid0.N, win0_24.index t 0 = 1 ∧ win0_24.index t 1 = 0 ∧ win0_24.index t 2 = 0)
theorem idx25 : ∀ t : Fin cfg0.N, win0_25.index t 0 = 1 ∧ win0_25.index t 1 = 0 ∧ win0_25.index t 2 = 0 :=
  (by decide +kernel : ∀ t : Fin grid0.N, win0_25.index t 0 = 1 ∧ win0_25.index t 1 = 0 ∧ win0_25.index t 2 = 0)
theorem idx26 : ∀ t : Fin cfg0.N, win0_26.index t 0 = 0 ∧ win0_26.index t 1 = 0 :=
  (by decide +kernel : ∀ t : Fin grid0.N, win0_26.index t 0 = 0 ∧ win0_26.index t 1 = 0)
theorem idx27 : ∀ t : Fin cfg0.N, win0_27.index t 0 = t.val ∧ win0_27.index t 1 = 0 :=
  (by decide +kernel : ∀ t : Fin grid0.N, win0_27.index t 0 = t.val ∧ win0_27.index t 1 = 0)

theorem x_read (t : Fin cfg0.N) (i : Fin 256) (a : Fin 1024) :
    (iblk m c 0 t : Vec Ideal S256x1024 .f32) (ix2 i a) = m ((c : Thread nD τ).loc main_arg0) (ix2 ⟨t.val * 256 + i.val, by have := t_lt t; omega⟩ a) := by
  have e0 := idx0 t
  have := t_lt t
  blk_simp [iblk]; entry_read; pointwise; blk_ext [e0.1, e0.2]

theorem ya_read (t : Fin cfg0.N) (i : Fin 256) (a : Fin 512) :
    (iblk m c 1 t : Vec Ideal S256x512 .bf16) (ix2 i a) = m ((c : Thread nD τ).loc main_arg1) (ix2 ⟨t.val * 256 + i.val, by have := t_lt t; omega⟩ a) := by
  have e0 := idx1 t
  have := t_lt t
  blk_simp [iblk]; entry_read; pointwise; blk_ext [e0.1, e0.2]

theorem yc_read (t : Fin cfg0.N) (i : Fin 256) (a : Fin 512) :
    (iblk m c 2 t : Vec Ideal S256x512 .bf16) (ix2 i a) = m ((c : Thread nD τ).loc main_arg3) (ix2 ⟨t.val * 256 + i.val, by have := t_lt t; omega⟩ a) := by
  have e0 := idx2 t
  have := t_lt t
  blk_simp [iblk]; entry_read; pointwise; blk_ext [e0.1, e0.2]

theorem gate_read (t : Fin cfg0.N) (i : Fin 256) (a : Fin 3072) :
    (iblk m c 3 t : Vec Ideal S256x3072 .bf16) (ix2 i a) = m ((c : Thread nD τ).loc main_arg4) (ix2 ⟨t.val * 256 + i.val, by have := t_lt t; omega⟩ a) := by
  have e0 := idx3 t
  have := t_lt t
  blk_simp [iblk]; entry_read; pointwise; blk_ext [e0.1, e0.2]

theorem p_read (t : Fin cfg0.N) (i : Fin 256) (a : Fin 256) :
    (iblk m c 4 t : Vec Ideal S1x256x256 .f32) (ix3 0 i a) = m ((c : Thread nD τ).loc main_arg5) (ix4 1 ⟨t.val / 16, by have := t_lt t; omega⟩ ⟨t.val % 16 * 256 + i.val, by omega⟩ a) := by
  have e0 := idx4 t
  have := t_lt t
  blk_simp [iblk]; entry_read; pointwise; blk_ext [e0.1, e0.2.1, e0.2.2]

theorem tile_read (t : Fin cfg0.N) (q : Fin 256) (l : Fin 512) :
    (iblk m c 6 t : Vec Ideal S1x256x512 .f32) (ix3 0 q l) = m ((c : Thread nD τ).loc main_arg2) (ix2 ⟨q.val, by omega⟩ l) := by
  have e0 := idx6 t
  have := t_lt t
  blk_simp [iblk]; entry_read; pointwise; blk_ext [e0.1, e0.2.1, e0.2.2]

theorem after_read (t : Fin cfg0.N) (q : Fin 16) (l : Fin 512) :
    (iblk m c 7 t : Vec Ideal S1x16x512 .f32) (ix3 0 q l) = m ((c : Thread nD τ).loc main_arg2) (ix2 ⟨256 + q.val, by omega⟩ l) := by
  have e0 := idx7 t
  have := t_lt t
  blk_simp [iblk]; entry_read; pointwise; blk_ext [e0.1, e0.2.1, e0.2.2]

theorem before_next (t : Fin cfg0.N) (h : nxt t.val % 16 ≠ 0) (q : Fin 16) (l : Fin 512) :
    (iblk m c 8 t : Vec Ideal S1x16x512 .f32) (ix3 0 q l) = m ((c : Thread nD τ).loc main_arg2) (ix2 ⟨nxt t.val * 256 + q.val - 16, by have : nxt t.val ≤ 63 := Nat.min_le_right _ _; omega⟩ l) := by
  have e0 := idx8 t
  have := t_lt t
  have hn : nxt t.val ≤ 63 := Nat.min_le_right _ _
  blk_simp [iblk]; entry_read; pointwise; blk_ext [e0.1, e0.2.1, e0.2.2]

theorem tile_next (t : Fin cfg0.N) (q : Fin 256) (l : Fin 512) :
    (iblk m c 9 t : Vec Ideal S1x256x512 .f32) (ix3 0 q l) = m ((c : Thread nD τ).loc main_arg2) (ix2 ⟨nxt t.val * 256 + q.val, by have : nxt t.val ≤ 63 := Nat.min_le_right _ _; omega⟩ l) := by
  have e0 := idx9 t
  have := t_lt t
  have hn : nxt t.val ≤ 63 := Nat.min_le_right _ _
  blk_simp [iblk]; entry_read; pointwise; blk_ext [e0.1, e0.2.1, e0.2.2]

theorem after_next (t : Fin cfg0.N) (h : nxt t.val % 16 ≠ 15) (q : Fin 16) (l : Fin 512) :
    (iblk m c 10 t : Vec Ideal S1x16x512 .f32) (ix3 0 q l) = m ((c : Thread nD τ).loc main_arg2) (ix2 ⟨nxt t.val * 256 + 256 + q.val, by have : nxt t.val ≤ 63 := Nat.min_le_right _ _; omega⟩ l) := by
  have e0 := idx10 t
  have := t_lt t
  have hn : nxt t.val ≤ 63 := Nat.min_le_right _ _
  blk_simp [iblk]; entry_read; pointwise; blk_ext [e0.1, e0.2.1, e0.2.2]

theorem cw_read (t : Fin cfg0.N) (j : Fin 31) (l : Fin 512) :
    (iblk m c 11 t : Vec Ideal S1x31x512 .f32) (ix3 0 j l) = m ((c : Thread nD τ).loc main_arg6) (ix4 1 j 0 l) := by
  have e0 := idx11 t
  have := t_lt t
  blk_simp [iblk]; entry_read; pointwise; blk_ext [e0.1, e0.2.1, e0.2.2]

theorem cb_read (t : Fin cfg0.N) (l : Fin 512) :
    (iblk m c 12 t : Vec Ideal S1x1x512 .f32) (ix3 0 0 l) = m ((c : Thread nD τ).loc main_arg7) (ix2 1 l) := by
  have e0 := idx12 t
  have := t_lt t
  blk_simp [iblk]; entry_read; pointwise; blk_ext [e0.1, e0.2.1, e0.2.2]

theorem cg_read (t : Fin cfg0.N) (l : Fin 512) :
    (iblk m c 13 t : Vec Ideal S1x1x512 .f32) (ix3 0 0 l) = m ((c : Thread nD τ).loc main_arg8) (ix2 1 l) := by
  have e0 := idx13 t
  have := t_lt t
  blk_simp [iblk]; entry_read; pointwise; blk_ext [e0.1, e0.2.1, e0.2.2]

theorem cs_read (t : Fin cfg0.N) (l : Fin 512) :
    (iblk m c 14 t : Vec Ideal S1x1x512 .f32) (ix3 0 0 l) = m ((c : Thread nD τ).loc main_arg9) (ix2 1 l) := by
  have e0 := idx14 t
  have := t_lt t
  blk_simp [iblk]; entry_read; pointwise; blk_ext [e0.1, e0.2.1, e0.2.2]

theorem wa_read (t : Fin cfg0.N) (a : Fin 512) (e : Fin 1024) :
    (iblk m c 15 t : Vec Ideal S1x512x1024 .bf16) (ix3 0 a e) = m ((c : Thread nD τ).loc main_arg10) (ix3 1 a e) := by
  have e0 := idx15 t
  have := t_lt t
  blk_simp [iblk]; entry_read; pointwise; blk_ext [e0.1, e0.2.1, e0.2.2]

theorem wb_read (t : Fin cfg0.N) (a : Fin 512) (e : Fin 1024) :
    (iblk m c 16 t : Vec Ideal S1x512x1024 .bf16) (ix3 0 a e) = m ((c : Thread nD τ).loc main_arg11) (ix3 1 a e) := by
  have e0 := idx16 t
  have := t_lt t
  blk_simp [iblk]; entry_read; pointwise; blk_ext [e0.1, e0.2.1, e0.2.2]

theorem wc_read (t : Fin cfg0.N) (a : Fin 512) (e : Fin 1024) :
    (iblk m c 17 t : Vec Ideal S1x512x1024 .bf16) (ix3 0 a e) = m ((c : Thread nD τ).loc main_arg12) (ix3 1 a e) := by
  have e0 := idx17 t
  have := t_lt t
  blk_simp [iblk]; entry_read; pointwise; blk_ext [e0.1, e0.2.1, e0.2.2]

theorem wo_read (t : Fin cfg0.N) (a : Fin 1024) (e : Fin 1024) :
    (iblk m c 18 t : Vec Ideal S1x1024x1024 .bf16) (ix3 0 a e) = m ((c : Thread nD τ).loc main_arg13) (ix3 1 a e) := by
  have e0 := idx18 t
  have := t_lt t
  blk_simp [iblk]; entry_read; pointwise; blk_ext [e0.1, e0.2.1, e0.2.2]

theorem wg_read (t : Fin cfg0.N) (a : Fin 1024) (e : Fin 2816) :
    (iblk m c 20 t : Vec Ideal S1x1024x2816 .bf16) (ix3 0 a e) = m ((c : Thread nD τ).loc main_arg15) (ix3 1 a e) := by
  have e0 := idx20 t
  have := t_lt t
  blk_simp [iblk]; entry_read; pointwise; blk_ext [e0.1, e0.2.1, e0.2.2]

theorem wu_read (t : Fin cfg0.N) (a : Fin 1024) (e : Fin 2816) :
    (iblk m c 21 t : Vec Ideal S1x1024x2816 .bf16) (ix3 0 a e) = m ((c : Thread nD τ).loc main_arg16) (ix3 1 a e) := by
  have e0 := idx21 t
  have := t_lt t
  blk_simp [iblk]; entry_read; pointwise; blk_ext [e0.1, e0.2.1, e0.2.2]

theorem wd_read (t : Fin cfg0.N) (a : Fin 2816) (e : Fin 1024) :
    (iblk m c 22 t : Vec Ideal S1x2816x1024 .bf16) (ix3 0 a e) = m ((c : Thread nD τ).loc main_arg17) (ix3 1 a e) := by
  have e0 := idx22 t
  have := t_lt t
  blk_simp [iblk]; entry_read; pointwise; blk_ext [e0.1, e0.2.1, e0.2.2]

theorem wp_read (t : Fin cfg0.N) (a : Fin 1024) (e : Fin 1024) :
    (iblk m c 24 t : Vec Ideal S1x1024x1024 .bf16) (ix3 0 a e) = m ((c : Thread nD τ).loc main_arg20) (ix3 1 a e) := by
  have e0 := idx24 t
  have := t_lt t
  blk_simp [iblk]; entry_read; pointwise; blk_ext [e0.1, e0.2.1, e0.2.2]

theorem wi_read (t : Fin cfg0.N) (a : Fin 256) (e : Fin 1024) :
    (iblk m c 25 t : Vec Ideal S1x256x1024 .bf16) (ix3 0 a e) = m ((c : Thread nD τ).loc main_arg19) (ix3 1 a e) := by
  have e0 := idx25 t
  have := t_lt t
  blk_simp [iblk]; entry_read; pointwise; blk_ext [e0.1, e0.2.1, e0.2.2]

theorem nf_read (t : Fin cfg0.N) (a : Fin 1024) :
    (iblk m c 19 t : Vec Ideal S1x1x1024 .f32) (ix3 0 0 a) = m ((c : Thread nD τ).loc main_arg14) (ix2 1 a) := by
  have e0 := idx19 t
  have := t_lt t
  blk_simp [iblk]; entry_read; pointwise; blk_ext [e0.1, e0.2.1, e0.2.2]

theorem np_read (t : Fin cfg0.N) (a : Fin 1024) :
    (iblk m c 23 t : Vec Ideal S1x1x1024 .f32) (ix3 0 0 a) = m ((c : Thread nD τ).loc main_arg18) (ix2 1 a) := by
  have e0 := idx23 t
  have := t_lt t
  blk_simp [iblk]; entry_read; pointwise; blk_ext [e0.1, e0.2.1, e0.2.2]

theorem nl_read (t : Fin cfg0.N) (a : Fin 1024) :
    (iblk m c 26 t : Vec Ideal S1x1024 .f32) (ix2 0 a) = m ((c : Thread nD τ).loc main_arg21) (ix1 a) := by
  have e0 := idx26 t
  have := t_lt t
  blk_simp [iblk]; entry_read; pointwise; blk_ext [e0.1, e0.2]

/-- Whether the next tile is the last of its sequence. -/
theorem bit_after : ∀ t : Fin cfg0.N, kernelRun0_A.sl.v17 (grid0.coords t) = if nxt t.val % 16 = 15 then 1#1 else 0#1 :=
  (by decide +kernel : ∀ t : Fin grid0.N, kernelRun0_A.sl.v17 (grid0.coords t) = if nxt t.val % 16 = 15 then 1#1 else 0#1)
/-- Whether it is the first. -/
theorem bit_before : ∀ t : Fin cfg0.N, Scalar.cmpi .eq (kernelRun0_A.sl.v15 (grid0.coords t)) 0#32 = if nxt t.val % 16 = 0 then 1#1 else 0#1 :=
  (by decide +kernel : ∀ t : Fin grid0.N, Scalar.cmpi .eq (kernelRun0_A.sl.v15 (grid0.coords t)) 0#32 = if nxt t.val % 16 = 0 then 1#1 else 0#1)

theorem pay2_at (v : Vec Ideal S1x16x512 .f32) (q : Fin 16) (l : Fin 512) : k0_pay2 v (ix2 q l) = 0 := by
  pointwise [k0_pay2]
theorem pay3_at (v : Vec Ideal S1x256x512 .f32) (q : Fin 256) (l : Fin 512) : k0_pay3 v (ix2 q l) = v (ix3 0 q l) := by
  pointwise [k0_pay3]
theorem pay4_at (v : Vec Ideal S1x16x512 .f32) (q : Fin 16) (l : Fin 512) : k0_pay4 v (ix2 q l) = v (ix3 0 q l) := by
  pointwise [k0_pay4]
theorem pay182_at (v : Vec Ideal S1x256x512 .f32) (q : Fin 256) (l : Fin 512) : k0_pay182 v (ix2 q l) = v (ix3 0 q l) := by
  pointwise [k0_pay182]
theorem pay183_one (v : Vec Ideal S1x16x512 .f32) (q : Fin 16) (l : Fin 512) : k0_pay183 1#1 v (ix2 q l) = 0 := by
  pointwise [k0_pay183]
theorem pay183_zero (v : Vec Ideal S1x16x512 .f32) (q : Fin 16) (l : Fin 512) : k0_pay183 0#1 v (ix2 q l) = v (ix3 0 q l) := by
  pointwise [k0_pay183]
theorem pay181_eq (i : grid0.Coords) (v : Vec Ideal S1x16x512 .f32) : k0_pay181 i v = k0_pay183 (Scalar.cmpi .eq (kernelRun0_A.sl.v15 i) 0#32) v := rfl

end Cert.Post

end
-- ==== Proof.PostTail.lean ====
/- The rest of the last call on one tile, row by row. -/
module

public import proofs.«01_k».proof.Proof.PostConv
public import proofs.«01_k».proof.Proof.PostSpec
public import Idealize.ShloMosaic.Lib.Pointwise

@[expose] public section

set_option maxRecDepth 16384

noncomputable section

namespace Cert.Post

open Cert.Kernel2Ideal Cert.Kernel2Ideal.Gen Idealize.ShloMosaic Idealize.ShloMosaic.TcCoe Idealize.SL.Sem Cert.Proj

theorem merged_at (yb : Vec Ideal S256x512 .bf16) (ga : Vec Ideal S256x1024 .bf16) (ya : Vec Ideal S256x512 .bf16) (wa : Vec Ideal S1x512x1024 .bf16)
    (gb : Vec Ideal S256x1024 .bf16) (wb : Vec Ideal S1x512x1024 .bf16) (gc : Vec Ideal S256x1024 .bf16) (yc : Vec Ideal S256x512 .bf16)
    (wc : Vec Ideal S1x512x1024 .bf16) (i : Fin 256) (e : Fin 1024) :
    k0_pay345 yb ga ya wa gb wb gc yc wc (ix2 i e)
      = merge (fun a => ya (ix2 i a)) (fun a => yb (ix2 i a)) (fun a => yc (ix2 i a)) (fun a => ga (ix2 i a)) (fun a => gb (ix2 i a))
          (fun a => gc (ix2 i a)) (fun a e => wa (ix3 0 a e)) (fun a e => wb (ix3 0 a e)) (fun a e => wc (ix3 0 a e)) e := by
  pointwise [k0_pay345, merge]

theorem stream_at (x : Vec Ideal S256x1024 .f32) (mg : FVec Ideal S256x1024 .bf16) (wo : Vec Ideal S1x1024x1024 .bf16) (i : Fin 256) (e : Fin 1024) :
    k0_pay346 x mg wo (ix2 i e) = stream (fun a => x (ix2 i a)) (fun a => mg (ix2 i a)) (fun a e => wo (ix3 0 a e)) e := by
  pointwise [k0_pay346, stream]

theorem norm_at (x : Vec Ideal S256x1024 .f32) (mg : FVec Ideal S256x1024 .bf16) (wo : Vec Ideal S1x1024x1024 .bf16) (nf : Vec Ideal S1x1x1024 .f32)
    (i : Fin 256) (e : Fin 1024) :
    k0_pay347 x mg wo nf (ix2 i e) = rowNorm (fun a => k0_pay346 x mg wo (ix2 i a)) (fun a => nf (ix3 0 0 a)) e := by
  pointwise [k0_pay347, rowNorm]

theorem first_at (x : Vec Ideal S256x1024 .f32) (mg : FVec Ideal S256x1024 .bf16) (wo : Vec Ideal S1x1024x1024 .bf16) (nf : Vec Ideal S1x1x1024 .f32)
    (g0 u0 : Vec Ideal S1x1024x1536 .bf16) (i : Fin 256) (f : Fin 1536) :
    k0_pay348 x mg wo nf g0 u0 (ix2 i f)
      = (∑ a, k0_pay347 x mg wo nf (ix2 i a) * g0 (ix3 0 a f)) * sigmoid (∑ a, k0_pay347 x mg wo nf (ix2 i a) * g0 (ix3 0 a f))
          * ∑ a, k0_pay347 x mg wo nf (ix2 i a) * u0 (ix3 0 a f) := by
  rw [← zero_sub_sigmoid]
  pointwise [k0_pay348]

theorem fed_at (x1 : FVec Ideal S256x1024 .f32) (h : FVec Ideal S256x1024 .bf16) (act : FVec Ideal S256x1536 .bf16) (d0 : Vec Ideal S1x1536x1024 .bf16)
    (g1 u1 : Vec Ideal S1x1024x1280 .bf16) (d1 : Vec Ideal S1x1280x1024 .bf16) (i : Fin 256) (e : Fin 1024) :
    k0_pay350 x1 h act (k0_pay349 d0) g1 u1 d1 (ix2 i e)
      = x1 (ix2 i e) + ((∑ f, act (ix2 i f) * d0 (ix3 0 f e))
          + ∑ f, (∑ a, h (ix2 i a) * g1 (ix3 0 a f)) * sigmoid (∑ a, h (ix2 i a) * g1 (ix3 0 a f)) * (∑ a, h (ix2 i a) * u1 (ix3 0 a f)) * d1 (ix3 0 f e)) := by
  simp only [← zero_sub_sigmoid]
  pointwise [k0_pay350, k0_pay349]

theorem unit_at (x1 : FVec Ideal S256x1024 .f32) (h : FVec Ideal S256x1024 .bf16) (act : FVec Ideal S256x1536 .bf16) (d0 : FVec Ideal S1536x1024 .bf16)
    (g1 u1 : Vec Ideal S1x1024x1280 .bf16) (d1 : Vec Ideal S1x1280x1024 .bf16) (i : Fin 256) (e : Fin 1024) :
    k0_pay351 x1 h act d0 g1 u1 d1 (ix2 i e) = k0_pay350 x1 h act d0 g1 u1 d1 (ix2 i e)
      * Ideal.rsqrt (Ideal.div (∑ b, k0_pay350 x1 h act d0 g1 u1 d1 (ix2 i b) * k0_pay350 x1 h act d0 g1 u1 d1 (ix2 i b)) (Ideal.ofBits .f32 0x44800000#32)
          + Ideal.ofBits .f32 0x358637BD#32) := by
  pointwise [k0_pay351]

theorem gain_at (np : Vec Ideal S1x1x1024 .f32) (i : Fin 256) (e : Fin 1024) : k0_pay352 (zero8 (F := Ideal)) np (ix2 i e) = np (ix3 0 0 e) := by
  refine Eq.trans ?_ (add_zero _)
  pointwise [k0_pay352, zero8]

theorem embedded_at (x2 u gn : FVec Ideal S256x1024 .f32) (wg : Vec Ideal S1x1024x1024 .bf16) (p : Vec Ideal S1x256x256 .f32)
    (wi : Vec Ideal S1x256x1024 .bf16) (i : Fin 256) (e : Fin 1024) :
    k0_pay353 x2 u gn wg p wi (ix2 i e)
      = x2 (ix2 i e) + sigmoid (∑ a, u (ix2 i a) * gn (ix2 i a) * wg (ix3 0 a e)) * ∑ a, p (ix3 0 i a) * wi (ix3 0 a e) := by
  rw [← zero_sub_sigmoid]
  pointwise [k0_pay353]

theorem final_at (x : FVec Ideal S256x1024 .f32) (nl : Vec Ideal S1x1024 .f32) (i : Fin 256) (e : Fin 1024) :
    k0_pay1 x nl (ix2 i e) = rowNorm (fun a => x (ix2 i a)) (fun a => nl (ix2 0 a)) e := by
  pointwise [k0_pay1, rowNorm]

theorem tail_at (x : Vec Ideal S256x1024 .f32) (ya yb yc : Vec Ideal S256x512 .bf16) (ga gb gc : Vec Ideal S256x1024 .bf16)
    (wa wb wc : Vec Ideal S1x512x1024 .bf16) (wo : Vec Ideal S1x1024x1024 .bf16) (nf : Vec Ideal S1x1x1024 .f32)
    (g0 u0 : Vec Ideal S1x1024x1536 .bf16) (d0 : Vec Ideal S1x1536x1024 .bf16) (g1 u1 : Vec Ideal S1x1024x1280 .bf16) (d1 : Vec Ideal S1x1280x1024 .bf16)
    (np : Vec Ideal S1x1x1024 .f32) (wp : Vec Ideal S1x1024x1024 .bf16) (p : Vec Ideal S1x256x256 .f32) (wi : Vec Ideal S1x256x1024 .bf16)
    (nl : Vec Ideal S1x1024 .f32) (wg wu : Fin 1024 → Fin 2816 → EReal) (wd : Fin 2816 → Fin 1024 → EReal)
    (hg0 : ∀ a (f : Fin 1536), g0 (ix3 0 a f) = wg a ⟨f.val, by omega⟩) (hu0 : ∀ a (f : Fin 1536), u0 (ix3 0 a f) = wu a ⟨f.val, by omega⟩)
    (hd0 : ∀ (f : Fin 1536) e, d0 (ix3 0 f e) = wd ⟨f.val, by omega⟩ e)
    (hg1 : ∀ a (f : Fin 1280), g1 (ix3 0 a f) = wg a ⟨1536 + f.val, by omega⟩) (hu1 : ∀ a (f : Fin 1280), u1 (ix3 0 a f) = wu a ⟨1536 + f.val, by omega⟩)
    (hd1 : ∀ (f : Fin 1280) e, d1 (ix3 0 f e) = wd ⟨1536 + f.val, by omega⟩ e) (i : Fin 256) (e : Fin 1024) :
    tail x ya yb yc ga gb gc wa wb wc wo nf g0 u0 d0 g1 u1 d1 np wp p wi nl (ix2 i e)
      = lastRow (fun a => x (ix2 i a)) (fun a => ya (ix2 i a)) (fun a => yb (ix2 i a)) (fun a => yc (ix2 i a)) (fun a => ga (ix2 i a))
          (fun a => gb (ix2 i a)) (fun a => gc (ix2 i a)) (fun a e => wa (ix3 0 a e)) (fun a e => wb (ix3 0 a e)) (fun a e => wc (ix3 0 a e))
          (fun a e => wo (ix3 0 a e)) (fun a => nf (ix3 0 0 a)) wg wu wd (fun a => np (ix3 0 0 a)) (fun a e => wp (ix3 0 a e))
          (fun a => p (ix3 0 i a)) (fun a e => wi (ix3 0 a e)) (fun a => nl (ix2 0 a)) e := by
  have hmg : (fun a => k0_pay345 yb ga ya wa gb wb gc yc wc (ix2 i a)) = _ := funext fun a => merged_at yb ga ya wa gb wb gc yc wc i a
  have hx1 : (fun a => k0_pay346 x (k0_pay345 yb ga ya wa gb wb gc yc wc) wo (ix2 i a)) = _ := funext fun a => (stream_at x _ wo i a).trans (by rw [hmg])
  have hh : (fun a => k0_pay347 x (k0_pay345 yb ga ya wa gb wb gc yc wc) wo nf (ix2 i a)) = _ := funext fun a => (norm_at x _ wo nf i a).trans (by rw [hx1])
  have hx2 : (fun a => k0_pay350 (k0_pay346 x (k0_pay345 yb ga ya wa gb wb gc yc wc) wo) (k0_pay347 x (k0_pay345 yb ga ya wa gb wb gc yc wc) wo nf)
      (k0_pay348 x (k0_pay345 yb ga ya wa gb wb gc yc wc) wo nf g0 u0) (k0_pay349 d0) g1 u1 d1 (ix2 i a))
      = fed (stream (fun a => x (ix2 i a)) (merge (fun a => ya (ix2 i a)) (fun a => yb (ix2 i a)) (fun a => yc (ix2 i a)) (fun a => ga (ix2 i a))
          (fun a => gb (ix2 i a)) (fun a => gc (ix2 i a)) (fun a e => wa (ix3 0 a e)) (fun a e => wb (ix3 0 a e)) (fun a e => wc (ix3 0 a e)))
          (fun a e => wo (ix3 0 a e))) (fun a => nf (ix3 0 0 a)) wg wu wd := by
    funext e
    rw [fed_at, fed, sum_hidden]
    have h0 := fun a => congrFun hh a
    simp only [first_at, h0, hg0, hu0, hd0, hg1, hu1, hd1, hidden]
    rw [congrFun hx1 e]
  rw [tail, final_at, lastRow]
  congr 1
  funext e
  rw [embedded_at, embedded]
  simp only [unit_at, gain_at, fun a => congrFun hx2 a, rowNorm]

end Cert.Post

end
-- ==== Proof.PostArray.lean ====
/- The array that the last call leaves: every row is the row function of the arguments. -/
module

public import proofs.«01_k».proof.Proof.PostReads
public import proofs.«01_k».proof.Proof.PostTail

@[expose] public section

set_option maxRecDepth 16384

noncomputable section

namespace Cert.Post

open Idealize.ShloMosaic.Pipeline Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Row `r` of the convolution, from the arguments. -/
def conv' (r : ℕ) : Fin 512 → EReal :=
  convAt (fun r l => m ((c : Thread nD τ).loc main_arg2) (ix2 r l)) (fun j l => m ((c : Thread nD τ).loc main_arg6) (ix4 1 j 0 l))
    (fun l => m ((c : Thread nD τ).loc main_arg7) (ix2 1 l)) (fun l => m ((c : Thread nD τ).loc main_arg8) (ix2 1 l))
    (fun l => m ((c : Thread nD τ).loc main_arg9) (ix2 1 l)) r

/-- Row `r` of the result, from the arguments and the row of the convolution. -/
def rest (r : Fin 16384) (yb : Fin 512 → EReal) : Fin 1024 → EReal :=
  lastRow (fun a => m ((c : Thread nD τ).loc main_arg0) (ix2 r a)) (fun a => m ((c : Thread nD τ).loc main_arg1) (ix2 r a)) yb
    (fun a => m ((c : Thread nD τ).loc main_arg3) (ix2 r a)) (fun a => m ((c : Thread nD τ).loc main_arg4) (ix2 r ⟨a.val, by omega⟩))
    (fun a => m ((c : Thread nD τ).loc main_arg4) (ix2 r ⟨1024 + a.val, by omega⟩))
    (fun a => m ((c : Thread nD τ).loc main_arg4) (ix2 r ⟨2048 + a.val, by omega⟩))
    (fun a e => m ((c : Thread nD τ).loc main_arg10) (ix3 1 a e)) (fun a e => m ((c : Thread nD τ).loc main_arg11) (ix3 1 a e))
    (fun a e => m ((c : Thread nD τ).loc main_arg12) (ix3 1 a e)) (fun a e => m ((c : Thread nD τ).loc main_arg13) (ix3 1 a e))
    (fun a => m ((c : Thread nD τ).loc main_arg14) (ix2 1 a)) (fun a e => m ((c : Thread nD τ).loc main_arg15) (ix3 1 a e))
    (fun a e => m ((c : Thread nD τ).loc main_arg16) (ix3 1 a e)) (fun a e => m ((c : Thread nD τ).loc main_arg17) (ix3 1 a e))
    (fun a => m ((c : Thread nD τ).loc main_arg18) (ix2 1 a)) (fun a e => m ((c : Thread nD τ).loc main_arg20) (ix3 1 a e))
    (fun a => m ((c : Thread nD τ).loc main_arg5) (ix4 1 ⟨r.val / 4096, by omega⟩ ⟨r.val % 4096, by omega⟩ a))
    (fun a e => m ((c : Thread nD τ).loc main_arg19) (ix3 1 a e)) (fun a => m ((c : Thread nD τ).loc main_arg21) (ix1 a))

theorem bufVec_at (p : FVec Ideal S16x512 .f32) (z : FVec Ideal S256x512 .f32) (n : FVec Ideal S16x512 .f32) (k : ℕ) (hk : k < 288) (l : Fin 512) :
    bufVec p z n (ix2 ⟨k, hk⟩ l) = if h : k < 16 then p (ix2 ⟨k, h⟩ l) else if h' : k < 272 then z (ix2 ⟨k - 16, by omega⟩ l)
      else n (ix2 ⟨k - 272, by omega⟩ l) := rfl

theorem entry_first (t : Fin cfg0.N) (i : Fin 256) (j : Fin 31) (l : Fin 512) :
    entry (bufVec (k0_pay2 (iblk m c 5 t)) (k0_pay3 (iblk m c 6 t)) (k0_pay4 (iblk m c 7 t))) (i.val + 1 + j.val) l.val
      = zAt (fun r l => m ((c : Thread nD τ).loc main_arg2) (ix2 r l)) i.val j.val l := by
  have hi := i.isLt
  have hj := j.isLt
  rw [entry, dif_pos ⟨by omega, l.isLt⟩, bufVec_at, zAt]
  by_cases h1 : i.val + 1 + j.val < 16
  · rw [dif_pos h1, dif_neg (by omega)]
    exact pay2_at _ _ _
  rw [dif_neg h1]
  by_cases h2 : i.val + 1 + j.val < 272
  · rw [dif_pos h2, dif_pos (by omega)]
    refine (pay3_at _ _ _).trans ((tile_read m c t _ _).trans ?_)
    congr 1; congr 1; apply Fin.ext; simp only [ix2]; omega
  · rw [dif_neg h2, dif_pos (by omega)]
    refine (pay4_at _ _ _).trans ((after_read m c t _ _).trans ?_)
    congr 1; congr 1; apply Fin.ext; simp only [ix2]; omega

theorem entry_next (t : Fin cfg0.N) (i : Fin 256) (j : Fin 31) (l : Fin 512) :
    entry (bufVec (k0_pay181 (grid0.coords t) (iblk m c 8 t)) (k0_pay182 (iblk m c 9 t))
        (k0_pay183 (kernelRun0_A.sl.v17 (grid0.coords t)) (iblk m c 10 t))) (i.val + 1 + j.val) l.val
      = zAt (fun r l => m ((c : Thread nD τ).loc main_arg2) (ix2 r l)) (nxt t.val * 256 + i.val) j.val l := by
  have hi := i.isLt
  have hj := j.isLt
  have hn : nxt t.val ≤ 63 := Nat.min_le_right _ _
  rw [entry, dif_pos ⟨by omega, l.isLt⟩, bufVec_at, zAt, pay181_eq, bit_before, bit_after]
  by_cases h1 : i.val + 1 + j.val < 16
  · rw [dif_pos h1]
    by_cases h : nxt t.val % 16 = 0
    · rw [if_pos h, dif_neg (by omega)]
      exact pay183_one _ _ _
    · rw [if_neg h, dif_pos (by omega)]
      refine (pay183_zero _ _ _).trans ((before_next m c t h _ _).trans ?_)
      congr 1; congr 1; apply Fin.ext; simp only [ix2]; omega
  rw [dif_neg h1]
  by_cases h2 : i.val + 1 + j.val < 272
  · rw [dif_pos h2, dif_pos (by omega)]
    refine (pay182_at _ _ _).trans ((tile_next m c t _ _).trans ?_)
    congr 1; congr 1; apply Fin.ext; simp only [ix2]; omega
  · rw [dif_neg h2]
    by_cases h : nxt t.val % 16 = 15
    · rw [if_pos h, dif_neg (by omega)]
      exact pay183_one _ _ _
    · rw [if_neg h, dif_pos (by omega)]
      refine (pay183_zero _ _ _).trans ((after_next m c t h _ _).trans ?_)
      congr 1; congr 1; apply Fin.ext; simp only [ix2]; omega

theorem tile_conv (t : Fin cfg0.N) (v : Vec Ideal S288x512 .f32) (r : ℕ) (i : Fin 256) (l : Fin 512)
    (h : ∀ (j : Fin 31) (l : Fin 512), entry v (i.val + 1 + j.val) l.val = zAt (fun r l => m ((c : Thread nD τ).loc main_arg2) (ix2 r l)) r j.val l) :
    tileY v (iblk m c 11 t) (iblk m c 12 t) (iblk m c 13 t) (iblk m c 14 t) (ix2 i l) = conv' m c r l := by
  have e : convRow (fun j l => entry v (i.val + 1 + j) l.val) (fun j l => tapAt (iblk m c 11 t) j l.val) (fun l => m ((c : Thread nD τ).loc main_arg7) (ix2 1 l))
      = convRow (zAt (fun r l => m ((c : Thread nD τ).loc main_arg2) (ix2 r l)) r) (wAt (fun j l => m ((c : Thread nD τ).loc main_arg6) (ix4 1 j 0 l)))
        (fun l => m ((c : Thread nD τ).loc main_arg7) (ix2 1 l)) := by
    funext l
    refine congrArg (· + _) (Finset.sum_congr rfl fun j _ => ?_)
    refine congrArg₂ (· * ·) (h j l) ?_
    show tapAt _ _ _ = wAt _ _ _
    rw [tapAt, dif_pos ⟨j.isLt, l.isLt⟩, wAt, dif_pos j.isLt]
    exact cw_read m c t j l
  have e1 : (fun l => (iblk m c 12 t : Vec Ideal S1x1x512 .f32) (ix3 0 0 l)) = _ := funext fun l => cb_read m c t l
  have e2 : (fun l => (iblk m c 13 t : Vec Ideal S1x1x512 .f32) (ix3 0 0 l)) = _ := funext fun l => cg_read m c t l
  have e3 : (fun l => (iblk m c 14 t : Vec Ideal S1x1x512 .f32) (ix3 0 0 l)) = _ := funext fun l => cs_read m c t l
  rw [tileY, e1, e2, e3, conv', convAt, ← e]
  rfl

/-- What a tile's convolution rows are. -/
def convTile (T : ℕ) : Vec Ideal S256x512 .bf16 := fun y => conv' m c (T * 256 + (y 0).val) (y 1)

theorem first_eq (t : Fin cfg0.N) :
    tileY (bufVec (k0_pay2 (iblk m c 5 t)) (k0_pay3 (iblk m c 6 t)) (k0_pay4 (iblk m c 7 t))) (iblk m c 11 t) (iblk m c 12 t) (iblk m c 13 t) (iblk m c 14 t)
      = convTile m c 0 := by
  funext y
  rw [eq_ix2 y]
  refine (tile_conv m c t _ (y 0).val (y 0) (y 1) fun j l => entry_first m c t (y 0) j l).trans ?_
  show _ = conv' m c (0 * 256 + (y 0).val) (y 1)
  rw [Nat.zero_mul, Nat.zero_add]

theorem next_eq (t : Fin cfg0.N) :
    tileY (bufVec (k0_pay181 (grid0.coords t) (iblk m c 8 t)) (k0_pay182 (iblk m c 9 t)) (k0_pay183 (kernelRun0_A.sl.v17 (grid0.coords t)) (iblk m c 10 t)))
      (iblk m c 11 t) (iblk m c 12 t) (iblk m c 13 t) (iblk m c 14 t) = convTile m c (nxt t.val) := by
  funext y
  rw [eq_ix2 y]
  exact tile_conv m c t _ (nxt t.val * 256 + (y 0).val) (y 0) (y 1) fun j l => entry_next m c t (y 0) j l

/-- What the scratch holds after each point. -/
theorem scratch_eq (t : Fin cfg0.N) : (outsAt0 m c t.val t.isLt).2 = convTile m c (nxt t.val) := by
  by_cases h : t.val % 64 = 0
  · rw [outsAt0_A m c t h]
    dsimp only
    rw [scratch_A]
    exact next_eq m c t
  · rw [outsAt0_B m c t h]
    dsimp only
    rw [scratch_B]
    exact next_eq m c t

theorem block_at (t : Fin cfg0.N) (i : Fin 256) (e : Fin 1024) (r : Fin 16384) (hr : r.val = t.val * 256 + i.val) (yb : Vec Ideal S256x512 .bf16) :
    blockOut (iblk m c 0 t) (iblk m c 1 t) (iblk m c 2 t) (iblk m c 3 t) (iblk m c 4 t) (iblk m c 15 t) (iblk m c 16 t) (iblk m c 17 t) (iblk m c 18 t)
      (iblk m c 19 t) (iblk m c 20 t) (iblk m c 21 t) (iblk m c 22 t) (iblk m c 23 t) (iblk m c 24 t) (iblk m c 25 t) (iblk m c 26 t) yb (ix2 i e)
      = rest m c r (fun a => yb (ix2 i a)) e := by
  have ht := t_lt t
  have hlt : t.val * 256 + i.val < 16384 := by have := i.isLt; omega
  obtain rfl : r = ⟨t.val * 256 + i.val, hlt⟩ := Fin.ext hr
  rw [blockOut, tail_at (wg := fun a e => m ((c : Thread nD τ).loc main_arg15) (ix3 1 a e)) (wu := fun a e => m ((c : Thread nD τ).loc main_arg16) (ix3 1 a e))
    (wd := fun a e => m ((c : Thread nD τ).loc main_arg17) (ix3 1 a e))]
  · rw [rest]
    congr 1
    · funext a; exact x_read m c t i a
    · funext a; exact ya_read m c t i a
    · funext a; exact yc_read m c t i a
    · funext a
      refine Eq.trans (congrArg _ ?_) (gate_read m c t i ⟨a.val, by omega⟩)
      funext k; apply Fin.ext; fin_cases k <;> simp [Rect.idx_unit_val]
    · funext a
      refine Eq.trans (congrArg _ ?_) (gate_read m c t i ⟨1024 + a.val, by omega⟩)
      funext k; apply Fin.ext; fin_cases k <;> simp [Rect.idx_unit_val]
    · funext a
      refine Eq.trans (congrArg _ ?_) (gate_read m c t i ⟨2048 + a.val, by omega⟩)
      funext k; apply Fin.ext; fin_cases k <;> simp [Rect.idx_unit_val]
    · funext a e; exact wa_read m c t a e
    · funext a e; exact wb_read m c t a e
    · funext a e; exact wc_read m c t a e
    · funext a e; exact wo_read m c t a e
    · funext a; exact nf_read m c t a
    · funext a; exact np_read m c t a
    · funext a e; exact wp_read m c t a e
    · funext a
      refine (p_read m c t i a).trans ?_
      congr 1
      have e1 : (⟨t.val / 16, by omega⟩ : Fin 4) = ⟨(t.val * 256 + i.val) / 4096, by omega⟩ := by apply Fin.ext; simp only; omega
      have e2 : (⟨t.val % 16 * 256 + i.val, by omega⟩ : Fin 4096) = ⟨(t.val * 256 + i.val) % 4096, by omega⟩ := by apply Fin.ext; simp only; omega
      rw [e1, e2]
    · funext a e; exact wi_read m c t a e
    · funext a; exact nl_read m c t a
  · intro a f
    refine Eq.trans (congrArg _ ?_) (wg_read m c t a ⟨f.val, by omega⟩)
    funext k; apply Fin.ext; fin_cases k <;> simp [Rect.idx_unit_val]
  · intro a f
    refine Eq.trans (congrArg _ ?_) (wu_read m c t a ⟨f.val, by omega⟩)
    funext k; apply Fin.ext; fin_cases k <;> simp [Rect.idx_unit_val]
  · intro f e
    refine Eq.trans (congrArg _ ?_) (wd_read m c t ⟨f.val, by omega⟩ e)
    funext k; apply Fin.ext; fin_cases k <;> simp [Rect.idx_unit_val]
  · intro a f
    refine Eq.trans (congrArg _ ?_) (wg_read m c t a ⟨1536 + f.val, by omega⟩)
    funext k; apply Fin.ext; fin_cases k <;> simp [Rect.idx_unit_val]
  · intro a f
    refine Eq.trans (congrArg _ ?_) (wu_read m c t a ⟨1536 + f.val, by omega⟩)
    funext k; apply Fin.ext; fin_cases k <;> simp [Rect.idx_unit_val]
  · intro f e
    refine Eq.trans (congrArg _ ?_) (wd_read m c t ⟨1536 + f.val, by omega⟩ e)
    funext k; apply Fin.ext; fin_cases k <;> simp [Rect.idx_unit_val]

/-- The block that a point leaves. -/
theorem out_eq (t : Fin cfg0.N) (y : S256x1024.Idx) (r : Fin 16384) (e : Fin 1024) (hr : r.val = t.val * 256 + (y 0).val) (he : e.val = (y 1).val) :
    (outsAt0 m c t.val t.isLt).1 y = rest m c r (conv' m c r.val) e := by
  obtain rfl : e = y 1 := Fin.ext he
  have ht := t_lt t
  have key : ∀ yb : Vec Ideal S256x512 .bf16, yb = convTile m c t.val → (fun a => yb (ix2 (y 0) a)) = conv' m c r.val := by
    rintro yb rfl
    funext a
    rw [hr]
    rfl
  by_cases h : t.val % 64 = 0
  · rw [outsAt0_A m c t h]
    dsimp only
    rw [out_A, eq_ix2 y]
    refine (block_at m c t (y 0) (y 1) r hr _).trans ?_
    rw [key _ ((first_eq m c t).trans (congrArg _ (by omega)))]
    rfl
  · rw [outsAt0_B m c t h]
    dsimp only
    rw [out_B, eq_ix2 y]
    refine (block_at m c t (y 0) (y 1) r hr _).trans ?_
    rw [key _ ((scratch_eq m c ⟨t.val - 1, by omega⟩).trans (congrArg _ (by simp only [nxt]; omega)))]
    rfl

/-- The result, by rows. -/
@[irreducible] def rows : Vec Ideal S16384x1024 .f32 := fun y => rest m c (y 0) (conv' m c (y 0).val) (y 1)

theorem out_rows (t : Fin cfg0.N) (y : S256x1024.Idx) (z : S16384x1024.Idx) (h0 : (z 0).val = t.val * 256 + (y 0).val) (h1 : (z 1).val = (y 1).val) :
    (outsAt0 m c t.val t.isLt).1 y = rows m c z := by
  rw [rows]
  exact out_eq m c t y (z 0) (z 1) h0 h1

theorem array27 : (dats m 0 c).arrAt 27 cfg0.N = rows m c := by
  refine (dats m 0 c).arrAt_eq_of_covers 27 _ (by decide +kernel) fun t hf y => ?_
  have e := idx27 t
  blk_simp
  rw [after0_27]
  refine out_rows m c t y _ ?_ ?_
  · blk_simp [e.1]
  · blk_simp [e.2]

end Cert.Post

end
-- ==== Proof.PostRef.lean ====
/- The reference's result of the last call, row by row. -/
module

public import proofs.«01_k».proof.Proof.PostSpec
public import proofs.«01_k».proof.Proof.Gen.Reference2Ideal.Run
public import Idealize.ShloMosaic.Lib.Pointwise

@[expose] public section

set_option maxRecDepth 16384

noncomputable section

namespace Cert.Post.Ref

open Cert.Proj Cert.Reference2Ideal Cert.Reference2Ideal.Gen Cert.Reference2Ideal.Value Idealize.ShloMosaic Idealize.ShloMosaic.TcCoe Idealize.SL.Sem

variable (V0 : Valuation τ sig (Elt Ideal))

abbrev a0 : Vec Ideal S16384x1024 .f32 := V0 (Proc.devRef .tc main_arg0)
abbrev a1 : Vec Ideal S16384x512 .bf16 := V0 (Proc.devRef .tc main_arg1)
abbrev a2 : Vec Ideal S16384x512 .f32 := V0 (Proc.devRef .tc main_arg2)
abbrev a3 : Vec Ideal S16384x512 .bf16 := V0 (Proc.devRef .tc main_arg3)
abbrev a4 : Vec Ideal S16384x3072 .bf16 := V0 (Proc.devRef .tc main_arg4)
abbrev a5 : Vec Ideal S2x4x4096x256 .f32 := V0 (Proc.devRef .tc main_arg5)
abbrev a6 : Vec Ideal S2x31x1x512 .f32 := V0 (Proc.devRef .tc main_arg6)
abbrev a7 : Vec Ideal S2x512 .f32 := V0 (Proc.devRef .tc main_arg7)
abbrev a8 : Vec Ideal S2x512 .f32 := V0 (Proc.devRef .tc main_arg8)
abbrev a9 : Vec Ideal S2x512 .f32 := V0 (Proc.devRef .tc main_arg9)
abbrev a10 : Vec Ideal S2x512x1024 .f32 := V0 (Proc.devRef .tc main_arg10)
abbrev a11 : Vec Ideal S2x512x1024 .f32 := V0 (Proc.devRef .tc main_arg11)
abbrev a12 : Vec Ideal S2x512x1024 .f32 := V0 (Proc.devRef .tc main_arg12)
abbrev a13 : Vec Ideal S2x1024x1024 .f32 := V0 (Proc.devRef .tc main_arg13)
abbrev a14 : Vec Ideal S2x1024 .f32 := V0 (Proc.devRef .tc main_arg14)
abbrev a15 : Vec Ideal S2x1024x2816 .f32 := V0 (Proc.devRef .tc main_arg15)
abbrev a16 : Vec Ideal S2x1024x2816 .f32 := V0 (Proc.devRef .tc main_arg16)
abbrev a17 : Vec Ideal S2x2816x1024 .f32 := V0 (Proc.devRef .tc main_arg17)
abbrev a18 : Vec Ideal S2x1024 .f32 := V0 (Proc.devRef .tc main_arg18)
abbrev a19 : Vec Ideal S2x256x1024 .f32 := V0 (Proc.devRef .tc main_arg19)
abbrev a20 : Vec Ideal S2x1024x1024 .f32 := V0 (Proc.devRef .tc main_arg20)
abbrev a21 : Vec Ideal S1024 .f32 := V0 (Proc.devRef .tc main_arg21)
abbrev padded : Vec Ideal S4x4126x512 .f32 := res_main_v1 V0
abbrev tapped : Vec Ideal S16384x512 .f32 := res_main_v225 V0
abbrev means : Vec Ideal S16384x1 .f32 := res_main_v229 V0
abbrev centredRows : Vec Ideal S16384x512 .f32 := res_main_v231 V0
abbrev normedRows : Vec Ideal S16384x512 .f32 := res_main_v253 V0
abbrev streamRows : Vec Ideal S16384x1024 .f32 := res_main_v278 V0
abbrev fedIn : Vec Ideal S16384x1024 .f32 := res_main_v293 V0
abbrev gateRows : Vec Ideal S16384x2816 .f32 := res_main_v296 V0
abbrev fedRows : Vec Ideal S16384x1024 .f32 := res_main_v305 V0
abbrev lastRows : Vec Ideal S16384x1024 .f32 := res_main_v337 V0

/-- The sequence of rows, padded with 15 rows of zeros on both sides. -/
theorem padded_at (b : Fin 4) (k : Fin 4126) (l : Fin 512) : padded V0 (ix3 b k l)
    = if h : 15 ≤ k.val ∧ k.val - 15 < 4096 then a2 V0 (ix2 ⟨b.val * 4096 + (k.val - 15), by omega⟩ l) else (0 : EReal) := by
  have e : (FloatOps.sitofp FTy.f32 0#32 : Ideal .f32) = (0 : EReal) := by simp [FloatOps.sitofp]
  unfold padded
  pointwise [res_main_v1]
  rw [← e]

theorem tap_at (r : Fin 16384) (l : Fin 512) (j : ℕ) (hj : j < 31) (hb hk) : padded V0 (ix3 ⟨r.val / 4096, hb⟩ ⟨j + r.val % 4096, hk⟩ l)
    = zAt (fun r l => a2 V0 (ix2 r l)) r.val j l := by
  have := r.isLt
  rw [padded_at, zAt]
  by_cases h : 15 ≤ j + r.val % 4096 ∧ j + r.val % 4096 - 15 < 4096
  · rw [dif_pos h, dif_pos (by omega)]
    congr 1; congr 1; apply Fin.ext; simp only; omega
  · rw [dif_neg h, dif_neg (by omega)]

theorem tap_zero (r : Fin 16384) (l : Fin 512) (hb hk) : padded V0 (ix3 ⟨r.val / 4096, hb⟩ ⟨r.val % 4096, hk⟩ l)
    = zAt (fun r l => a2 V0 (ix2 r l)) r.val 0 l := by
  refine Eq.trans ?_ (tap_at V0 r l 0 (by decide) hb (by rw [Nat.zero_add]; exact hk))
  congr 2; apply Fin.ext; simp only; omega

theorem tapped_at (r : Fin 16384) (l : Fin 512) : tapped V0 (ix2 r l)
    = convRow (zAt (fun r l => a2 V0 (ix2 r l)) r.val) (wAt fun j l => a6 V0 (ix4 1 j 0 l)) (fun l => a7 V0 (ix2 1 l)) l := by
  have e : ∀ f : ℕ → EReal, ∑ j : Fin 31, f j.val = ∑ j ∈ Finset.range 31, f j := fun f => Fin.sum_univ_eq_sum_range f 31
  rw [convRow, e fun j => zAt (fun r l => a2 V0 (ix2 r l)) r.val j l * wAt (fun j l => a6 V0 (ix4 1 j 0 l)) j l]
  simp only [Finset.sum_range_succ, Finset.sum_range_zero, zero_add]
  unfold tapped
  pointwise [res_main_v225, res_main_v212, res_main_v142, res_main_v72]
  simp (disch := decide) only [tap_at V0 r l, tap_zero V0 r l]
  rfl

theorem mean_at (r : Fin 16384) : means V0 (ix2 r 0) = mean (fun l => tapped V0 (ix2 r l)) := by
  unfold means
  pointwise [res_main_v229, mean]

theorem normed_at (r : Fin 16384) (l : Fin 512) : normedRows V0 (ix2 r l)
    = layerNorm (fun l => tapped V0 (ix2 r l)) (fun l => a8 V0 (ix2 1 l)) (fun l => a9 V0 (ix2 1 l)) l := by
  have e := mean_at V0 r
  unfold means at e
  unfold normedRows
  pointwise [res_main_v253, res_main_v231, layerNorm]
  rw [e]
  pointwise [mean]

theorem conv_row (r : Fin 16384) : (fun l => normedRows V0 (ix2 r l) * sigmoid (normedRows V0 (ix2 r l)))
    = convAt (fun r l => a2 V0 (ix2 r l)) (fun j l => a6 V0 (ix4 1 j 0 l)) (fun l => a7 V0 (ix2 1 l)) (fun l => a8 V0 (ix2 1 l)) (fun l => a9 V0 (ix2 1 l)) r.val := by
  funext l
  rw [normed_at, show (fun l => tapped V0 (ix2 r l)) = _ from funext fun l => tapped_at V0 r l]
  rfl

/-- The stream after the output projection. -/
def streamRow (r : Fin 16384) : Fin 1024 → EReal :=
  stream (fun a => a0 V0 (ix2 r a)) (merge (fun a => a1 V0 (ix2 r a)) (fun l => normedRows V0 (ix2 r l) * sigmoid (normedRows V0 (ix2 r l)))
    (fun a => a3 V0 (ix2 r a)) (fun a => a4 V0 (ix2 r ⟨a.val, by omega⟩)) (fun a => a4 V0 (ix2 r ⟨1024 + a.val, by omega⟩))
    (fun a => a4 V0 (ix2 r ⟨2048 + a.val, by omega⟩)) (fun a e => a10 V0 (ix3 1 a e)) (fun a e => a11 V0 (ix3 1 a e)) (fun a e => a12 V0 (ix3 1 a e)))
    (fun a e => a13 V0 (ix3 1 a e))

theorem stream_at (r : Fin 16384) (e : Fin 1024) : streamRows V0 (ix2 r e) = streamRow V0 r e := by
  unfold streamRows
  pointwise [res_main_v278, res_main_v255, streamRow, stream, merge, sigmoid]

theorem fedIn_at (r : Fin 16384) (e : Fin 1024) : fedIn V0 (ix2 r e) = rowNorm (fun a => streamRows V0 (ix2 r a)) (fun a => a14 V0 (ix2 1 a)) e := by
  unfold fedIn
  pointwise [res_main_v293, rowNorm]

theorem fed_at (r : Fin 16384) (e : Fin 1024) : fedRows V0 (ix2 r e)
    = fed (fun a => streamRows V0 (ix2 r a)) (fun a => a14 V0 (ix2 1 a)) (fun a f => a15 V0 (ix3 1 a f)) (fun a f => a16 V0 (ix3 1 a f))
        (fun f e => a17 V0 (ix3 1 f e)) e := by
  have h := fun a => fedIn_at V0 r a
  unfold fedIn at h
  unfold fedRows
  pointwise [res_main_v305, res_main_v296, fed, hidden, sigmoid]
  simp only [h]

theorem embedded_at (r : Fin 16384) (e : Fin 1024) : lastRows V0 (ix2 r e)
    = embedded (fun a => fedRows V0 (ix2 r a)) (fun a => a18 V0 (ix2 1 a)) (fun a e => a20 V0 (ix3 1 a e))
        (fun a => a5 V0 (ix4 1 ⟨r.val / 4096, by omega⟩ ⟨r.val % 4096, by omega⟩ a)) (fun a e => a19 V0 (ix3 1 a e)) e := by
  unfold lastRows
  pointwise [res_main_v337, embedded, rowNorm, sigmoid]

/-- The result. -/
def out (X : FVec Ideal S16384x1024 .f32) (G : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 G))

theorem out_at (X : FVec Ideal S16384x1024 .f32) (G : FVec Ideal S1024 .f32) (r : Fin 16384) (e : Fin 1024) :
    out X G (ix2 r e) = rowNorm (fun a => X (ix2 r a)) (fun a => G (ix1 a)) e := by
  pointwise [out, rowNorm]

/-- A row of the result. -/
theorem row_at (r : Fin 16384) (e : Fin 1024) : out (lastRows V0) (a21 V0) (ix2 r e)
    = lastRow (fun a => a0 V0 (ix2 r a)) (fun a => a1 V0 (ix2 r a))
        (convAt (fun r l => a2 V0 (ix2 r l)) (fun j l => a6 V0 (ix4 1 j 0 l)) (fun l => a7 V0 (ix2 1 l)) (fun l => a8 V0 (ix2 1 l)) (fun l => a9 V0 (ix2 1 l)) r.val)
        (fun a => a3 V0 (ix2 r a)) (fun a => a4 V0 (ix2 r ⟨a.val, by omega⟩)) (fun a => a4 V0 (ix2 r ⟨1024 + a.val, by omega⟩))
        (fun a => a4 V0 (ix2 r ⟨2048 + a.val, by omega⟩)) (fun a e => a10 V0 (ix3 1 a e)) (fun a e => a11 V0 (ix3 1 a e)) (fun a e => a12 V0 (ix3 1 a e))
        (fun a e => a13 V0 (ix3 1 a e)) (fun a => a14 V0 (ix2 1 a)) (fun a f => a15 V0 (ix3 1 a f)) (fun a f => a16 V0 (ix3 1 a f))
        (fun f e => a17 V0 (ix3 1 f e)) (fun a => a18 V0 (ix2 1 a)) (fun a e => a20 V0 (ix3 1 a e))
        (fun a => a5 V0 (ix4 1 ⟨r.val / 4096, by omega⟩ ⟨r.val % 4096, by omega⟩ a)) (fun a e => a19 V0 (ix3 1 a e)) (fun a => a21 V0 (ix1 a)) e := by
  rw [out_at, show (fun a => lastRows V0 (ix2 r a)) = _ from funext fun a => embedded_at V0 r a,
    show (fun a => fedRows V0 (ix2 r a)) = _ from funext fun a => fed_at V0 r a,
    show (fun a => streamRows V0 (ix2 r a)) = _ from funext fun a => stream_at V0 r a,
    show streamRow V0 r = _ from rfl, streamRow, conv_row]
  rfl

end Cert.Post.Ref

end
-- ==== Proof.PostEqual.lean ====
/- The last call's kernel and reference leave the same array. -/
module

public import proofs.«01_k».proof.Defs
public import proofs.«01_k».proof.Proof.PostRun
public import proofs.«01_k».proof.Proof.PostArray
public import proofs.«01_k».proof.Proof.PostRef
public import Idealize.ShloMosaic.Adequacy
public import Idealize.ShloMosaic.Init

@[expose] public section

set_option maxRecDepth 16384

noncomputable section

namespace Cert.Post

open Idealize.ShloMosaic Idealize.SL.Sem

/-- An array of rows is known by its entries. -/
theorem rows_ext {n0 n1 : ℕ} (u v : (⟨2, ![n0, n1]⟩ : Shape).Idx → EReal) (h : ∀ (i : Fin n0) (j : Fin n1), u (ix2 i j) = v (ix2 i j)) : u = v := by
  funext y; rw [eq_ix2 y]; exact h _ _

/-- The kernel and the reference of the last call leave the same array when their arguments agree. -/
theorem same : Cert.algebraic_Kernel2Ideal_Reference2Ideal (hKernel2Ideal := Cert.Kernel2Ideal.Gen.facts)
    (hReference2Ideal := Cert.Reference2Ideal.Gen.facts) := by
  intro m g m' g' hpre hagree
  refine ⟨_, Cert.Kernel2Ideal.Value.run_blocks m g, ?_⟩
  refine (θ_run _ _ _).mono (fun r h c => ?_) (Cert.Reference2Ideal.Value.run m' g')
  obtain ⟨e0, e1, e2, e3, e4, e5, e6, e7, e8, e9, e10, e11, e12, e13, e14, e15, e16, e17, e18, e19, e20, e21⟩ := hagree c
  obtain ⟨h0, hk⟩ := h c
  refine ⟨h0.trans ?_, hk⟩
  rw [array27]
  refine rows_ext _ _ fun r e => ?_
  have f0 : Ref.a0 (StableHlo.launchContents m' c) = m ((c.tc : Thread Cert.Kernel2Ideal.nD Cert.Kernel2Ideal.τ).loc Cert.Kernel2Ideal.main_arg0) := e0
  have f1 : Ref.a1 (StableHlo.launchContents m' c) = m ((c.tc : Thread Cert.Kernel2Ideal.nD Cert.Kernel2Ideal.τ).loc Cert.Kernel2Ideal.main_arg1) := e1
  have f2 : Ref.a2 (StableHlo.launchContents m' c) = m ((c.tc : Thread Cert.Kernel2Ideal.nD Cert.Kernel2Ideal.τ).loc Cert.Kernel2Ideal.main_arg2) := e2
  have f3 : Ref.a3 (StableHlo.launchContents m' c) = m ((c.tc : Thread Cert.Kernel2Ideal.nD Cert.Kernel2Ideal.τ).loc Cert.Kernel2Ideal.main_arg3) := e3
  have f4 : Ref.a4 (StableHlo.launchContents m' c) = m ((c.tc : Thread Cert.Kernel2Ideal.nD Cert.Kernel2Ideal.τ).loc Cert.Kernel2Ideal.main_arg4) := e4
  have f5 : Ref.a5 (StableHlo.launchContents m' c) = m ((c.tc : Thread Cert.Kernel2Ideal.nD Cert.Kernel2Ideal.τ).loc Cert.Kernel2Ideal.main_arg5) := e5
  have f6 : Ref.a6 (StableHlo.launchContents m' c) = m ((c.tc : Thread Cert.Kernel2Ideal.nD Cert.Kernel2Ideal.τ).loc Cert.Kernel2Ideal.main_arg6) := e6
  have f7 : Ref.a7 (StableHlo.launchContents m' c) = m ((c.tc : Thread Cert.Kernel2Ideal.nD Cert.Kernel2Ideal.τ).loc Cert.Kernel2Ideal.main_arg7) := e7
  have f8 : Ref.a8 (StableHlo.launchContents m' c) = m ((c.tc : Thread Cert.Kernel2Ideal.nD Cert.Kernel2Ideal.τ).loc Cert.Kernel2Ideal.main_arg8) := e8
  have f9 : Ref.a9 (StableHlo.launchContents m' c) = m ((c.tc : Thread Cert.Kernel2Ideal.nD Cert.Kernel2Ideal.τ).loc Cert.Kernel2Ideal.main_arg9) := e9
  have f10 : Ref.a10 (StableHlo.launchContents m' c) = m ((c.tc : Thread Cert.Kernel2Ideal.nD Cert.Kernel2Ideal.τ).loc Cert.Kernel2Ideal.main_arg10) := e10
  have f11 : Ref.a11 (StableHlo.launchContents m' c) = m ((c.tc : Thread Cert.Kernel2Ideal.nD Cert.Kernel2Ideal.τ).loc Cert.Kernel2Ideal.main_arg11) := e11
  have f12 : Ref.a12 (StableHlo.launchContents m' c) = m ((c.tc : Thread Cert.Kernel2Ideal.nD Cert.Kernel2Ideal.τ).loc Cert.Kernel2Ideal.main_arg12) := e12
  have f13 : Ref.a13 (StableHlo.launchContents m' c) = m ((c.tc : Thread Cert.Kernel2Ideal.nD Cert.Kernel2Ideal.τ).loc Cert.Kernel2Ideal.main_arg13) := e13
  have f14 : Ref.a14 (StableHlo.launchContents m' c) = m ((c.tc : Thread Cert.Kernel2Ideal.nD Cert.Kernel2Ideal.τ).loc Cert.Kernel2Ideal.main_arg14) := e14
  have f15 : Ref.a15 (StableHlo.launchContents m' c) = m ((c.tc : Thread Cert.Kernel2Ideal.nD Cert.Kernel2Ideal.τ).loc Cert.Kernel2Ideal.main_arg15) := e15
  have f16 : Ref.a16 (StableHlo.launchContents m' c) = m ((c.tc : Thread Cert.Kernel2Ideal.nD Cert.Kernel2Ideal.τ).loc Cert.Kernel2Ideal.main_arg16) := e16
  have f17 : Ref.a17 (StableHlo.launchContents m' c) = m ((c.tc : Thread Cert.Kernel2Ideal.nD Cert.Kernel2Ideal.τ).loc Cert.Kernel2Ideal.main_arg17) := e17
  have f18 : Ref.a18 (StableHlo.launchContents m' c) = m ((c.tc : Thread Cert.Kernel2Ideal.nD Cert.Kernel2Ideal.τ).loc Cert.Kernel2Ideal.main_arg18) := e18
  have f19 : Ref.a19 (StableHlo.launchContents m' c) = m ((c.tc : Thread Cert.Kernel2Ideal.nD Cert.Kernel2Ideal.τ).loc Cert.Kernel2Ideal.main_arg19) := e19
  have f20 : Ref.a20 (StableHlo.launchContents m' c) = m ((c.tc : Thread Cert.Kernel2Ideal.nD Cert.Kernel2Ideal.τ).loc Cert.Kernel2Ideal.main_arg20) := e20
  have f21 : Ref.a21 (StableHlo.launchContents m' c) = m ((c.tc : Thread Cert.Kernel2Ideal.nD Cert.Kernel2Ideal.τ).loc Cert.Kernel2Ideal.main_arg21) := e21
  refine (Ref.row_at (StableHlo.launchContents m' c) r e).trans ?_
  rw [f0, f1, f2, f3, f4, f5, f6, f7, f8, f9, f10, f11, f12, f13, f14, f15, f16, f17, f18, f19, f20, f21, rows]
  rfl

/-- The last call's reference runs, keeps its arguments and leaves every counter at zero: it declares none. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

end Cert.Post

end
-- ==== Proof.lean ====
/- The certificate, for three calls of the layer: each printed kernel and its real-number reading run safely and clean up, the second
   is the first read over the extended reals, and it leaves the arrays that the plain reference computes: the attention's on
   finite arguments, the others' on any. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame.Runs
public import proofs.«01_k».proof.Proof.Gen.Kernel2.Frame.RunA
public import proofs.«01_k».proof.Proof.Gen.Kernel2.Frame.RunB
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.Runs
public import proofs.«01_k».proof.Proof.Gen.Kernel2Ideal.Frame.RunA
public import proofs.«01_k».proof.Proof.Gen.Kernel2Ideal.Frame.RunB
public import proofs.«01_k».proof.Proof.Gen.Reference2Ideal
public import proofs.«01_k».proof.Proof.Gen.Reference2Ideal.Run
public import proofs.«01_k».proof.Proof.PostFrame
public import proofs.«01_k».proof.Proof.PostFrameBits
public import proofs.«01_k».proof.Proof.Equal
public import proofs.«01_k».proof.Proof.ProjEqual
public import proofs.«01_k».proof.Proof.PostEqual
public import Idealize.ShloMosaic.Adequacy
public import Idealize.ShloMosaic.Init

@[expose] public section

noncomputable section

namespace Cert.Proof

open Idealize.ShloMosaic Idealize.SL.Sem Cert.Kernel

/-- The kernel and the reference leave the same array when their arguments agree and are finite. -/
theorem same [hPre : Cert.Pre_finite.Facts] : Cert.algebraic_KernelIdeal_ReferenceIdeal_pre_finite (hKernelIdeal := Cert.KernelIdeal.Gen.facts)
    (hReferenceIdeal := Cert.ReferenceIdeal.Gen.facts) (hPre_finite := hPre) := by
  intro m g m' g' hpre hagree
  refine ⟨fun c => (Cert.KernelIdeal.Gen.dats m 0 c).arrAt 8 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨e0, e1, e2, e3, e4, e5, e6, e7⟩ := hagree c
  refine (Cert.Attn.Ref.stages m' c).trans ?_
  rw [e0, e1, e2, e3, e4, e5, e6, e7]
  exact Cert.Attn.same_array m c (hpre c)

/-- The reference runs, keeps its arguments and leaves every counter at zero: it declares none. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => frame_reference m ρ trivial, fun m ρ _ => frame_reference m ρ trivial,
    fun m ρ _ => Cert.Kernel2.Gen.frame m ρ, fun m ρ _ => Cert.Kernel2Ideal.Gen.frame m ρ, Cert.Post.frame_reference,
    fun m ρ _ => Cert.Kernel3.Gen.frame m ρ, fun m ρ _ => Cert.Kernel3Ideal.Gen.frame m ρ, Cert.Proj.frame_reference,
    trivial, same, IdealRules.shift_out.by16TwiceStatement _, Cert.Post.same, trivial, Cert.Proj.same⟩

end Cert.Proof

end
